-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonneg [hPre_nonneg : Cert.Pre_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_nonneg.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonneg [hPre_nonneg : Cert.Pre_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonneg.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_nonneg [hKernelIdeal : Cert.KernelIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_nonneg [hReferenceIdeal : Cert.ReferenceIdeal.Facts] [hPre_nonneg : Cert.Pre_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "dead" .f32 0xF149F2CA#32 ⊥
  ∧ IdealRules.named_const.Statement Cert.KernelIdeal.κ "padding" .f32 0xFF61B1E6#32 ⊥

def algebraic_KernelIdeal_ReferenceIdeal_pre_nonneg [hKernelIdeal : Cert.KernelIdeal.Facts] [hReferenceIdeal : Cert.ReferenceIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_nonneg : Cert.Pre_nonneg.Facts),
    quiescent_Kernel (hKernel := hKernel)
    ∧ quiescent_KernelIdeal (hKernelIdeal := hKernelIdeal)
    ∧ quiescent_KernelIdeal_pre_nonneg (hKernelIdeal := hKernelIdeal) (hPre_nonneg := hPre_nonneg)
    ∧ quiescent_ReferenceIdeal (hReferenceIdeal := hReferenceIdeal)
    ∧ quiescent_ReferenceIdeal_pre_nonneg (hReferenceIdeal := hReferenceIdeal) (hPre_nonneg := hPre_nonneg)
    ∧ preserves_Kernel_KernelIdeal
    ∧ algebraic_KernelIdeal_ReferenceIdeal_pre_nonneg (hKernelIdeal := hKernelIdeal) (hReferenceIdeal := hReferenceIdeal) (hPre_nonneg := hPre_nonneg)
-- ==== Pre_nonneg.lean ====
abbrev S64x64x96 : Shape := ⟨3, ![64, 64, 96]⟩
abbrev S_ : Shape := ⟨0, ![]⟩

class Facts : Prop where
  bcast_S_S64x64x96 : S_.BroadcastsInDim S64x64x96 (![] : Fin 0 → Fin S64x64x96.rank)
  reducesTo_S64x64x96_S_d0_1_2 : S64x64x96.ReducesTo [0, 1, 2] S_
  h_S_ : 0 < S_.numel

variable [Facts]

def fn {F : FTy → Type} [FloatOps F] (main_arg0 : FVec F S64x64x96 .f32) : IVec S_ 1 :=
  let main_cst : FVec F S_ .f32 := constant S_ .f32 0x00000000#32
  let main_v0 : FVec F S64x64x96 .f32 := broadcastInDim S64x64x96 ![] bcast_S_S64x64x96 main_cst
  let main_v1 : IVec S64x64x96 1 := cmpf .oge main_arg0 main_v0
  let main_c : IVec S_ 1 := constantI S_ 1 1#1
  let main_v2 : IVec S_ 1 := (fun x v => Host.reduce IntOp.andi x v reducesTo_S64x64x96_S_d0_1_2 h_S_) main_v1 main_c
  main_v2
-- ==== Kernel.lean ====
abbrev S64x64x96 : Shape := ⟨3, ![64, 64, 96]⟩
abbrev S64x64 : Shape := ⟨2, ![64, 64]⟩
abbrev S64x1 : Shape := ⟨2, ![64, 1]⟩
abbrev S64x100x128 : Shape := ⟨3, ![64, 100, 128]⟩
abbrev S64x64x100 : Shape := ⟨3, ![64, 64, 100]⟩
abbrev S24x64x100 : Shape := ⟨3, ![24, 64, 100]⟩
abbrev S64x100 : Shape := ⟨2, ![64, 100]⟩
abbrev S64x100x96 : Shape := ⟨3, ![64, 100, 96]⟩
abbrev S64x100x100 : Shape := ⟨3, ![64, 100, 100]⟩
abbrev S1x64x96 : Shape := ⟨3, ![1, 64, 96]⟩
abbrev S64x96 : Shape := ⟨2, ![64, 96]⟩
abbrev S64 : Shape := ⟨1, ![64]⟩
abbrev S64x100x1 : Shape := ⟨3, ![64, 100, 1]⟩
abbrev S64x1x96 : Shape := ⟨3, ![64, 1, 96]⟩
abbrev S64x100x31 : Shape := ⟨3, ![64, 100, 31]⟩
abbrev S1x64x100 : Shape := ⟨3, ![1, 64, 100]⟩
abbrev S64x1x128 : Shape := ⟨3, ![64, 1, 128]⟩
abbrev S64x128 : Shape := ⟨2, ![64, 128]⟩
abbrev S1x64x1 : Shape := ⟨3, ![1, 64, 1]⟩
abbrev S1 : Shape := ⟨1, ![1]⟩
abbrev S1x1x1 : Shape := ⟨3, ![1, 1, 1]⟩
abbrev S64x1x1 : Shape := ⟨3, ![64, 1, 1]⟩
abbrev S64x1x100 : Shape := ⟨3, ![64, 1, 100]⟩
abbrev S64x64x64 : Shape := ⟨3, ![64, 64, 64]⟩
abbrev S64x1x64 : Shape := ⟨3, ![64, 1, 64]⟩

abbrev nBuf : Space → Nat
  | .hbm => 4
  | .vmem => 8
  | .smem => 0
  | _ => 0

abbrev bufTy : (tb : Table) → Fin (tcTables nBuf tb) → BufTy
  | .hbm, ⟨0, _⟩ => ⟨S64x64x96, .f32⟩
  | .hbm, ⟨1, _⟩ => ⟨S64x64x96, .f32⟩
  | .hbm, ⟨2, _⟩ => ⟨S64x64, .i32⟩
  | .hbm, ⟨3, _⟩ => ⟨S64x1, .f32⟩
  | .local _ .vmem, ⟨0, _⟩ => ⟨S64x64x96, .f32⟩
  | .local _ .vmem, ⟨1, _⟩ => ⟨S64x64, .i32⟩
  | .local _ .vmem, ⟨2, _⟩ => ⟨S64x1, .f32⟩
  | .local _ .vmem, ⟨3, _⟩ => ⟨S64x100x128, .f32⟩
  | .local _ .vmem, ⟨4, _⟩ => ⟨S64x64x100, .i32⟩
  | .local _ .vmem, ⟨5, _⟩ => ⟨S64x64x100, .i32⟩
  | .local _ .vmem, ⟨6, _⟩ => ⟨S24x64x100, .f32⟩
  | .local _ .vmem, ⟨7, _⟩ => ⟨S24x64x100, .i32⟩
  | _, _ => ⟨S64x64x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_2 : BitVec 32 := 0#32
  let c64_i32 : BitVec 32 := 64#32
  let v12 : BitVec 32 := Scalar.addi c0_i32_2 c64_i32
  let c1_i32 : BitVec 32 := 1#32
  ⟨c0_i32_2, v12, c1_i32⟩
def k0_off1 (k0_t1 : Fin k0_t1_loop.trips) : Fin 3 → Nat :=
  let c0_i32_2 : BitVec 32 := 0#32
  let c1_i32 : BitVec 32 := 1#32
  let arg8 : BitVec 32 := Scf.iv c0_i32_2 c1_i32 k0_t1
  let v52 : Index := Scalar.indexCast arg8
  let c0_19 : Index := 0#32
  let c0_20 : Index := 0#32
  ![v52.toNat, 0, 0]
def k0_cond1 (k0_t1 : Fin k0_t1_loop.trips) : BitVec 1 :=
  let c0_i32_2 : BitVec 32 := 0#32
  let c1_i32 : BitVec 32 := 1#32
  let arg8 : BitVec 32 := Scf.iv c0_i32_2 c1_i32 k0_t1
  let c0_i32_251 : BitVec 32 := 0#32
  let v553 : BitVec 1 := Scalar.cmpi .eq arg8 c0_i32_251
  let v554 : BitVec 32 := Scalar.extui v553
  let c0_i32_252 : BitVec 32 := 0#32
  let v555 : BitVec 1 := Scalar.cmpi .ne v554 c0_i32_252
  v555

@[reducible] def k0_t2_loop : Scf.Loop 32 :=
  let c0_i32_266 : BitVec 32 := 0#32
  let c96_i32 : BitVec 32 := 96#32
  let v599 : BitVec 32 := Scalar.addi c0_i32_266 c96_i32
  let c1_i32_267 : BitVec 32 := 1#32
  ⟨c0_i32_266, v599, c1_i32_267⟩
@[reducible] def k0_t3_loop : Scf.Loop 32 :=
  let c0_i32_267 : BitVec 32 := 0#32
  let c100_i32 : BitVec 32 := 100#32
  let v597 : BitVec 32 := Scalar.addi c0_i32_267 c100_i32
  let c1_i32_268 : BitVec 32 := 1#32
  ⟨c0_i32_267, v597, c1_i32_268⟩
def k0_off2 (k0_t1 : Fin k0_t1_loop.trips) : Fin 3 → Nat :=
  let c0_i32_2 : BitVec 32 := 0#32
  let c1_i32 : BitVec 32 := 1#32
  let arg8 : BitVec 32 := Scf.iv c0_i32_2 c1_i32 k0_t1
  let v587 : Index := Scalar.indexCast arg8
  let c0_262 : Index := 0#32
  let c0_263 : Index := 0#32
  ![v587.toNat, 0, 0]
@[reducible] def k0_t4_loop : Scf.Loop 32 :=
  let c0_i32_9 : BitVec 32 := 0#32
  let c64_i32_10 : BitVec 32 := 64#32
  let v31 : BitVec 32 := Scalar.addi c0_i32_9 c64_i32_10
  let c1_i32_11 : BitVec 32 := 1#32
  ⟨c0_i32_9, v31, c1_i32_11⟩
def k0_off3 (k0_t4 : Fin k0_t4_loop.trips) : Fin 3 → Nat :=
  let c63_i32 : BitVec 32 := 63#32
  let c0_i32_9 : BitVec 32 := 0#32
  let c1_i32_11 : BitVec 32 := 1#32
  let arg8 : BitVec 32 := Scf.iv c0_i32_9 c1_i32_11 k0_t4
  let v52 : BitVec 32 := Scalar.subi c63_i32 arg8
  let v53 : Index := Scalar.indexCast v52
  let c0_19 : Index := 0#32
  let c0_20 : Index := 0#32
  ![v53.toNat, 0, 0]
abbrev stage0_0 : Fin 1 → Memref sig .tc .vmem S64x64x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "dead" => some ⊥
  | "padding" => some ⊥
  | _ => none
-- ==== ReferenceIdeal.lean ====
abbrev S64x64x96 : Shape := ⟨3, ![64, 64, 96]⟩
abbrev S_ : Shape := ⟨0, ![]⟩
abbrev S96 : Shape := ⟨1, ![96]⟩
abbrev S64x100x64 : Shape := ⟨3, ![64, 100, 64]⟩
abbrev S64x100 : Shape := ⟨2, ![64, 100]⟩
abbrev S100 : Shape := ⟨1, ![100]⟩
abbrev S1x100 : Shape := ⟨2, ![1, 100]⟩
abbrev S64x1x96 : Shape := ⟨3, ![64, 1, 96]⟩
abbrev S64x96 : Shape := ⟨2, ![64, 96]⟩
abbrev S64x100x1 : Shape := ⟨3, ![64, 100, 1]⟩
abbrev S64x100x1x1 : Shape := ⟨4, ![64, 100, 1, 1]⟩
abbrev S64x1 : Shape := ⟨2, ![64, 1]⟩
abbrev S64 : Shape := ⟨1, ![64]⟩
abbrev S1x1x96 : Shape := ⟨3, ![1, 1, 96]⟩
abbrev S64x100x96 : Shape := ⟨3, ![64, 100, 96]⟩
abbrev S64x9600 : Shape := ⟨2, ![64, 9600]⟩
abbrev S64x9700 : Shape := ⟨2, ![64, 9700]⟩
abbrev S1x1x64 : Shape := ⟨3, ![1, 1, 64]⟩
abbrev S64x1x64 : Shape := ⟨3, ![64, 1, 64]⟩
abbrev S64x64 : Shape := ⟨2, ![64, 64]⟩

abbrev nBuf : Space → Nat
  | .hbm => 267
  | .vmem => 0
  | .smem => 0
  | _ => 0

abbrev hbmTy0_0 (i : Nat) : BufTy := match i % 128 with
  | 0 => ⟨S64x64x96, .f32⟩
  | 1 => ⟨S_, .f32⟩
  | 2 => ⟨S64x64x96, .f32⟩
  | 3 => ⟨S64x64x96, .f32⟩
  | 4 => ⟨S64x64x96, .f32⟩
  | 5 => ⟨S96, .i32⟩
  | 6 => ⟨S_, .i32⟩
  | 7 => ⟨S64x100x64, .i32⟩
  | 8 => ⟨S_, .i32⟩
  | 9 => ⟨S64x100, .i32⟩
  | 10 => ⟨S100, .i32⟩
  | 11 => ⟨S1x100, .i32⟩
  | 12 => ⟨S_, .i32⟩
  | 13 => ⟨S1x100, .i32⟩
  | 14 => ⟨S1x100, .i1⟩
  | 15 => ⟨S_, .f32⟩
  | 16 => ⟨S64x100, .f32⟩
  | 17 => ⟨S_, .f32⟩
  | 18 => ⟨S_, .f32⟩
  | 19 => ⟨S64x100, .i1⟩
  | 20 => ⟨S64x100, .f32⟩
  | 21 => ⟨S64x100, .f32⟩
  | 22 => ⟨S_, .f32⟩
  | 23 => ⟨S64x100, .f32⟩
  | 24 => ⟨S_, .i32⟩
  | 25 => ⟨S_, .i32⟩
  | 26 => ⟨S64x64x96, .f32⟩
  | 27 => ⟨S96, .i32⟩
  | 28 => ⟨S_, .i32⟩
  | 29 => ⟨S_, .i32⟩
  | 30 => ⟨S64x100x64, .i32⟩
  | 31 => ⟨S64x100, .i32⟩
  | 32 => ⟨S64x100, .f32⟩
  | 33 => ⟨S64x100, .f32⟩
  | 34 => ⟨S_, .i32⟩
  | 35 => ⟨S_, .i1⟩
  | 36 => ⟨S_, .i32⟩
  | 37 => ⟨S_, .i32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S_, .i32⟩
  | 58 => ⟨S_, .i32⟩
  | 59 => ⟨S_, .i32⟩
  | 60 => ⟨S64x1x96, .f32⟩
  | 61 => ⟨S64x96, .f32⟩
  | 62 => ⟨S_, .i32⟩
  | 63 => ⟨S64x100, .i32⟩
  | 64 => ⟨S64x100, .i1⟩
  | 65 => ⟨S_, .i32⟩
  | 66 => ⟨S64x100, .i32⟩
  | 67 => ⟨S64x100, .i32⟩
  | 68 => ⟨S_, .i32⟩
  | 69 => ⟨S64x100, .i32⟩
  | 70 => ⟨S64x100, .i32⟩
  | 71 => ⟨S64x100x1, .i32⟩
  | 72 => ⟨S_, .i32⟩
  | 73 => ⟨S64x100x1, .i32⟩
  | 74 => ⟨S64x100x1, .i1⟩
  | 75 => ⟨S_, .i32⟩
  | 76 => ⟨S64x100x1, .i32⟩
  | 77 => ⟨S64x100x1, .i32⟩
  | 78 => ⟨S64x100x1, .i32⟩
  | 79 => ⟨S64x100x1x1, .i32⟩
  | 80 => ⟨S64x100x1, .i32⟩
  | 81 => ⟨S64x100, .i32⟩
  | 82 => ⟨S_, .i32⟩
  | 83 => ⟨S_, .i32⟩
  | 84 => ⟨S64x100, .i32⟩
  | 85 => ⟨S64x100, .i32⟩
  | 86 => ⟨S64x100, .f32⟩
  | 87 => ⟨S64x100, .f32⟩
  | 88 => ⟨S64x100, .i1⟩
  | 89 => ⟨S64x100, .f32⟩
  | 90 => ⟨S64x100, .f32⟩
  | 91 => ⟨S64x100, .f32⟩
  | 92 => ⟨S64x100, .f32⟩
  | 93 => ⟨S64x100, .f32⟩
  | 94 => ⟨S64x100, .f32⟩
  | 95 => ⟨S64x100, .f32⟩
  | 96 => ⟨S64x1, .f32⟩
  | 97 => ⟨S64, .f32⟩
  | 98 => ⟨S64x1, .f32⟩
  | 99 => ⟨S64x100, .f32⟩
  | 100 => ⟨S64x100, .f32⟩
  | 101 => ⟨S_, .i32⟩
  | 102 => ⟨S64x100, .i32⟩
  | 103 => ⟨S64x100, .i32⟩
  | 104 => ⟨S_, .i32⟩
  | 105 => ⟨S64x100, .i32⟩
  | 106 => ⟨S64x100, .i1⟩
  | 107 => ⟨S_, .i32⟩
  | 108 => ⟨S64x100, .i32⟩
  | 109 => ⟨S64x100, .i32⟩
  | 110 => ⟨S64x100, .i32⟩
  | 111 => ⟨S64x100x1, .i32⟩
  | 112 => ⟨S64x100, .f32⟩
  | 113 => ⟨S_, .i32⟩
  | 114 => ⟨S64x100, .i32⟩
  | 115 => ⟨S64x100, .i1⟩
  | 116 => ⟨S64x100, .f32⟩
  | 117 => ⟨S_, .f32⟩
  | 118 => ⟨S_, .f32⟩
  | 119 => ⟨S64x100, .f32⟩
  | 120 => ⟨S64x100, .f32⟩
  | 121 => ⟨S1x1x96, .i32⟩
  | 122 => ⟨S64x100x1, .i32⟩
  | 123 => ⟨S64x100x96, .i32⟩
  | 124 => ⟨S64x100x96, .i32⟩
  | 125 => ⟨S64x100x96, .i1⟩
  | 126 => ⟨S64x100x1, .f32⟩
  | 127 => ⟨S64x100x1, .f32⟩
  | _ => ⟨S64x64x96, .f32⟩

abbrev hbmTy0_1 (i : Nat) : BufTy := match i % 128 with
  | 0 => ⟨S64x100x96, .f32⟩
  | 1 => ⟨S64x100x96, .f32⟩
  | 2 => ⟨S64x100x96, .f32⟩
  | 3 => ⟨S1x1x96, .i32⟩
  | 4 => ⟨S_, .i32⟩
  | 5 => ⟨S1x1x96, .i32⟩
  | 6 => ⟨S1x1x96, .i1⟩
  | 7 => ⟨S64x1x96, .f32⟩
  | 8 => ⟨S64x100x96, .f32⟩
  | 9 => ⟨S64x100x96, .f32⟩
  | 10 => ⟨S_, .f32⟩
  | 11 => ⟨S_, .f32⟩
  | 12 => ⟨S64x100x96, .i1⟩
  | 13 => ⟨S64x100x96, .f32⟩
  | 14 => ⟨S64x100x96, .f32⟩
  | 15 => ⟨S64x100, .f32⟩
  | 16 => ⟨S64x100, .f32⟩
  | 17 => ⟨S64x100, .i1⟩
  | 18 => ⟨S64x100, .f32⟩
  | 19 => ⟨S64x100, .f32⟩
  | 20 => ⟨S64x100, .f32⟩
  | 21 => ⟨S64x100, .f32⟩
  | 22 => ⟨S64x100, .f32⟩
  | 23 => ⟨S64x100, .f32⟩
  | 24 => ⟨S64x100, .f32⟩
  | 25 => ⟨S64x9600, .f32⟩
  | 26 => ⟨S64x9700, .f32⟩
  | 27 => ⟨S64x100, .f32⟩
  | 28 => ⟨S64x100, .i32⟩
  | 29 => ⟨S_, .i32⟩
  | 30 => ⟨S64x100, .i32⟩
  | 31 => ⟨S64x100, .i1⟩
  | 32 => ⟨S_, .i32⟩
  | 33 => ⟨S64x100, .i32⟩
  | 34 => ⟨S64x100, .i32⟩
  | 35 => ⟨S_, .i32⟩
  | 36 => ⟨S64x100, .i32⟩
  | 37 => ⟨S64x100, .i32⟩
  | 38 => ⟨S64x100, .i32⟩
  | 39 => ⟨S_, .i32⟩
  | 40 => ⟨S64x100, .i32⟩
  | 41 => ⟨S64x100, .i32⟩
  | 42 => ⟨S_, .i32⟩
  | 43 => ⟨S64x100, .i32⟩
  | 44 => ⟨S64x100, .i32⟩
  | 45 => ⟨S_, .i32⟩
  | 46 => ⟨S_, .i32⟩
  | 47 => ⟨S64x100, .i32⟩
  | 48 => ⟨S64x100, .i32⟩
  | 49 => ⟨S64x100x1, .i32⟩
  | 50 => ⟨S_, .i32⟩
  | 51 => ⟨S64x100x1, .i32⟩
  | 52 => ⟨S64x100x1, .i1⟩
  | 53 => ⟨S_, .i32⟩
  | 54 => ⟨S64x100x1, .i32⟩
  | 55 => ⟨S64x100x1, .i32⟩
  | 56 => ⟨S64x100x1, .i32⟩
  | 57 => ⟨S64x100x64, .i32⟩
  | 58 => ⟨S_, .i32⟩
  | 59 => ⟨S64x100, .i32⟩
  | 60 => ⟨S64x100, .i1⟩
  | 61 => ⟨S_, .i32⟩
  | 62 => ⟨S64x100, .i32⟩
  | 63 => ⟨S64x100, .i32⟩
  | 64 => ⟨S64x100, .i32⟩
  | 65 => ⟨S64x100x1, .i32⟩
  | 66 => ⟨S64x100, .i32⟩
  | 67 => ⟨S64, .i32⟩
  | 68 => ⟨S1x1x64, .i32⟩
  | 69 => ⟨S64x100x1, .i32⟩
  | 70 => ⟨S64x100x64, .i32⟩
  | 71 => ⟨S64x100x64, .i32⟩
  | 72 => ⟨S64x100x64, .i1⟩
  | 73 => ⟨S64x100, .i1⟩
  | 74 => ⟨S64x100x1, .i1⟩
  | 75 => ⟨S64x100x64, .i1⟩
  | 76 => ⟨S64x100x64, .i1⟩
  | 77 => ⟨S64x100x1, .i32⟩
  | 78 => ⟨S64x100x64, .i32⟩
  | 79 => ⟨S64x100x64, .i32⟩
  | 80 => ⟨S_, .i32⟩
  | 81 => ⟨S64x100, .i32⟩
  | 82 => ⟨S64x100, .i32⟩
  | 83 => ⟨S64x100, .i32⟩
  | 84 => ⟨S_, .i32⟩
  | 85 => ⟨S64x100, .i32⟩
  | 86 => ⟨S64x100, .i1⟩
  | 87 => ⟨S_, .i32⟩
  | 88 => ⟨S64x100, .i32⟩
  | 89 => ⟨S64x100, .i32⟩
  | 90 => ⟨S64x100, .i32⟩
  | 91 => ⟨S64x100x1, .i32⟩
  | 92 => ⟨S64x100, .f32⟩
  | 93 => ⟨S_, .f32⟩
  | 94 => ⟨S_, .f32⟩
  | 95 => ⟨S64x100, .f32⟩
  | 96 => ⟨S64x100, .f32⟩
  | 97 => ⟨S64x9600, .f32⟩
  | 98 => ⟨S_, .i32⟩
  | 99 => ⟨S64x100, .i32⟩
  | 100 => ⟨S64x100, .i32⟩
  | 101 => ⟨S_, .i32⟩
  | 102 => ⟨S_, .i32⟩
  | 103 => ⟨S64x100, .i32⟩
  | 104 => ⟨S64x100, .i32⟩
  | 105 => ⟨S_, .i32⟩
  | 106 => ⟨S64x100, .i32⟩
  | 107 => ⟨S64x100, .i1⟩
  | 108 => ⟨S_, .i32⟩
  | 109 => ⟨S64x100, .i32⟩
  | 110 => ⟨S64x100, .i32⟩
  | 111 => ⟨S64x100, .i32⟩
  | 112 => ⟨S64x100x1, .i32⟩
  | 113 => ⟨S64x100, .f32⟩
  | 114 => ⟨S_, .i32⟩
  | 115 => ⟨S64x100, .i32⟩
  | 116 => ⟨S64x100, .i1⟩
  | 117 => ⟨S_, .i32⟩
  | 118 => ⟨S64x100, .i32⟩
  | 119 => ⟨S64x100, .i32⟩
  | 120 => ⟨S64x100, .i32⟩
  | 121 => ⟨S64x100x1, .i32⟩
  | 122 => ⟨S64x100, .f32⟩
  | 123 => ⟨S64x100, .f32⟩
  | 124 => ⟨S_, .i32⟩
  | 125 => ⟨S_, .i32⟩
  | 126 => ⟨S64x100, .f32⟩
  | 127 => ⟨S64x100, .f32⟩
  | _ => ⟨S64x64x96, .f32⟩

abbrev hbmTy0_2 (i : Nat) : BufTy := match i % 128 with
  | 0 => ⟨S64x100, .i1⟩
  | 1 => ⟨S64x100, .f32⟩
  | 2 => ⟨S64x100, .f32⟩
  | 3 => ⟨S64x100, .f32⟩
  | 4 => ⟨S64x100, .f32⟩
  | 5 => ⟨S64x100, .f32⟩
  | 6 => ⟨S64x100, .f32⟩
  | 7 => ⟨S64x100, .f32⟩
  | 8 => ⟨S64x1x64, .i32⟩
  | 9 => ⟨S64x64, .i32⟩
  | 10 => ⟨S64x1, .f32⟩
  | _ => ⟨S64x64x96, .f32⟩

abbrev hbmTy (i : Nat) : BufTy := match i / 128 with
  | 0 => hbmTy0_0 i
  | 1 => hbmTy0_1 i
  | 2 => hbmTy0_2 i
  | _ => ⟨S64x64x96, .f32⟩

abbrev bufTy : (tb : Table) → Fin (tcTables nBuf tb) → BufTy
  | .hbm, ⟨i, _⟩ => hbmTy i
  | _, _ => ⟨S64x64x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_c_5 : Ref sig .tc := ⟨.hbm, 24, rfl⟩
abbrev main_c_6 : Ref sig .tc := ⟨.hbm, 25, rfl⟩
abbrev main_v13_0 : Ref sig .tc := ⟨.hbm, 26, rfl⟩
abbrev main_v13_1 : Ref sig .tc := ⟨.hbm, 27, rfl⟩
abbrev main_v13_2 : Ref sig .tc := ⟨.hbm, 28, rfl⟩
abbrev main_v13_3 : Ref sig .tc := ⟨.hbm, 29, rfl⟩
abbrev main_v13_4 : Ref sig .tc := ⟨.hbm, 30, rfl⟩
abbrev main_v13_5 : Ref sig .tc := ⟨.hbm, 31, rfl⟩
abbrev main_v13_6 : Ref sig .tc := ⟨.hbm, 32, rfl⟩
abbrev main_v13_7 : Ref sig .tc := ⟨.hbm, 33, rfl⟩
abbrev main_while0c_c_14 : Ref sig .tc := ⟨.hbm, 34, rfl⟩
abbrev main_while0c_v27 : Ref sig .tc := ⟨.hbm, 35, rfl⟩
abbrev main_while0b_c_14 : Ref sig .tc := ⟨.hbm, 36, rfl⟩
abbrev main_while0b_v27 : Ref sig .tc := ⟨.hbm, 37, rfl⟩
abbrev main_while0b_v28 : Ref sig .tc := ⟨.hbm, 38, rfl⟩
abbrev main_while0b_c_15 : Ref sig .tc := ⟨.hbm, 39, rfl⟩
abbrev main_while0b_c_16 : Ref sig .tc := ⟨.hbm, 40, rfl⟩
abbrev main_while0b_v29 : Ref sig .tc := ⟨.hbm, 41, rfl⟩
abbrev main_while0b_c_17 : Ref sig .tc := ⟨.hbm, 42, rfl⟩
abbrev main_while0b_c_18 : Ref sig .tc := ⟨.hbm, 43, rfl⟩
abbrev main_while0b_v30 : Ref sig .tc := ⟨.hbm, 44, rfl⟩
abbrev main_while0b_c_19 : Ref sig .tc := ⟨.hbm, 45, rfl⟩
abbrev main_while0b_v31 : Ref sig .tc := ⟨.hbm, 46, rfl⟩
abbrev main_while0b_c_20 : Ref sig .tc := ⟨.hbm, 47, rfl⟩
abbrev main_while0b_v32 : Ref sig .tc := ⟨.hbm, 48, rfl⟩
abbrev main_while0b_c_21 : Ref sig .tc := ⟨.hbm, 49, rfl⟩
abbrev main_while0b_v33 : Ref sig .tc := ⟨.hbm, 50, rfl⟩
abbrev main_while0b_v34 : Ref sig .tc := ⟨.hbm, 51, rfl⟩
abbrev main_while0b_c_22 : Ref sig .tc := ⟨.hbm, 52, rfl⟩
abbrev main_while0b_c_23 : Ref sig .tc := ⟨.hbm, 53, rfl⟩
abbrev main_while0b_v35 : Ref sig .tc := ⟨.hbm, 54, rfl⟩
abbrev main_while0b_c_24 : Ref sig .tc := ⟨.hbm, 55, rfl⟩
abbrev main_while0b_c_25 : Ref sig .tc := ⟨.hbm, 56, rfl⟩
abbrev main_while0b_v36 : Ref sig .tc := ⟨.hbm, 57, rfl⟩
abbrev main_while0b_c_26 : Ref sig .tc := ⟨.hbm, 58, rfl⟩
abbrev main_while0b_v37 : Ref sig .tc := ⟨.hbm, 59, rfl⟩
abbrev main_while0b_v38 : Ref sig .tc := ⟨.hbm, 60, rfl⟩
abbrev main_while0b_v39 : Ref sig .tc := ⟨.hbm, 61, rfl⟩
abbrev main_while0b_c_27 : Ref sig .tc := ⟨.hbm, 62, rfl⟩
abbrev main_while0b_v40 : Ref sig .tc := ⟨.hbm, 63, rfl⟩
abbrev main_while0b_v41 : Ref sig .tc := ⟨.hbm, 64, rfl⟩
abbrev main_while0b_c_28 : Ref sig .tc := ⟨.hbm, 65, rfl⟩
abbrev main_while0b_v42 : Ref sig .tc := ⟨.hbm, 66, rfl⟩
abbrev main_while0b_v43 : Ref sig .tc := ⟨.hbm, 67, rfl⟩
abbrev main_while0b_c_29 : Ref sig .tc := ⟨.hbm, 68, rfl⟩
abbrev main_while0b_v44 : Ref sig .tc := ⟨.hbm, 69, rfl⟩
abbrev main_while0b_v45 : Ref sig .tc := ⟨.hbm, 70, rfl⟩
abbrev main_while0b_v46 : Ref sig .tc := ⟨.hbm, 71, rfl⟩
abbrev main_while0b_call1_c : Ref sig .tc := ⟨.hbm, 72, rfl⟩
abbrev main_while0b_call1_v0 : Ref sig .tc := ⟨.hbm, 73, rfl⟩
abbrev main_while0b_call1_v1 : Ref sig .tc := ⟨.hbm, 74, rfl⟩
abbrev main_while0b_call1_c_0 : Ref sig .tc := ⟨.hbm, 75, rfl⟩
abbrev main_while0b_call1_v2 : Ref sig .tc := ⟨.hbm, 76, rfl⟩
abbrev main_while0b_call1_v3 : Ref sig .tc := ⟨.hbm, 77, rfl⟩
abbrev main_while0b_call1_v4 : Ref sig .tc := ⟨.hbm, 78, rfl⟩
abbrev main_while0b_call1_v5 : Ref sig .tc := ⟨.hbm, 79, rfl⟩
abbrev main_while0b_v47 : Ref sig .tc := ⟨.hbm, 80, rfl⟩
abbrev main_while0b_v48 : Ref sig .tc := ⟨.hbm, 81, rfl⟩
abbrev main_while0b_c_30 : Ref sig .tc := ⟨.hbm, 82, rfl⟩
abbrev main_while0b_call2_v0 : Ref sig .tc := ⟨.hbm, 83, rfl⟩
abbrev main_while0b_call2_v1 : Ref sig .tc := ⟨.hbm, 84, rfl⟩
abbrev main_while0b_v49 : Ref sig .tc := ⟨.hbm, 85, rfl⟩
abbrev main_while0b_v50 : Ref sig .tc := ⟨.hbm, 86, rfl⟩
abbrev main_while0b_v51 : Ref sig .tc := ⟨.hbm, 87, rfl⟩
abbrev main_while0b_v52 : Ref sig .tc := ⟨.hbm, 88, rfl⟩
abbrev main_while0b_v53 : Ref sig .tc := ⟨.hbm, 89, rfl⟩
abbrev main_while0b_v54 : Ref sig .tc := ⟨.hbm, 90, rfl⟩
abbrev main_while0b_v55 : Ref sig .tc := ⟨.hbm, 91, rfl⟩
abbrev main_while0b_v56 : Ref sig .tc := ⟨.hbm, 92, rfl⟩
abbrev main_while0b_v57 : Ref sig .tc := ⟨.hbm, 93, rfl⟩
abbrev main_while0b_v58 : Ref sig .tc := ⟨.hbm, 94, rfl⟩
abbrev main_while0b_v59 : Ref sig .tc := ⟨.hbm, 95, rfl⟩
abbrev main_while0b_v60 : Ref sig .tc := ⟨.hbm, 96, rfl⟩
abbrev main_while0b_v61 : Ref sig .tc := ⟨.hbm, 97, rfl⟩
abbrev main_while0b_v62 : Ref sig .tc := ⟨.hbm, 98, rfl⟩
abbrev main_while0b_v63 : Ref sig .tc := ⟨.hbm, 99, rfl⟩
abbrev main_while0b_v64 : Ref sig .tc := ⟨.hbm, 100, rfl⟩
abbrev main_while0b_c_31 : Ref sig .tc := ⟨.hbm, 101, rfl⟩
abbrev main_while0b_v65 : Ref sig .tc := ⟨.hbm, 102, rfl⟩
abbrev main_while0b_v66 : Ref sig .tc := ⟨.hbm, 103, rfl⟩
abbrev main_while0b_call3_c : Ref sig .tc := ⟨.hbm, 104, rfl⟩
abbrev main_while0b_call3_v0 : Ref sig .tc := ⟨.hbm, 105, rfl⟩
abbrev main_while0b_call3_v1 : Ref sig .tc := ⟨.hbm, 106, rfl⟩
abbrev main_while0b_call3_c_0 : Ref sig .tc := ⟨.hbm, 107, rfl⟩
abbrev main_while0b_call3_v2 : Ref sig .tc := ⟨.hbm, 108, rfl⟩
abbrev main_while0b_call3_v3 : Ref sig .tc := ⟨.hbm, 109, rfl⟩
abbrev main_while0b_call3_v4 : Ref sig .tc := ⟨.hbm, 110, rfl⟩
abbrev main_while0b_call3_v5 : Ref sig .tc := ⟨.hbm, 111, rfl⟩
abbrev main_while0b_v67 : Ref sig .tc := ⟨.hbm, 112, rfl⟩
abbrev main_while0b_c_32 : Ref sig .tc := ⟨.hbm, 113, rfl⟩
abbrev main_while0b_v68 : Ref sig .tc := ⟨.hbm, 114, rfl⟩
abbrev main_while0b_v69 : Ref sig .tc := ⟨.hbm, 115, rfl⟩
abbrev main_while0b_v70 : Ref sig .tc := ⟨.hbm, 116, rfl⟩
abbrev main_while0b_cst_33 : Ref sig .tc := ⟨.hbm, 117, rfl⟩
abbrev main_while0b_call4_v0 : Ref sig .tc := ⟨.hbm, 118, rfl⟩
abbrev main_while0b_call4_v1 : Ref sig .tc := ⟨.hbm, 119, rfl⟩
abbrev main_while0b_v71 : Ref sig .tc := ⟨.hbm, 120, rfl⟩
abbrev main_while0b_v72 : Ref sig .tc := ⟨.hbm, 121, rfl⟩
abbrev main_while0b_v73 : Ref sig .tc := ⟨.hbm, 122, rfl⟩
abbrev main_while0b_v74 : Ref sig .tc := ⟨.hbm, 123, rfl⟩
abbrev main_while0b_v75 : Ref sig .tc := ⟨.hbm, 124, rfl⟩
abbrev main_while0b_v76 : Ref sig .tc := ⟨.hbm, 125, rfl⟩
abbrev main_while0b_v77 : Ref sig .tc := ⟨.hbm, 126, rfl⟩
abbrev main_while0b_v78 : Ref sig .tc := ⟨.hbm, 127, rfl⟩
abbrev main_while0b_call5_v0 : Ref sig .tc := ⟨.hbm, 128, rfl⟩
abbrev main_while0b_call5_v1 : Ref sig .tc := ⟨.hbm, 129, rfl⟩
abbrev main_while0b_v79 : Ref sig .tc := ⟨.hbm, 130, rfl⟩
abbrev main_while0b_v80 : Ref sig .tc := ⟨.hbm, 131, rfl⟩
abbrev main_while0b_c_34 : Ref sig .tc := ⟨.hbm, 132, rfl⟩
abbrev main_while0b_v81 : Ref sig .tc := ⟨.hbm, 133, rfl⟩
abbrev main_while0b_v82 : Ref sig .tc := ⟨.hbm, 134, rfl⟩
abbrev main_while0b_v83 : Ref sig .tc := ⟨.hbm, 135, rfl⟩
abbrev main_while0b_v84 : Ref sig .tc := ⟨.hbm, 136, rfl⟩
abbrev main_while0b_v85 : Ref sig .tc := ⟨.hbm, 137, rfl⟩
abbrev main_while0b_cst_35 : Ref sig .tc := ⟨.hbm, 138, rfl⟩
abbrev main_while0b_call6_v0 : Ref sig .tc := ⟨.hbm, 139, rfl⟩
abbrev main_while0b_call6_v1 : Ref sig .tc := ⟨.hbm, 140, rfl⟩
abbrev main_while0b_call6_v2 : Ref sig .tc := ⟨.hbm, 141, rfl⟩
abbrev main_while0b_v86 : Ref sig .tc := ⟨.hbm, 142, rfl⟩
abbrev main_while0b_v87 : Ref sig .tc := ⟨.hbm, 143, rfl⟩
abbrev main_while0b_v88 : Ref sig .tc := ⟨.hbm, 144, rfl⟩
abbrev main_while0b_v89 : Ref sig .tc := ⟨.hbm, 145, rfl⟩
abbrev main_while0b_v90 : Ref sig .tc := ⟨.hbm, 146, rfl⟩
abbrev main_while0b_v91 : Ref sig .tc := ⟨.hbm, 147, rfl⟩
abbrev main_while0b_v92 : Ref sig .tc := ⟨.hbm, 148, rfl⟩
abbrev main_while0b_v93 : Ref sig .tc := ⟨.hbm, 149, rfl⟩
abbrev main_while0b_v94 : Ref sig .tc := ⟨.hbm, 150, rfl⟩
abbrev main_while0b_v95 : Ref sig .tc := ⟨.hbm, 151, rfl⟩
abbrev main_while0b_v96 : Ref sig .tc := ⟨.hbm, 152, rfl⟩
abbrev main_while0b_v97 : Ref sig .tc := ⟨.hbm, 153, rfl⟩
abbrev main_while0b_v98 : Ref sig .tc := ⟨.hbm, 154, rfl⟩
abbrev main_while0b_values : Ref sig .tc := ⟨.hbm, 155, rfl⟩
abbrev main_while0b_indices : Ref sig .tc := ⟨.hbm, 156, rfl⟩
abbrev main_while0b_c_36 : Ref sig .tc := ⟨.hbm, 157, rfl⟩
abbrev main_while0b_v99 : Ref sig .tc := ⟨.hbm, 158, rfl⟩
abbrev main_while0b_v100 : Ref sig .tc := ⟨.hbm, 159, rfl⟩
abbrev main_while0b_c_37 : Ref sig .tc := ⟨.hbm, 160, rfl⟩
abbrev main_while0b_v101 : Ref sig .tc := ⟨.hbm, 161, rfl⟩
abbrev main_while0b_v102 : Ref sig .tc := ⟨.hbm, 162, rfl⟩
abbrev main_while0b_c_38 : Ref sig .tc := ⟨.hbm, 163, rfl⟩
abbrev main_while0b_v103 : Ref sig .tc := ⟨.hbm, 164, rfl⟩
abbrev main_while0b_v104 : Ref sig .tc := ⟨.hbm, 165, rfl⟩
abbrev main_while0b_v105 : Ref sig .tc := ⟨.hbm, 166, rfl⟩
abbrev main_while0b_c_39 : Ref sig .tc := ⟨.hbm, 167, rfl⟩
abbrev main_while0b_v106 : Ref sig .tc := ⟨.hbm, 168, rfl⟩
abbrev main_while0b_v107 : Ref sig .tc := ⟨.hbm, 169, rfl⟩
abbrev main_while0b_c_40 : Ref sig .tc := ⟨.hbm, 170, rfl⟩
abbrev main_while0b_v108 : Ref sig .tc := ⟨.hbm, 171, rfl⟩
abbrev main_while0b_v109 : Ref sig .tc := ⟨.hbm, 172, rfl⟩
abbrev main_while0b_c_41 : Ref sig .tc := ⟨.hbm, 173, rfl⟩
abbrev main_while0b_call8_v0 : Ref sig .tc := ⟨.hbm, 174, rfl⟩
abbrev main_while0b_call8_v1 : Ref sig .tc := ⟨.hbm, 175, rfl⟩
abbrev main_while0b_v110 : Ref sig .tc := ⟨.hbm, 176, rfl⟩
abbrev main_while0b_v111 : Ref sig .tc := ⟨.hbm, 177, rfl⟩
abbrev main_while0b_call9_c : Ref sig .tc := ⟨.hbm, 178, rfl⟩
abbrev main_while0b_call9_v0 : Ref sig .tc := ⟨.hbm, 179, rfl⟩
abbrev main_while0b_call9_v1 : Ref sig .tc := ⟨.hbm, 180, rfl⟩
abbrev main_while0b_call9_c_0 : Ref sig .tc := ⟨.hbm, 181, rfl⟩
abbrev main_while0b_call9_v2 : Ref sig .tc := ⟨.hbm, 182, rfl⟩
abbrev main_while0b_call9_v3 : Ref sig .tc := ⟨.hbm, 183, rfl⟩
abbrev main_while0b_call9_v4 : Ref sig .tc := ⟨.hbm, 184, rfl⟩
abbrev main_while0b_v112 : Ref sig .tc := ⟨.hbm, 185, rfl⟩
abbrev main_while0b_call10_c : Ref sig .tc := ⟨.hbm, 186, rfl⟩
abbrev main_while0b_call10_v0 : Ref sig .tc := ⟨.hbm, 187, rfl⟩
abbrev main_while0b_call10_v1 : Ref sig .tc := ⟨.hbm, 188, rfl⟩
abbrev main_while0b_call10_c_0 : Ref sig .tc := ⟨.hbm, 189, rfl⟩
abbrev main_while0b_call10_v2 : Ref sig .tc := ⟨.hbm, 190, rfl⟩
abbrev main_while0b_call10_v3 : Ref sig .tc := ⟨.hbm, 191, rfl⟩
abbrev main_while0b_call10_v4 : Ref sig .tc := ⟨.hbm, 192, rfl⟩
abbrev main_while0b_call10_v5 : Ref sig .tc := ⟨.hbm, 193, rfl⟩
abbrev main_while0b_v113 : Ref sig .tc := ⟨.hbm, 194, rfl⟩
abbrev main_while0b_v114 : Ref sig .tc := ⟨.hbm, 195, rfl⟩
abbrev main_while0b_v115 : Ref sig .tc := ⟨.hbm, 196, rfl⟩
abbrev main_while0b_v116 : Ref sig .tc := ⟨.hbm, 197, rfl⟩
abbrev main_while0b_v117 : Ref sig .tc := ⟨.hbm, 198, rfl⟩
abbrev main_while0b_v118 : Ref sig .tc := ⟨.hbm, 199, rfl⟩
abbrev main_while0b_v119 : Ref sig .tc := ⟨.hbm, 200, rfl⟩
abbrev main_while0b_v120 : Ref sig .tc := ⟨.hbm, 201, rfl⟩
abbrev main_while0b_v121 : Ref sig .tc := ⟨.hbm, 202, rfl⟩
abbrev main_while0b_v122 : Ref sig .tc := ⟨.hbm, 203, rfl⟩
abbrev main_while0b_v123 : Ref sig .tc := ⟨.hbm, 204, rfl⟩
abbrev main_while0b_v124 : Ref sig .tc := ⟨.hbm, 205, rfl⟩
abbrev main_while0b_call11_v0 : Ref sig .tc := ⟨.hbm, 206, rfl⟩
abbrev main_while0b_v125 : Ref sig .tc := ⟨.hbm, 207, rfl⟩
abbrev main_while0b_c_42 : Ref sig .tc := ⟨.hbm, 208, rfl⟩
abbrev main_while0b_v126 : Ref sig .tc := ⟨.hbm, 209, rfl⟩
abbrev main_while0b_v127 : Ref sig .tc := ⟨.hbm, 210, rfl⟩
abbrev main_while0b_v128 : Ref sig .tc := ⟨.hbm, 211, rfl⟩
abbrev main_while0b_call13_c : Ref sig .tc := ⟨.hbm, 212, rfl⟩
abbrev main_while0b_call13_v0 : Ref sig .tc := ⟨.hbm, 213, rfl⟩
abbrev main_while0b_call13_v1 : Ref sig .tc := ⟨.hbm, 214, rfl⟩
abbrev main_while0b_call13_c_0 : Ref sig .tc := ⟨.hbm, 215, rfl⟩
abbrev main_while0b_call13_v2 : Ref sig .tc := ⟨.hbm, 216, rfl⟩
abbrev main_while0b_call13_v3 : Ref sig .tc := ⟨.hbm, 217, rfl⟩
abbrev main_while0b_call13_v4 : Ref sig .tc := ⟨.hbm, 218, rfl⟩
abbrev main_while0b_call13_v5 : Ref sig .tc := ⟨.hbm, 219, rfl⟩
abbrev main_while0b_v129 : Ref sig .tc := ⟨.hbm, 220, rfl⟩
abbrev main_while0b_cst_43 : Ref sig .tc := ⟨.hbm, 221, rfl⟩
abbrev main_while0b_call14_v0 : Ref sig .tc := ⟨.hbm, 222, rfl⟩
abbrev main_while0b_call14_v1 : Ref sig .tc := ⟨.hbm, 223, rfl⟩
abbrev main_while0b_v130 : Ref sig .tc := ⟨.hbm, 224, rfl⟩
abbrev main_while0b_v131 : Ref sig .tc := ⟨.hbm, 225, rfl⟩
abbrev main_while0b_c_44 : Ref sig .tc := ⟨.hbm, 226, rfl⟩
abbrev main_while0b_v132 : Ref sig .tc := ⟨.hbm, 227, rfl⟩
abbrev main_while0b_v133 : Ref sig .tc := ⟨.hbm, 228, rfl⟩
abbrev main_while0b_c_45 : Ref sig .tc := ⟨.hbm, 229, rfl⟩
abbrev main_while0b_call15_v0 : Ref sig .tc := ⟨.hbm, 230, rfl⟩
abbrev main_while0b_call15_v1 : Ref sig .tc := ⟨.hbm, 231, rfl⟩
abbrev main_while0b_v134 : Ref sig .tc := ⟨.hbm, 232, rfl⟩
abbrev main_while0b_call16_c : Ref sig .tc := ⟨.hbm, 233, rfl⟩
abbrev main_while0b_call16_v0 : Ref sig .tc := ⟨.hbm, 234, rfl⟩
abbrev main_while0b_call16_v1 : Ref sig .tc := ⟨.hbm, 235, rfl⟩
abbrev main_while0b_call16_c_0 : Ref sig .tc := ⟨.hbm, 236, rfl⟩
abbrev main_while0b_call16_v2 : Ref sig .tc := ⟨.hbm, 237, rfl⟩
abbrev main_while0b_call16_v3 : Ref sig .tc := ⟨.hbm, 238, rfl⟩
abbrev main_while0b_call16_v4 : Ref sig .tc := ⟨.hbm, 239, rfl⟩
abbrev main_while0b_call16_v5 : Ref sig .tc := ⟨.hbm, 240, rfl⟩
abbrev main_while0b_v135 : Ref sig .tc := ⟨.hbm, 241, rfl⟩
abbrev main_while0b_call17_c : Ref sig .tc := ⟨.hbm, 242, rfl⟩
abbrev main_while0b_call17_v0 : Ref sig .tc := ⟨.hbm, 243, rfl⟩
abbrev main_while0b_call17_v1 : Ref sig .tc := ⟨.hbm, 244, rfl⟩
abbrev main_while0b_call17_c_0 : Ref sig .tc := ⟨.hbm, 245, rfl⟩
abbrev main_while0b_call17_v2 : Ref sig .tc := ⟨.hbm, 246, rfl⟩
abbrev main_while0b_call17_v3 : Ref sig .tc := ⟨.hbm, 247, rfl⟩
abbrev main_while0b_call17_v4 : Ref sig .tc := ⟨.hbm, 248, rfl⟩
abbrev main_while0b_call17_v5 : Ref sig .tc := ⟨.hbm, 249, rfl⟩
abbrev main_while0b_v136 : Ref sig .tc := ⟨.hbm, 250, rfl⟩
abbrev main_while0b_v137 : Ref sig .tc := ⟨.hbm, 251, rfl⟩
abbrev main_while0b_c_46 : Ref sig .tc := ⟨.hbm, 252, rfl⟩
abbrev main_while0b_v138 : Ref sig .tc := ⟨.hbm, 253, rfl⟩
abbrev main_v14 : Ref sig .tc := ⟨.hbm, 254, rfl⟩
abbrev main_v15 : Ref sig .tc := ⟨.hbm, 255, rfl⟩
abbrev main_v16 : Ref sig .tc := ⟨.hbm, 256, rfl⟩
abbrev main_v17 : Ref sig .tc := ⟨.hbm, 257, rfl⟩
abbrev main_v18 : Ref sig .tc := ⟨.hbm, 258, rfl⟩
abbrev main_v19 : Ref sig .tc := ⟨.hbm, 259, rfl⟩
abbrev main_v20 : Ref sig .tc := ⟨.hbm, 260, rfl⟩
abbrev main_v21 : Ref sig .tc := ⟨.hbm, 261, rfl⟩
abbrev main_v22 : Ref sig .tc := ⟨.hbm, 262, rfl⟩
abbrev main_v23 : Ref sig .tc := ⟨.hbm, 263, rfl⟩
abbrev main_v24 : Ref sig .tc := ⟨.hbm, 264, rfl⟩
abbrev main_v25 : Ref sig .tc := ⟨.hbm, 265, rfl⟩
abbrev main_v26 : Ref sig .tc := ⟨.hbm, 266, rfl⟩

abbrev nD : Nat := 1
abbrev τ : Topo := Topo.v7x

variable {F : FTy → Type} [FloatOps F]

abbrev main_while0_count : Scf.Loop 32 := ⟨0#32, 64#32, 1#32⟩
-- ==== Proof.KernelIdealSelect.lean ====
module

public import proofs.«01_k».proof.Proof.Gen.KernelIdeal.Skeleton
public import proofs.«01_k».proof.Proof.Gen.KernelIdeal.Frame

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- What one selection round carries: the live head value and lane of every beam, how many heads each beam has spent, and the
    selection so far (score, beam, code of the appended character). -/
abbrev Acc3 (F : FTy → Type) : Type := FVec F S64x100 .f32 × IVec S64x100 32 × IVec S64x100 32 × FVec F S64x100 .f32 × IVec S64x100 32 × IVec S64x100 32

/-- What one time step carries: the blank and non-blank scores and the last characters of the beams. -/
abbrev Acc1 (F : FTy → Type) : Type := FVec F S64x100 .f32 × FVec F S64x100 .f32 × IVec S64x100 32

/-- What the walk back through the tables carries: the beam, the number of characters found, and the characters. -/
abbrev Acc4 : Type := IVec S64x1 32 × IVec S64x1 32 × IVec S64x64 32

/-- Row `m` of the two head tables lies inside them. -/
theorem row_inb (m : Fin 24) (a : Fin 3) : (![m.val, 0, 0] : Fin 3 → ℕ) a + S1x64x100.size a ≤ S24x64x100.size a := by
  have := m.isLt
  fin_cases a <;> simp [S1x64x100, S24x64x100] <;> omega

/-- The rectangle of row `m` of a head table. -/
abbrev rowR (m : Fin 24) : Rect S24x64x100 := Rect.unit (s := S24x64x100) ![m.val, 0, 0] S1x64x100.size (row_inb m)

/-- One selection round, on the whole candidate table `Y3` and the rows `Y6`, `Y7` of the head tables. -/
def step3 (Y3 : FVec F S64x100x128 .f32) (Y6 : Fin 24 → Vec F S1x64x100 .f32) (Y7 : Fin 24 → Vec F S1x64x100 .i32)
    (v0 : IVec S64x100 32) (v1 v2 : IVec S64x100x128 32) (k : Fin k0_t3_loop.trips) (acc : Acc3 F) : Acc3 F :=
  let v600 := k0_pay11 acc.1
  let v617 := k0_pay12 v0 acc.1 acc.2.1
  let v619 := k0_pay13 v0 acc.1 acc.2.1
  let v623 := k0_pay14 v0 acc.1 acc.2.1
  let v628 := k0_pay15 v0 0#32 1#32 k acc.1 acc.2.2.2.1
  let v633 := k0_pay16 v0 0#32 1#32 k acc.1 acc.2.1 acc.2.2.2.2.1
  let v638 := k0_pay17 v0 0#32 1#32 k acc.1 acc.2.1 acc.2.2.2.2.2
  let v640 := k0_pay18 v0 acc.1 acc.2.1 acc.2.2.1
  let v644 := k0_pay19 v0 acc.1 acc.2.1 acc.2.2.1
  let fbk := if Scalar.cmpi .ne (Scalar.extui (Scalar.cmpf .ogt (k0_pay21 (F := F) v644 24#32) (Scalar.ofBits .f32 0x00000000#32))) 0#32 = 1#1 then (k0_pay24 v1 v2 v600 v617 v623 Y3, k0_pay25 v1 v2 v600 v617 v623 Y3) else (k0_pay26 (F := F), k0_pay27)
  let v646 := k0_pay20 v644 24#32
  let v672 := k0_pay30 v640 (Y6 1) (Y6 2)
  let v675 := k0_pay31 v640 (Y7 1) (Y7 2)
  let v677 := k0_pay32 v640
  let v679 := k0_pay33 (Y6 3)
  let v704 := k0_pay37 v640 v672 v677 v679 (Y6 4) (Y6 5) (Y6 6)
  let v707 := k0_pay38 v640 v675 v677 (Y7 3) (Y7 4) (Y7 5) (Y7 6)
  let v709 := k0_pay39 v640
  let v711 := k0_pay40 (Y6 7)
  let v736 := k0_pay44 v640 v704 v709 v711 (Y6 8) (Y6 9) (Y6 10)
  let v739 := k0_pay45 v640 v707 v709 (Y7 7) (Y7 8) (Y7 9) (Y7 10)
  let v741 := k0_pay46 v640
  let v743 := k0_pay47 (Y6 11)
  let v768 := k0_pay51 v640 v736 v741 v743 (Y6 12) (Y6 13) (Y6 14)
  let v771 := k0_pay52 v640 v739 v741 (Y7 11) (Y7 12) (Y7 13) (Y7 14)
  let v773 := k0_pay53 v640
  let v775 := k0_pay54 (Y6 15)
  let v800 := k0_pay58 v640 v768 v773 v775 (Y6 16) (Y6 17) (Y6 18)
  let v803 := k0_pay59 v640 v771 v773 (Y7 15) (Y7 16) (Y7 17) (Y7 18)
  let v805 := k0_pay60 v640
  let v807 := k0_pay61 (Y6 19)
  let v832 := k0_pay65 v640 v800 v805 v807 (Y6 20) (Y6 21) (Y6 22)
  let v835 := k0_pay66 v640 v803 v805 (Y7 19) (Y7 20) (Y7 21) (Y7 22)
  let v837 := k0_pay67 v640
  let v839 := k0_pay68 (Y6 23)
  (k0_pay202 acc.1 v619 v646 fbk.1 v832 v837 v839, k0_pay203 acc.2.1 v619 v646 fbk.2 v835 v837 (Y7 23), v640, v628, v633, v638)

/-- The selection after `k` rounds from `init`. -/
def st3 (Y3 : FVec F S64x100x128 .f32) (Y6 : Fin 24 → Vec F S1x64x100 .f32) (Y7 : Fin 24 → Vec F S1x64x100 .i32)
    (v0 : IVec S64x100 32) (v1 v2 : IVec S64x100x128 32) (init : Acc3 F) : ℕ → Acc3 F
  | 0 => init
  | k + 1 => if h : k < k0_t3_loop.trips then step3 Y3 Y6 Y7 v0 v1 v2 ⟨k, h⟩ (st3 Y3 Y6 Y7 v0 v1 v2 init k) else st3 Y3 Y6 Y7 v0 v1 v2 init k

theorem st3_succ (Y3 : FVec F S64x100x128 .f32) (Y6 : Fin 24 → Vec F S1x64x100 .f32) (Y7 : Fin 24 → Vec F S1x64x100 .i32)
    (v0 : IVec S64x100 32) (v1 v2 : IVec S64x100x128 32) (init : Acc3 F) (k : Fin k0_t3_loop.trips) :
    st3 Y3 Y6 Y7 v0 v1 v2 init (k.val + 1) = step3 Y3 Y6 Y7 v0 v1 v2 k (st3 Y3 Y6 Y7 v0 v1 v2 init k.val) := by
  rw [st3.eq_2]; exact dif_pos k.isLt

local notation "𝕄" => MT nD τ sig Unit (Elt F) ℕ (UR sig nD τ) ℕ

/-- The variants the runs are proved at: none. -/
abbrev 𝒱₀ : Variants := Variants.none

/-- What a selection round reads: the candidate table and the two head tables. -/
abbrev Trip3 (c : Dev nD) (arg3 : Memref sig .tc .vmem S64x100x128 .f32) (arg6 : Memref sig .tc .vmem S24x64x100 .f32) (arg7 : Memref sig .tc .vmem S24x64x100 .i32)
    (X3 : BufTy.Contents (Elt F) arg3.view.ty) (X6 : BufTy.Contents (Elt F) arg6.view.ty) (X7 : BufTy.Contents (Elt F) arg7.view.ty) : sProp 𝕄 :=
  iprop((arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7))

/-- The whole candidate table, as a load of it reads. -/
abbrev rd3 (arg3 : Memref sig .tc .vmem S64x100x128 .f32) (X3 : BufTy.Contents (Elt F) arg3.view.ty) : FVec F S64x100x128 .f32 :=
  View.readAt (Elt F) arg3.view (Rect.unit (s := S64x100x128) ![0, 0, 0] S64x100x128.size inb_S64x100x128_S64x100x128_0_0_0).toLoadRect X3

/-- Row `m` of the head values. -/
abbrev rd6 (arg6 : Memref sig .tc .vmem S24x64x100 .f32) (X6 : BufTy.Contents (Elt F) arg6.view.ty) (m : Fin 24) : Vec F S1x64x100 .f32 :=
  View.readAt (Elt F) arg6.view (rowR m).toLoadRect X6

/-- Row `m` of the head lanes. -/
abbrev rd7 (arg7 : Memref sig .tc .vmem S24x64x100 .i32) (X7 : BufTy.Contents (Elt F) arg7.view.ty) (m : Fin 24) : Vec F S1x64x100 .i32 :=
  View.readAt (Elt F) arg7.view (rowR m).toLoadRect X7

set_option maxHeartbeats 4000000 in
/-- One selection round, run: it yields `step3` of what it carries. -/
theorem trip3 (c : Dev nD) (arg0 : Memref sig .tc .vmem S64x64x96 .f32) (harg0 : arg0.IsWhole) (arg1 : Memref sig .tc .vmem S64x64 .i32) (harg1 : arg1.IsWhole) (arg2 : Memref sig .tc .vmem S64x1 .f32) (harg2 : arg2.IsWhole) (arg3 : Memref sig .tc .vmem S64x100x128 .f32) (harg3 : arg3.IsWhole) (arg4 : Memref sig .tc .vmem S64x64x100 .i32) (harg4 : arg4.IsWhole) (arg5 : Memref sig .tc .vmem S64x64x100 .i32) (harg5 : arg5.IsWhole) (arg6 : Memref sig .tc .vmem S24x64x100 .f32) (harg6 : arg6.IsWhole) (arg7 : Memref sig .tc .vmem S24x64x100 .i32) (harg7 : arg7.IsWhole) (X3 : BufTy.Contents (Elt F) arg3.view.ty) (X6 : BufTy.Contents (Elt F) arg6.view.ty) (X7 : BufTy.Contents (Elt F) arg7.view.ty)
    (v0 : IVec S64x100 32) (v1 : IVec S64x100x128 32) (v2 : IVec S64x100x128 32) (v4 : IVec S64x100x100 32) (k0_t1 : Fin k0_t1_loop.trips) (arg11 : IVec S64x100 32) (arg8 : BitVec 32) (v74 : FVec F S64x100 .f32) (v88 : FVec F S64x100 .f32) (v99 : FVec F S64x100 .f32) (v119 : FVec F S64x100x128 .f32) (v123 : FVec F S64x100 .f32) (v129 : IVec S64x100 32) (v536 : FVec F S64x100x128 .f32) (v537 : FVec F S64x100 .f32) (k0_h1 : ¬k0_cond1 k0_t1 = 1#1) (k : Fin k0_t3_loop.trips) (E : Set ℕ) (acc : Acc3 F) :
    Trip3 c arg3 arg6 arg7 X3 X6 X7 ⊢ wp frame (wpE (defs₀ (F := F)) 𝒱₀ (c : Thread nD τ) none) E
      (k0_t3_body (F := F) arg0 harg0 arg1 harg1 arg2 harg2 arg3 harg3 arg4 harg4 arg5 harg5 arg6 harg6 arg7 harg7 v0 v1 v2 v4 k0_t1 arg11 arg8 v74 v88 v99 v119 v123 v129 v536 v537 k0_h1 k acc)
      (fun yld => iprop(⌜yld = step3 (rd3 arg3 X3) (rd6 arg6 X6) (rd7 arg7 X7) v0 v1 v2 k acc⌝ ∗ Trip3 c arg3 arg6 arg7 X3 X6 X7)) := by
  obtain ⟨a1, a2, a3, a4, a5, a6⟩ := acc
  unfold k0_t3_body
  iintro ⟨HR_arg3, HR_arg6, HR_arg7⟩
  sl_exec
  split
  all_goals rename_i hb
  all_goals sl_exec
  all_goals sl_step
  all_goals isplitr
  · ipureintro
    unfold step3
    dsimp only
    have hb' : Scalar.cmpi .ne (Scalar.extui (Scalar.cmpf .ogt (k0_pay21 (F := F) (k0_pay19 v0 a1 a2 a3) 24#32) (Scalar.ofBits .f32 0x00000000#32))) 0#32 = 1#1 := hb
    rw [if_pos hb']
    rfl
  · isplitl [HR_arg3]; · iexact HR_arg3
    isplitl [HR_arg6]; · iexact HR_arg6
    iexact HR_arg7
  · ipureintro
    unfold step3
    dsimp only
    have hb' : ¬ Scalar.cmpi .ne (Scalar.extui (Scalar.cmpf .ogt (k0_pay21 (F := F) (k0_pay19 v0 a1 a2 a3) 24#32) (Scalar.ofBits .f32 0x00000000#32))) 0#32 = 1#1 := hb
    rw [if_neg hb']
    rfl
  · isplitl [HR_arg3]; · iexact HR_arg3
    isplitl [HR_arg6]; · iexact HR_arg6
    iexact HR_arg7

set_option warn.classDefReducibility false in
/-- The selection loop by its invariant: the tables stay, and the carried value is `st3`'s. -/
@[sl_loop] def loop3 (c : Dev nD) (arg0 : Memref sig .tc .vmem S64x64x96 .f32) (harg0 : arg0.IsWhole) (arg1 : Memref sig .tc .vmem S64x64 .i32) (harg1 : arg1.IsWhole) (arg2 : Memref sig .tc .vmem S64x1 .f32) (harg2 : arg2.IsWhole) (arg3 : Memref sig .tc .vmem S64x100x128 .f32) (harg3 : arg3.IsWhole) (arg4 : Memref sig .tc .vmem S64x64x100 .i32) (harg4 : arg4.IsWhole) (arg5 : Memref sig .tc .vmem S64x64x100 .i32) (harg5 : arg5.IsWhole) (arg6 : Memref sig .tc .vmem S24x64x100 .f32) (harg6 : arg6.IsWhole) (arg7 : Memref sig .tc .vmem S24x64x100 .i32) (harg7 : arg7.IsWhole) (X3 : BufTy.Contents (Elt F) arg3.view.ty) (X6 : BufTy.Contents (Elt F) arg6.view.ty) (X7 : BufTy.Contents (Elt F) arg7.view.ty)
    (v0 : IVec S64x100 32) (v1 : IVec S64x100x128 32) (v2 : IVec S64x100x128 32) (v4 : IVec S64x100x100 32) (k0_t1 : Fin k0_t1_loop.trips) (arg11 : IVec S64x100 32) (arg8 : BitVec 32) (v74 : FVec F S64x100 .f32) (v88 : FVec F S64x100 .f32) (v99 : FVec F S64x100 .f32) (v119 : FVec F S64x100x128 .f32) (v123 : FVec F S64x100 .f32) (v129 : IVec S64x100 32) (v536 : FVec F S64x100x128 .f32) (v537 : FVec F S64x100 .f32) (k0_h1 : ¬k0_cond1 k0_t1 = 1#1) (E : Set ℕ) (init : Acc3 F) :
    Idealize.ShloMosaic.LoopInv (M := 𝕄) Idealize.ShloMosaic.frame (wpE (defs₀ (F := F)) 𝒱₀ (c : Thread nD τ) none) E
      k0_t3_loop.lb k0_t3_loop.ub k0_t3_loop.st (k0_t3_ok k0_t1 k0_h1) init (k0_t3_body (F := F) arg0 harg0 arg1 harg1 arg2 harg2 arg3 harg3 arg4 harg4 arg5 harg5 arg6 harg6 arg7 harg7 v0 v1 v2 v4 k0_t1 arg11 arg8 v74 v88 v99 v119 v123 v129 v536 v537 k0_h1) where
  inv k acc := iprop((arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7)
    ∗ ⌜acc = st3 (rd3 arg3 X3) (rd6 arg6 X6) (rd7 arg7 X7) v0 v1 v2 init k⌝)
  step k acc := by
    iintro ⟨HR_arg3, HR_arg6, HR_arg7, %h⟩
    subst h
    iapply (wp_wand_r Idealize.ShloMosaic.frame (wpE (defs₀ (F := F)) 𝒱₀ (c : Thread nD τ) none) E)
    isplitl [HR_arg3 HR_arg6 HR_arg7]
    · iapply (trip3 c arg0 harg0 arg1 harg1 arg2 harg2 arg3 harg3 arg4 harg4 arg5 harg5 arg6 harg6 arg7 harg7 X3 X6 X7 v0 v1 v2 v4 k0_t1 arg11 arg8 v74 v88 v99 v119 v123 v129 v536 v537 k0_h1 k E)
      isplitl [HR_arg3]; · iexact HR_arg3
      isplitl [HR_arg6]; · iexact HR_arg6
      iexact HR_arg7
    · iintro %yld ⟨%h, HR_arg3, HR_arg6, HR_arg7⟩
      isplitl [HR_arg3]; · iexact HR_arg3
      isplitl [HR_arg6]; · iexact HR_arg6
      isplitl [HR_arg7]; · iexact HR_arg7
      ipureintro; rw [h]
      exact (st3_succ _ _ _ _ _ _ _ k).symm

end Cert.Proof.KernelIdeal

end
-- ==== Proof.KernelIdealStep.lean ====
module

public import proofs.«01_k».proof.Proof.KernelIdealSelect
public import Idealize.ShloMosaic.Lib.VecWindow
public import Idealize.ShloMosaic.Lib.WritesUnit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## Rows of a buffer after the stores of all its rows -/

section Rows

variable {sg : RefSig} {κ' : Kind} {sp : Space} {s : Shape} {e : EltTy} {Val : EltTy → Type}

/-- A load at the offsets of the newest store reads its payload. -/
theorem readAt_cons_same (v : View sg κ' sp s e) (f : v.ty.Contents Val) {off off' size : Fin s.rank → ℕ} (inb : ∀ a, off a + size a ≤ s.size a)
    (inb' : ∀ a, off' a + size a ≤ s.size a) (h : off' = off) (w : (Rect.unit off' size inb').shape.Idx → Val e) (L : List (View.Piece Val s e)) :
    v.readAt Val (Rect.unit off size inb).toLoadRect (v.writes Val f (⟨Rect.unit off' size inb', w⟩ :: L)) = w := by
  subst h
  funext y
  rw [View.readAt_apply]
  refine View.read_writes_cons_unit_of_mem v f inb w L _ y rfl fun a => ?_
  show off' a + 1 * (y a).val = _
  omega

/-- A load apart from the newest store on an axis reads what was there before it. -/
theorem readAt_cons_ne (v : View sg κ' sp s e) (f : v.ty.Contents Val) {off off' size : Fin s.rank → ℕ} (inb : ∀ a, off a + size a ≤ s.size a)
    (inb' : ∀ a, off' a + size a ≤ s.size a) (a : Fin s.rank) (h : off a + size a ≤ off' a ∨ off' a + size a ≤ off a)
    (w : (Rect.unit off' size inb').shape.Idx → Val e) (L : List (View.Piece Val s e)) :
    v.readAt Val (Rect.unit off size inb).toLoadRect (v.writes Val f (⟨Rect.unit off' size inb', w⟩ :: L))
      = v.readAt Val (Rect.unit off size inb).toLoadRect (v.writes Val f L) := by
  funext y
  rw [View.readAt_apply, View.readAt_apply]
  refine View.read_writes_cons_unit_of_not_mem v f inb' w L _ rfl a ?_
  have hy : (y a).val < size a := (y a).isLt
  show off a + 1 * (y a).val < _ ∨ _ ≤ off a + 1 * (y a).val
  omega

end Rows

/-- After stores of rows, row `m` of a head table reads what was stored there. -/
theorem readAt_rows {κ' : Kind} {sp : Space} {e : EltTy} (v : View sig κ' sp S24x64x100 e) (f : v.ty.Contents (Elt F))
    (p : Fin 24 → Vec F S1x64x100 e) (m : Fin 24) : ∀ l : List (Fin 24), m ∈ l →
    v.readAt (Elt F) (rowR m).toLoadRect (v.writes (Elt F) f (l.map fun i => ⟨rowR i, p i⟩)) = p m
  | [], h => absurd h (List.not_mem_nil)
  | i :: l, h => by
    by_cases hi : i = m
    · subst hi; exact readAt_cons_same v f _ _ rfl _ _
    · rw [List.map_cons, readAt_cons_ne v f _ _ (0 : Fin 3) (by
        have : i.val ≠ m.val := fun h => hi (Fin.ext h)
        show m.val + 1 ≤ i.val ∨ i.val + 1 ≤ m.val
        omega)]
      exact readAt_rows v f p m l ((List.mem_cons.mp h).resolve_left fun h => hi h.symm)

/-! ## One time step, as a function of the step's slab of posteriors `x` and the carried value -/

/-- The total score of keeping each prefix at a step. -/
def keep1 (x : Vec F S1x64x96 .f32) (v3 : IVec S64x100x96 32) (acc : Acc1 F) : FVec F S64x100 .f32 :=
  k0_pay73 v3 acc.1 acc.2.1 acc.2.2 x

/-- The candidate table of a step. -/
def cand1 (x : Vec F S1x64x96 .f32) (v3 : IVec S64x100x96 32) (acc : Acc1 F) : FVec F S64x100x128 .f32 :=
  k0_pay75 v3 acc.1 (k0_pay69 x) (k0_pay70 acc.1 acc.2.1) (keep1 x v3 acc) (k0_pay74 acc.2.2)

/-- The greatest value of each row of a table. -/
def topV (w : FVec F S64x100x128 .f32) : FVec F S64x100 .f32 :=
  multiReduction .maximumf [2] S64x100 w 0xFF800000#32 reduces_S64x100x128_S64x100 (.inl rfl) rfl

/-- The first lane of each row of a table that holds the row's greatest value. -/
def topL (v1 : IVec S64x100x128 32) (w : FVec F S64x100x128 .f32) : IVec S64x100 32 :=
  multiReductionI .minsi [2] S64x100
    (select (cmpf .oeq w (broadcastTo S64x100x128 (shapeCast S64x100x1 (topV w) shapeCasts_S64x100_S64x100x1) broadcasts_S64x100x1_S64x100x128)) v1 (broadcast S64x100x128 128#32))
    2147483647#32 reduces_S64x100x128_S64x100 rfl

/-- A table with that lane masked in each row. -/
def kill (v1 : IVec S64x100x128 32) (w : FVec F S64x100x128 .f32) : FVec F S64x100x128 .f32 :=
  select (cmpi .eq v1 (broadcastTo S64x100x128 (shapeCast S64x100x1 (topL v1 w) shapeCasts_S64x100_S64x100x1) broadcasts_S64x100x1_S64x100x128))
    (broadcast S64x100x128 (Named.named κ "padding" 0xFF61B1E6#32)) w

/-- The candidate table after `m` rounds of masking. -/
def wk (x : Vec F S1x64x96 .f32) (v1 : IVec S64x100x128 32) (v3 : IVec S64x100x96 32) (acc : Acc1 F) : ℕ → FVec F S64x100x128 .f32
  | 0 => cand1 x v3 acc
  | m + 1 => kill v1 (wk x v1 v3 acc m)

/-- The rows of the head values a step stores. -/
def vals1 (x : Vec F S1x64x96 .f32) (v1 : IVec S64x100x128 32) (v3 : IVec S64x100x96 32) (acc : Acc1 F) (m : Fin 24) : Vec F S1x64x100 .f32 :=
  shapeCast S1x64x100 (topV (wk x v1 v3 acc m.val)) shapeCasts_S64x100_S1x64x100

/-- The rows of the head lanes a step stores. -/
def lanes1 (x : Vec F S1x64x96 .f32) (v1 : IVec S64x100x128 32) (v3 : IVec S64x100x96 32) (acc : Acc1 F) (m : Fin 24) : Vec F S1x64x100 .i32 :=
  shapeCast S1x64x100 (topL v1 (wk x v1 v3 acc m.val)) shapeCasts_S64x100_S1x64x100

/-- The work table after 1 masked lanes of each row. -/
def work0 (x : Vec F S1x64x96 .f32) (v1 : IVec S64x100x128 32) (v3 : IVec S64x100x96 32) (acc : Acc1 F) : FVec F S64x100x128 .f32 :=
  k0_pay81 v1 v3 acc.1 (k0_pay69 x) (k0_pay70 acc.1 acc.2.1) (keep1 x v3 acc) (k0_pay74 acc.2.2)

/-- The row maxima of `work0`. -/
def top0 (x : Vec F S1x64x96 .f32) (v1 : IVec S64x100x128 32) (v3 : IVec S64x100x96 32) (acc : Acc1 F) : FVec F S64x100 .f32 :=
  k0_pay82 v1 v3 acc.1 (k0_pay69 x) (k0_pay70 acc.1 acc.2.1) (keep1 x v3 acc) (k0_pay74 acc.2.2)

/-- The work table after 3 masked lanes of each row. -/
def work1 (x : Vec F S1x64x96 .f32) (v1 : IVec S64x100x128 32) (v3 : IVec S64x100x96 32) (acc : Acc1 F) : FVec F S64x100x128 .f32 :=
  k0_pay91 v1 (work0 x v1 v3 acc) (top0 x v1 v3 acc)

/-- The row maxima of `work1`. -/
def top1 (x : Vec F S1x64x96 .f32) (v1 : IVec S64x100x128 32) (v3 : IVec S64x100x96 32) (acc : Acc1 F) : FVec F S64x100 .f32 :=
  k0_pay92 v1 (work0 x v1 v3 acc) (top0 x v1 v3 acc)

/-- The work table after 5 masked lanes of each row. -/
def work2 (x : Vec F S1x64x96 .f32) (v1 : IVec S64x100x128 32) (v3 : IVec S64x100x96 32) (acc : Acc1 F) : FVec F S64x100x128 .f32 :=
  k0_pay101 v1 (work1 x v1 v3 acc) (top1 x v1 v3 acc)

/-- The row maxima of `work2`. -/
def top2 (x : Vec F S1x64x96 .f32) (v1 : IVec S64x100x128 32) (v3 : IVec S64x100x96 32) (acc : Acc1 F) : FVec F S64x100 .f32 :=
  k0_pay102 v1 (work1 x v1 v3 acc) (top1 x v1 v3 acc)

/-- The work table after 7 masked lanes of each row. -/
def work3 (x : Vec F S1x64x96 .f32) (v1 : IVec S64x100x128 32) (v3 : IVec S64x100x96 32) (acc : Acc1 F) : FVec F S64x100x128 .f32 :=
  k0_pay111 v1 (work2 x v1 v3 acc) (top2 x v1 v3 acc)

/-- The row maxima of `work3`. -/
def top3 (x : Vec F S1x64x96 .f32) (v1 : IVec S64x100x128 32) (v3 : IVec S64x100x96 32) (acc : Acc1 F) : FVec F S64x100 .f32 :=
  k0_pay112 v1 (work2 x v1 v3 acc) (top2 x v1 v3 acc)

/-- The work table after 9 masked lanes of each row. -/
def work4 (x : Vec F S1x64x96 .f32) (v1 : IVec S64x100x128 32) (v3 : IVec S64x100x96 32) (acc : Acc1 F) : FVec F S64x100x128 .f32 :=
  k0_pay121 v1 (work3 x v1 v3 acc) (top3 x v1 v3 acc)

/-- The row maxima of `work4`. -/
def top4 (x : Vec F S1x64x96 .f32) (v1 : IVec S64x100x128 32) (v3 : IVec S64x100x96 32) (acc : Acc1 F) : FVec F S64x100 .f32 :=
  k0_pay122 v1 (work3 x v1 v3 acc) (top3 x v1 v3 acc)

/-- The work table after 11 masked lanes of each row. -/
def work5 (x : Vec F S1x64x96 .f32) (v1 : IVec S64x100x128 32) (v3 : IVec S64x100x96 32) (acc : Acc1 F) : FVec F S64x100x128 .f32 :=
  k0_pay131 v1 (work4 x v1 v3 acc) (top4 x v1 v3 acc)

/-- The row maxima of `work5`. -/
def top5 (x : Vec F S1x64x96 .f32) (v1 : IVec S64x100x128 32) (v3 : IVec S64x100x96 32) (acc : Acc1 F) : FVec F S64x100 .f32 :=
  k0_pay132 v1 (work4 x v1 v3 acc) (top4 x v1 v3 acc)

/-- The work table after 13 masked lanes of each row. -/
def work6 (x : Vec F S1x64x96 .f32) (v1 : IVec S64x100x128 32) (v3 : IVec S64x100x96 32) (acc : Acc1 F) : FVec F S64x100x128 .f32 :=
  k0_pay141 v1 (work5 x v1 v3 acc) (top5 x v1 v3 acc)

/-- The row maxima of `work6`. -/
def top6 (x : Vec F S1x64x96 .f32) (v1 : IVec S64x100x128 32) (v3 : IVec S64x100x96 32) (acc : Acc1 F) : FVec F S64x100 .f32 :=
  k0_pay142 v1 (work5 x v1 v3 acc) (top5 x v1 v3 acc)

/-- The work table after 15 masked lanes of each row. -/
def work7 (x : Vec F S1x64x96 .f32) (v1 : IVec S64x100x128 32) (v3 : IVec S64x100x96 32) (acc : Acc1 F) : FVec F S64x100x128 .f32 :=
  k0_pay151 v1 (work6 x v1 v3 acc) (top6 x v1 v3 acc)

/-- The row maxima of `work7`. -/
def top7 (x : Vec F S1x64x96 .f32) (v1 : IVec S64x100x128 32) (v3 : IVec S64x100x96 32) (acc : Acc1 F) : FVec F S64x100 .f32 :=
  k0_pay152 v1 (work6 x v1 v3 acc) (top6 x v1 v3 acc)

/-- The work table after 17 masked lanes of each row. -/
def work8 (x : Vec F S1x64x96 .f32) (v1 : IVec S64x100x128 32) (v3 : IVec S64x100x96 32) (acc : Acc1 F) : FVec F S64x100x128 .f32 :=
  k0_pay161 v1 (work7 x v1 v3 acc) (top7 x v1 v3 acc)

/-- The row maxima of `work8`. -/
def top8 (x : Vec F S1x64x96 .f32) (v1 : IVec S64x100x128 32) (v3 : IVec S64x100x96 32) (acc : Acc1 F) : FVec F S64x100 .f32 :=
  k0_pay162 v1 (work7 x v1 v3 acc) (top7 x v1 v3 acc)

/-- The work table after 19 masked lanes of each row. -/
def work9 (x : Vec F S1x64x96 .f32) (v1 : IVec S64x100x128 32) (v3 : IVec S64x100x96 32) (acc : Acc1 F) : FVec F S64x100x128 .f32 :=
  k0_pay171 v1 (work8 x v1 v3 acc) (top8 x v1 v3 acc)

/-- The row maxima of `work9`. -/
def top9 (x : Vec F S1x64x96 .f32) (v1 : IVec S64x100x128 32) (v3 : IVec S64x100x96 32) (acc : Acc1 F) : FVec F S64x100 .f32 :=
  k0_pay172 v1 (work8 x v1 v3 acc) (top8 x v1 v3 acc)

/-- The work table after 21 masked lanes of each row. -/
def work10 (x : Vec F S1x64x96 .f32) (v1 : IVec S64x100x128 32) (v3 : IVec S64x100x96 32) (acc : Acc1 F) : FVec F S64x100x128 .f32 :=
  k0_pay181 v1 (work9 x v1 v3 acc) (top9 x v1 v3 acc)

/-- The row maxima of `work10`. -/
def top10 (x : Vec F S1x64x96 .f32) (v1 : IVec S64x100x128 32) (v3 : IVec S64x100x96 32) (acc : Acc1 F) : FVec F S64x100 .f32 :=
  k0_pay182 v1 (work9 x v1 v3 acc) (top9 x v1 v3 acc)

/-- The work table after 23 masked lanes of each row. -/
def work11 (x : Vec F S1x64x96 .f32) (v1 : IVec S64x100x128 32) (v3 : IVec S64x100x96 32) (acc : Acc1 F) : FVec F S64x100x128 .f32 :=
  k0_pay191 v1 (work10 x v1 v3 acc) (top10 x v1 v3 acc)

/-- The row maxima of `work11`. -/
def top11 (x : Vec F S1x64x96 .f32) (v1 : IVec S64x100x128 32) (v3 : IVec S64x100x96 32) (acc : Acc1 F) : FVec F S64x100 .f32 :=
  k0_pay192 v1 (work10 x v1 v3 acc) (top10 x v1 v3 acc)

/-- What a step past the first starts its selection from. -/
def init3 (x : Vec F S1x64x96 .f32) (v1 : IVec S64x100x128 32) (v3 : IVec S64x100x96 32) (acc : Acc1 F) : Acc3 F :=
  (k0_pay77 v3 acc.1 (k0_pay69 x) (k0_pay70 acc.1 acc.2.1) (keep1 x v3 acc) (k0_pay74 acc.2.2),
    k0_pay78 v1 v3 acc.1 (k0_pay69 x) (k0_pay70 acc.1 acc.2.1) (keep1 x v3 acc) (k0_pay74 acc.2.2), k0_pay201, k0_pay195 (F := F), k0_pay196, k0_pay197)

/-- The first step's 96 rounds over the one live beam. -/
def first1 (x : Vec F S1x64x96 .f32) (v0 : IVec S64x100 32) (v3 : IVec S64x100x96 32) (acc : Acc1 F) : FVec F S64x128 .f32 × FVec F S64x100 .f32 × IVec S64x100 32 :=
  Scf.fold (fun (k : Fin k0_t2_loop.trips) (a : FVec F S64x128 .f32 × FVec F S64x100 .f32 × IVec S64x100 32) => (k0_pay7 a.1, k0_pay5 v0 k a.1 a.2.1, k0_pay6 v0 k a.1 a.2.2))
    (k0_pay2 (cand1 x v3 acc), k0_pay195, k0_pay197)

/-- A selection's score, beam and character code. -/
abbrev Sel (F : FTy → Type) : Type := FVec F S64x100 .f32 × IVec S64x100 32 × IVec S64x100 32

/-- The selection of step `k`. -/
def sel1 (k : Fin k0_t1_loop.trips) (x : Vec F S1x64x96 .f32) (v0 : IVec S64x100 32) (v1 v2 : IVec S64x100x128 32) (v3 : IVec S64x100x96 32) (acc : Acc1 F) : Sel F :=
  if k0_cond1 k = 1#1 then
    (k0_pay198 v0 (keep1 x v3 acc) (k0_pay9 v0 (keep1 x v3 acc) (first1 x v0 v3 acc).2.1), k0_pay199 v0 (k0_pay10 v0 k0_pay196),
      k0_pay200 v0 (k0_pay8 v0 (first1 x v0 v3 acc).2.2))
  else
    let s := st3 (k0_pay76 v3 acc.1 (k0_pay69 x) (k0_pay70 acc.1 acc.2.1) (keep1 x v3 acc) (k0_pay74 acc.2.2)) (vals1 x v1 v3 acc) (lanes1 x v1 v3 acc) v0 v1 v2 (init3 x v1 v3 acc) k0_t3_loop.trips
    (s.2.2.2.1, s.2.2.2.2.1, s.2.2.2.2.2)

/-- The carried value after a step, from its selection. -/
def next1 (x : Vec F S1x64x96 .f32) (v3 : IVec S64x100x96 32) (v4 : IVec S64x100x100 32) (acc : Acc1 F) (s : Sel F) : Acc1 F :=
  (k0_pay212 s.2.2 (k0_pay205 v4 (k0_pay71 acc.1 acc.2.1 x) s.2.1), k0_pay213 s.1 s.2.2 (k0_pay206 v4 (k0_pay72 v3 acc.2.1 acc.2.2 x) s.2.1),
    k0_pay214 s.2.2 (k0_pay207 v4 acc.2.2 s.2.1))

theorem work0_eq (x : Vec F S1x64x96 .f32) (v1 : IVec S64x100x128 32) (v3 : IVec S64x100x96 32) (acc : Acc1 F) : work0 x v1 v3 acc = wk x v1 v3 acc 1 := rfl
theorem top0_eq (x : Vec F S1x64x96 .f32) (v1 : IVec S64x100x128 32) (v3 : IVec S64x100x96 32) (acc : Acc1 F) : top0 x v1 v3 acc = topV (wk x v1 v3 acc 1) := rfl
theorem work1_eq (x : Vec F S1x64x96 .f32) (v1 : IVec S64x100x128 32) (v3 : IVec S64x100x96 32) (acc : Acc1 F) : work1 x v1 v3 acc = wk x v1 v3 acc 3 := by rw [work1, work0_eq, top0_eq]; rfl
theorem top1_eq (x : Vec F S1x64x96 .f32) (v1 : IVec S64x100x128 32) (v3 : IVec S64x100x96 32) (acc : Acc1 F) : top1 x v1 v3 acc = topV (wk x v1 v3 acc 3) := by rw [top1, work0_eq, top0_eq]; rfl
theorem work2_eq (x : Vec F S1x64x96 .f32) (v1 : IVec S64x100x128 32) (v3 : IVec S64x100x96 32) (acc : Acc1 F) : work2 x v1 v3 acc = wk x v1 v3 acc 5 := by rw [work2, work1_eq, top1_eq]; rfl
theorem top2_eq (x : Vec F S1x64x96 .f32) (v1 : IVec S64x100x128 32) (v3 : IVec S64x100x96 32) (acc : Acc1 F) : top2 x v1 v3 acc = topV (wk x v1 v3 acc 5) := by rw [top2, work1_eq, top1_eq]; rfl
theorem work3_eq (x : Vec F S1x64x96 .f32) (v1 : IVec S64x100x128 32) (v3 : IVec S64x100x96 32) (acc : Acc1 F) : work3 x v1 v3 acc = wk x v1 v3 acc 7 := by rw [work3, work2_eq, top2_eq]; rfl
theorem top3_eq (x : Vec F S1x64x96 .f32) (v1 : IVec S64x100x128 32) (v3 : IVec S64x100x96 32) (acc : Acc1 F) : top3 x v1 v3 acc = topV (wk x v1 v3 acc 7) := by rw [top3, work2_eq, top2_eq]; rfl
theorem work4_eq (x : Vec F S1x64x96 .f32) (v1 : IVec S64x100x128 32) (v3 : IVec S64x100x96 32) (acc : Acc1 F) : work4 x v1 v3 acc = wk x v1 v3 acc 9 := by rw [work4, work3_eq, top3_eq]; rfl
theorem top4_eq (x : Vec F S1x64x96 .f32) (v1 : IVec S64x100x128 32) (v3 : IVec S64x100x96 32) (acc : Acc1 F) : top4 x v1 v3 acc = topV (wk x v1 v3 acc 9) := by rw [top4, work3_eq, top3_eq]; rfl
theorem work5_eq (x : Vec F S1x64x96 .f32) (v1 : IVec S64x100x128 32) (v3 : IVec S64x100x96 32) (acc : Acc1 F) : work5 x v1 v3 acc = wk x v1 v3 acc 11 := by rw [work5, work4_eq, top4_eq]; rfl
theorem top5_eq (x : Vec F S1x64x96 .f32) (v1 : IVec S64x100x128 32) (v3 : IVec S64x100x96 32) (acc : Acc1 F) : top5 x v1 v3 acc = topV (wk x v1 v3 acc 11) := by rw [top5, work4_eq, top4_eq]; rfl
theorem work6_eq (x : Vec F S1x64x96 .f32) (v1 : IVec S64x100x128 32) (v3 : IVec S64x100x96 32) (acc : Acc1 F) : work6 x v1 v3 acc = wk x v1 v3 acc 13 := by rw [work6, work5_eq, top5_eq]; rfl
theorem top6_eq (x : Vec F S1x64x96 .f32) (v1 : IVec S64x100x128 32) (v3 : IVec S64x100x96 32) (acc : Acc1 F) : top6 x v1 v3 acc = topV (wk x v1 v3 acc 13) := by rw [top6, work5_eq, top5_eq]; rfl
theorem work7_eq (x : Vec F S1x64x96 .f32) (v1 : IVec S64x100x128 32) (v3 : IVec S64x100x96 32) (acc : Acc1 F) : work7 x v1 v3 acc = wk x v1 v3 acc 15 := by rw [work7, work6_eq, top6_eq]; rfl
theorem top7_eq (x : Vec F S1x64x96 .f32) (v1 : IVec S64x100x128 32) (v3 : IVec S64x100x96 32) (acc : Acc1 F) : top7 x v1 v3 acc = topV (wk x v1 v3 acc 15) := by rw [top7, work6_eq, top6_eq]; rfl
theorem work8_eq (x : Vec F S1x64x96 .f32) (v1 : IVec S64x100x128 32) (v3 : IVec S64x100x96 32) (acc : Acc1 F) : work8 x v1 v3 acc = wk x v1 v3 acc 17 := by rw [work8, work7_eq, top7_eq]; rfl
theorem top8_eq (x : Vec F S1x64x96 .f32) (v1 : IVec S64x100x128 32) (v3 : IVec S64x100x96 32) (acc : Acc1 F) : top8 x v1 v3 acc = topV (wk x v1 v3 acc 17) := by rw [top8, work7_eq, top7_eq]; rfl
theorem work9_eq (x : Vec F S1x64x96 .f32) (v1 : IVec S64x100x128 32) (v3 : IVec S64x100x96 32) (acc : Acc1 F) : work9 x v1 v3 acc = wk x v1 v3 acc 19 := by rw [work9, work8_eq, top8_eq]; rfl
theorem top9_eq (x : Vec F S1x64x96 .f32) (v1 : IVec S64x100x128 32) (v3 : IVec S64x100x96 32) (acc : Acc1 F) : top9 x v1 v3 acc = topV (wk x v1 v3 acc 19) := by rw [top9, work8_eq, top8_eq]; rfl
theorem work10_eq (x : Vec F S1x64x96 .f32) (v1 : IVec S64x100x128 32) (v3 : IVec S64x100x96 32) (acc : Acc1 F) : work10 x v1 v3 acc = wk x v1 v3 acc 21 := by rw [work10, work9_eq, top9_eq]; rfl
theorem top10_eq (x : Vec F S1x64x96 .f32) (v1 : IVec S64x100x128 32) (v3 : IVec S64x100x96 32) (acc : Acc1 F) : top10 x v1 v3 acc = topV (wk x v1 v3 acc 21) := by rw [top10, work9_eq, top9_eq]; rfl
theorem work11_eq (x : Vec F S1x64x96 .f32) (v1 : IVec S64x100x128 32) (v3 : IVec S64x100x96 32) (acc : Acc1 F) : work11 x v1 v3 acc = wk x v1 v3 acc 23 := by rw [work11, work10_eq, top10_eq]; rfl
theorem top11_eq (x : Vec F S1x64x96 .f32) (v1 : IVec S64x100x128 32) (v3 : IVec S64x100x96 32) (acc : Acc1 F) : top11 x v1 v3 acc = topV (wk x v1 v3 acc 23) := by rw [top11, work10_eq, top10_eq]; rfl

theorem vals1_0 (x : Vec F S1x64x96 .f32) (v1 : IVec S64x100x128 32) (v3 : IVec S64x100x96 32) (acc : Acc1 F) : k0_pay79 v3 acc.1 (k0_pay69 x) (k0_pay70 acc.1 acc.2.1) (keep1 x v3 acc) (k0_pay74 acc.2.2) = vals1 x v1 v3 acc 0 := rfl
theorem vals1_1 (x : Vec F S1x64x96 .f32) (v1 : IVec S64x100x128 32) (v3 : IVec S64x100x96 32) (acc : Acc1 F) : k0_pay84 (top0 x v1 v3 acc) = vals1 x v1 v3 acc 1 := by rw [top0_eq]; rfl
theorem vals1_2 (x : Vec F S1x64x96 .f32) (v1 : IVec S64x100x128 32) (v3 : IVec S64x100x96 32) (acc : Acc1 F) : k0_pay89 v1 (work0 x v1 v3 acc) (top0 x v1 v3 acc) = vals1 x v1 v3 acc 2 := by rw [work0_eq, top0_eq]; rfl
theorem vals1_3 (x : Vec F S1x64x96 .f32) (v1 : IVec S64x100x128 32) (v3 : IVec S64x100x96 32) (acc : Acc1 F) : k0_pay94 (top1 x v1 v3 acc) = vals1 x v1 v3 acc 3 := by rw [top1_eq]; rfl
theorem vals1_4 (x : Vec F S1x64x96 .f32) (v1 : IVec S64x100x128 32) (v3 : IVec S64x100x96 32) (acc : Acc1 F) : k0_pay99 v1 (work1 x v1 v3 acc) (top1 x v1 v3 acc) = vals1 x v1 v3 acc 4 := by rw [work1_eq, top1_eq]; rfl
theorem vals1_5 (x : Vec F S1x64x96 .f32) (v1 : IVec S64x100x128 32) (v3 : IVec S64x100x96 32) (acc : Acc1 F) : k0_pay104 (top2 x v1 v3 acc) = vals1 x v1 v3 acc 5 := by rw [top2_eq]; rfl
theorem vals1_6 (x : Vec F S1x64x96 .f32) (v1 : IVec S64x100x128 32) (v3 : IVec S64x100x96 32) (acc : Acc1 F) : k0_pay109 v1 (work2 x v1 v3 acc) (top2 x v1 v3 acc) = vals1 x v1 v3 acc 6 := by rw [work2_eq, top2_eq]; rfl
theorem vals1_7 (x : Vec F S1x64x96 .f32) (v1 : IVec S64x100x128 32) (v3 : IVec S64x100x96 32) (acc : Acc1 F) : k0_pay114 (top3 x v1 v3 acc) = vals1 x v1 v3 acc 7 := by rw [top3_eq]; rfl
theorem vals1_8 (x : Vec F S1x64x96 .f32) (v1 : IVec S64x100x128 32) (v3 : IVec S64x100x96 32) (acc : Acc1 F) : k0_pay119 v1 (work3 x v1 v3 acc) (top3 x v1 v3 acc) = vals1 x v1 v3 acc 8 := by rw [work3_eq, top3_eq]; rfl
theorem vals1_9 (x : Vec F S1x64x96 .f32) (v1 : IVec S64x100x128 32) (v3 : IVec S64x100x96 32) (acc : Acc1 F) : k0_pay124 (top4 x v1 v3 acc) = vals1 x v1 v3 acc 9 := by rw [top4_eq]; rfl
theorem vals1_10 (x : Vec F S1x64x96 .f32) (v1 : IVec S64x100x128 32) (v3 : IVec S64x100x96 32) (acc : Acc1 F) : k0_pay129 v1 (work4 x v1 v3 acc) (top4 x v1 v3 acc) = vals1 x v1 v3 acc 10 := by rw [work4_eq, top4_eq]; rfl
theorem vals1_11 (x : Vec F S1x64x96 .f32) (v1 : IVec S64x100x128 32) (v3 : IVec S64x100x96 32) (acc : Acc1 F) : k0_pay134 (top5 x v1 v3 acc) = vals1 x v1 v3 acc 11 := by rw [top5_eq]; rfl
theorem vals1_12 (x : Vec F S1x64x96 .f32) (v1 : IVec S64x100x128 32) (v3 : IVec S64x100x96 32) (acc : Acc1 F) : k0_pay139 v1 (work5 x v1 v3 acc) (top5 x v1 v3 acc) = vals1 x v1 v3 acc 12 := by rw [work5_eq, top5_eq]; rfl
theorem vals1_13 (x : Vec F S1x64x96 .f32) (v1 : IVec S64x100x128 32) (v3 : IVec S64x100x96 32) (acc : Acc1 F) : k0_pay144 (top6 x v1 v3 acc) = vals1 x v1 v3 acc 13 := by rw [top6_eq]; rfl
theorem vals1_14 (x : Vec F S1x64x96 .f32) (v1 : IVec S64x100x128 32) (v3 : IVec S64x100x96 32) (acc : Acc1 F) : k0_pay149 v1 (work6 x v1 v3 acc) (top6 x v1 v3 acc) = vals1 x v1 v3 acc 14 := by rw [work6_eq, top6_eq]; rfl
theorem vals1_15 (x : Vec F S1x64x96 .f32) (v1 : IVec S64x100x128 32) (v3 : IVec S64x100x96 32) (acc : Acc1 F) : k0_pay154 (top7 x v1 v3 acc) = vals1 x v1 v3 acc 15 := by rw [top7_eq]; rfl
theorem vals1_16 (x : Vec F S1x64x96 .f32) (v1 : IVec S64x100x128 32) (v3 : IVec S64x100x96 32) (acc : Acc1 F) : k0_pay159 v1 (work7 x v1 v3 acc) (top7 x v1 v3 acc) = vals1 x v1 v3 acc 16 := by rw [work7_eq, top7_eq]; rfl
theorem vals1_17 (x : Vec F S1x64x96 .f32) (v1 : IVec S64x100x128 32) (v3 : IVec S64x100x96 32) (acc : Acc1 F) : k0_pay164 (top8 x v1 v3 acc) = vals1 x v1 v3 acc 17 := by rw [top8_eq]; rfl
theorem vals1_18 (x : Vec F S1x64x96 .f32) (v1 : IVec S64x100x128 32) (v3 : IVec S64x100x96 32) (acc : Acc1 F) : k0_pay169 v1 (work8 x v1 v3 acc) (top8 x v1 v3 acc) = vals1 x v1 v3 acc 18 := by rw [work8_eq, top8_eq]; rfl
theorem vals1_19 (x : Vec F S1x64x96 .f32) (v1 : IVec S64x100x128 32) (v3 : IVec S64x100x96 32) (acc : Acc1 F) : k0_pay174 (top9 x v1 v3 acc) = vals1 x v1 v3 acc 19 := by rw [top9_eq]; rfl
theorem vals1_20 (x : Vec F S1x64x96 .f32) (v1 : IVec S64x100x128 32) (v3 : IVec S64x100x96 32) (acc : Acc1 F) : k0_pay179 v1 (work9 x v1 v3 acc) (top9 x v1 v3 acc) = vals1 x v1 v3 acc 20 := by rw [work9_eq, top9_eq]; rfl
theorem vals1_21 (x : Vec F S1x64x96 .f32) (v1 : IVec S64x100x128 32) (v3 : IVec S64x100x96 32) (acc : Acc1 F) : k0_pay184 (top10 x v1 v3 acc) = vals1 x v1 v3 acc 21 := by rw [top10_eq]; rfl
theorem vals1_22 (x : Vec F S1x64x96 .f32) (v1 : IVec S64x100x128 32) (v3 : IVec S64x100x96 32) (acc : Acc1 F) : k0_pay189 v1 (work10 x v1 v3 acc) (top10 x v1 v3 acc) = vals1 x v1 v3 acc 22 := by rw [work10_eq, top10_eq]; rfl
theorem vals1_23 (x : Vec F S1x64x96 .f32) (v1 : IVec S64x100x128 32) (v3 : IVec S64x100x96 32) (acc : Acc1 F) : k0_pay193 (top11 x v1 v3 acc) = vals1 x v1 v3 acc 23 := by rw [top11_eq]; rfl

theorem lanes1_0 (x : Vec F S1x64x96 .f32) (v1 : IVec S64x100x128 32) (v3 : IVec S64x100x96 32) (acc : Acc1 F) : k0_pay80 v1 v3 acc.1 (k0_pay69 x) (k0_pay70 acc.1 acc.2.1) (keep1 x v3 acc) (k0_pay74 acc.2.2) = lanes1 x v1 v3 acc 0 := rfl
theorem lanes1_1 (x : Vec F S1x64x96 .f32) (v1 : IVec S64x100x128 32) (v3 : IVec S64x100x96 32) (acc : Acc1 F) : k0_pay85 v1 (work0 x v1 v3 acc) (top0 x v1 v3 acc) = lanes1 x v1 v3 acc 1 := by rw [work0_eq, top0_eq]; rfl
theorem lanes1_2 (x : Vec F S1x64x96 .f32) (v1 : IVec S64x100x128 32) (v3 : IVec S64x100x96 32) (acc : Acc1 F) : k0_pay90 v1 (work0 x v1 v3 acc) (top0 x v1 v3 acc) = lanes1 x v1 v3 acc 2 := by rw [work0_eq, top0_eq]; rfl
theorem lanes1_3 (x : Vec F S1x64x96 .f32) (v1 : IVec S64x100x128 32) (v3 : IVec S64x100x96 32) (acc : Acc1 F) : k0_pay95 v1 (work1 x v1 v3 acc) (top1 x v1 v3 acc) = lanes1 x v1 v3 acc 3 := by rw [work1_eq, top1_eq]; rfl
theorem lanes1_4 (x : Vec F S1x64x96 .f32) (v1 : IVec S64x100x128 32) (v3 : IVec S64x100x96 32) (acc : Acc1 F) : k0_pay100 v1 (work1 x v1 v3 acc) (top1 x v1 v3 acc) = lanes1 x v1 v3 acc 4 := by rw [work1_eq, top1_eq]; rfl
theorem lanes1_5 (x : Vec F S1x64x96 .f32) (v1 : IVec S64x100x128 32) (v3 : IVec S64x100x96 32) (acc : Acc1 F) : k0_pay105 v1 (work2 x v1 v3 acc) (top2 x v1 v3 acc) = lanes1 x v1 v3 acc 5 := by rw [work2_eq, top2_eq]; rfl
theorem lanes1_6 (x : Vec F S1x64x96 .f32) (v1 : IVec S64x100x128 32) (v3 : IVec S64x100x96 32) (acc : Acc1 F) : k0_pay110 v1 (work2 x v1 v3 acc) (top2 x v1 v3 acc) = lanes1 x v1 v3 acc 6 := by rw [work2_eq, top2_eq]; rfl
theorem lanes1_7 (x : Vec F S1x64x96 .f32) (v1 : IVec S64x100x128 32) (v3 : IVec S64x100x96 32) (acc : Acc1 F) : k0_pay115 v1 (work3 x v1 v3 acc) (top3 x v1 v3 acc) = lanes1 x v1 v3 acc 7 := by rw [work3_eq, top3_eq]; rfl
theorem lanes1_8 (x : Vec F S1x64x96 .f32) (v1 : IVec S64x100x128 32) (v3 : IVec S64x100x96 32) (acc : Acc1 F) : k0_pay120 v1 (work3 x v1 v3 acc) (top3 x v1 v3 acc) = lanes1 x v1 v3 acc 8 := by rw [work3_eq, top3_eq]; rfl
theorem lanes1_9 (x : Vec F S1x64x96 .f32) (v1 : IVec S64x100x128 32) (v3 : IVec S64x100x96 32) (acc : Acc1 F) : k0_pay125 v1 (work4 x v1 v3 acc) (top4 x v1 v3 acc) = lanes1 x v1 v3 acc 9 := by rw [work4_eq, top4_eq]; rfl
theorem lanes1_10 (x : Vec F S1x64x96 .f32) (v1 : IVec S64x100x128 32) (v3 : IVec S64x100x96 32) (acc : Acc1 F) : k0_pay130 v1 (work4 x v1 v3 acc) (top4 x v1 v3 acc) = lanes1 x v1 v3 acc 10 := by rw [work4_eq, top4_eq]; rfl
theorem lanes1_11 (x : Vec F S1x64x96 .f32) (v1 : IVec S64x100x128 32) (v3 : IVec S64x100x96 32) (acc : Acc1 F) : k0_pay135 v1 (work5 x v1 v3 acc) (top5 x v1 v3 acc) = lanes1 x v1 v3 acc 11 := by rw [work5_eq, top5_eq]; rfl
theorem lanes1_12 (x : Vec F S1x64x96 .f32) (v1 : IVec S64x100x128 32) (v3 : IVec S64x100x96 32) (acc : Acc1 F) : k0_pay140 v1 (work5 x v1 v3 acc) (top5 x v1 v3 acc) = lanes1 x v1 v3 acc 12 := by rw [work5_eq, top5_eq]; rfl
theorem lanes1_13 (x : Vec F S1x64x96 .f32) (v1 : IVec S64x100x128 32) (v3 : IVec S64x100x96 32) (acc : Acc1 F) : k0_pay145 v1 (work6 x v1 v3 acc) (top6 x v1 v3 acc) = lanes1 x v1 v3 acc 13 := by rw [work6_eq, top6_eq]; rfl
theorem lanes1_14 (x : Vec F S1x64x96 .f32) (v1 : IVec S64x100x128 32) (v3 : IVec S64x100x96 32) (acc : Acc1 F) : k0_pay150 v1 (work6 x v1 v3 acc) (top6 x v1 v3 acc) = lanes1 x v1 v3 acc 14 := by rw [work6_eq, top6_eq]; rfl
theorem lanes1_15 (x : Vec F S1x64x96 .f32) (v1 : IVec S64x100x128 32) (v3 : IVec S64x100x96 32) (acc : Acc1 F) : k0_pay155 v1 (work7 x v1 v3 acc) (top7 x v1 v3 acc) = lanes1 x v1 v3 acc 15 := by rw [work7_eq, top7_eq]; rfl
theorem lanes1_16 (x : Vec F S1x64x96 .f32) (v1 : IVec S64x100x128 32) (v3 : IVec S64x100x96 32) (acc : Acc1 F) : k0_pay160 v1 (work7 x v1 v3 acc) (top7 x v1 v3 acc) = lanes1 x v1 v3 acc 16 := by rw [work7_eq, top7_eq]; rfl
theorem lanes1_17 (x : Vec F S1x64x96 .f32) (v1 : IVec S64x100x128 32) (v3 : IVec S64x100x96 32) (acc : Acc1 F) : k0_pay165 v1 (work8 x v1 v3 acc) (top8 x v1 v3 acc) = lanes1 x v1 v3 acc 17 := by rw [work8_eq, top8_eq]; rfl
theorem lanes1_18 (x : Vec F S1x64x96 .f32) (v1 : IVec S64x100x128 32) (v3 : IVec S64x100x96 32) (acc : Acc1 F) : k0_pay170 v1 (work8 x v1 v3 acc) (top8 x v1 v3 acc) = lanes1 x v1 v3 acc 18 := by rw [work8_eq, top8_eq]; rfl
theorem lanes1_19 (x : Vec F S1x64x96 .f32) (v1 : IVec S64x100x128 32) (v3 : IVec S64x100x96 32) (acc : Acc1 F) : k0_pay175 v1 (work9 x v1 v3 acc) (top9 x v1 v3 acc) = lanes1 x v1 v3 acc 19 := by rw [work9_eq, top9_eq]; rfl
theorem lanes1_20 (x : Vec F S1x64x96 .f32) (v1 : IVec S64x100x128 32) (v3 : IVec S64x100x96 32) (acc : Acc1 F) : k0_pay180 v1 (work9 x v1 v3 acc) (top9 x v1 v3 acc) = lanes1 x v1 v3 acc 20 := by rw [work9_eq, top9_eq]; rfl
theorem lanes1_21 (x : Vec F S1x64x96 .f32) (v1 : IVec S64x100x128 32) (v3 : IVec S64x100x96 32) (acc : Acc1 F) : k0_pay185 v1 (work10 x v1 v3 acc) (top10 x v1 v3 acc) = lanes1 x v1 v3 acc 21 := by rw [work10_eq, top10_eq]; rfl
theorem lanes1_22 (x : Vec F S1x64x96 .f32) (v1 : IVec S64x100x128 32) (v3 : IVec S64x100x96 32) (acc : Acc1 F) : k0_pay190 v1 (work10 x v1 v3 acc) (top10 x v1 v3 acc) = lanes1 x v1 v3 acc 22 := by rw [work10_eq, top10_eq]; rfl
theorem lanes1_23 (x : Vec F S1x64x96 .f32) (v1 : IVec S64x100x128 32) (v3 : IVec S64x100x96 32) (acc : Acc1 F) : k0_pay194 v1 (work11 x v1 v3 acc) (top11 x v1 v3 acc) = lanes1 x v1 v3 acc 23 := by rw [work11_eq, top11_eq]; rfl

local notation "𝕄" => MT nD τ sig Unit (Elt F) ℕ (UR sig nD τ) ℕ

/-- Step `k`'s slab of the posteriors. -/
abbrev rd0 (arg0 : Memref sig .tc .vmem S64x64x96 .f32) (X0 : BufTy.Contents (Elt F) arg0.view.ty) (k : Fin k0_t1_loop.trips) : Vec F S1x64x96 .f32 :=
  View.readAt (Elt F) arg0.view (Rect.unit (s := S64x64x96) (k0_off1 k) S1x64x96.size (k0_off1_inb k)).toLoadRect X0

/-- The table row step `k` writes. -/
abbrev rowT (k : Fin k0_t1_loop.trips) : Rect S64x64x100 := Rect.unit (s := S64x64x100) (k0_off2 k) S1x64x100.size (k0_off2_inb k)

set_option maxRecDepth 100000 in
set_option maxHeartbeats 4000000 in
/-- One time step, run: it yields `next1` of its selection, and writes the selection into row `k` of the two tables. -/
theorem trip1 (c : Dev nD) (arg0 : Memref sig .tc .vmem S64x64x96 .f32) (harg0 : arg0.IsWhole) (arg1 : Memref sig .tc .vmem S64x64 .i32) (harg1 : arg1.IsWhole) (arg2 : Memref sig .tc .vmem S64x1 .f32) (harg2 : arg2.IsWhole) (arg3 : Memref sig .tc .vmem S64x100x128 .f32) (harg3 : arg3.IsWhole) (arg4 : Memref sig .tc .vmem S64x64x100 .i32) (harg4 : arg4.IsWhole) (arg5 : Memref sig .tc .vmem S64x64x100 .i32) (harg5 : arg5.IsWhole) (arg6 : Memref sig .tc .vmem S24x64x100 .f32) (harg6 : arg6.IsWhole) (arg7 : Memref sig .tc .vmem S24x64x100 .i32) (harg7 : arg7.IsWhole) (X0 : BufTy.Contents (Elt F) arg0.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (v0 : IVec S64x100 32) (v1 v2 : IVec S64x100x128 32) (v3 : IVec S64x100x96 32) (v4 : IVec S64x100x100 32) (k : Fin k0_t1_loop.trips) (E : Set ℕ) (acc : Acc1 F) :
    (iprop((arg0.view.loc (c : Thread nD τ) ↦[arg0.view.set]{fullShare} X0) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7)) : sProp 𝕄) ⊢ wp frame (wpE (defs₀ (F := F)) 𝒱₀ (c : Thread nD τ) none) E
      (k0_t1_body (F := F) arg0 harg0 arg1 harg1 arg2 harg2 arg3 harg3 arg4 harg4 arg5 harg5 arg6 harg6 arg7 harg7 v0 v1 v2 v3 v4 k acc)
      (fun yld => iprop(⌜yld = next1 (rd0 arg0 X0 k) v3 v4 acc (sel1 k (rd0 arg0 X0 k) v0 v1 v2 v3 acc)⌝ ∗ (arg0.view.loc (c : Thread nD τ) ↦[arg0.view.set]{fullShare} X0) ∗ (∃ X3', (arg3.view.loc (c : Thread nD τ) ↦[arg3.view.set]{fullShare} X3'))
        ∗ (∃ X4', ⌜X4' = arg4.view.writes (Elt F) X4 [⟨rowT k, k0_pay215 (sel1 k (rd0 arg0 X0 k) v0 v1 v2 v3 acc).2.1⟩]⌝ ∗ (arg4.view.loc (c : Thread nD τ) ↦[arg4.view.set]{fullShare} X4'))
        ∗ (∃ X5', ⌜X5' = arg5.view.writes (Elt F) X5 [⟨rowT k, k0_pay216 (sel1 k (rd0 arg0 X0 k) v0 v1 v2 v3 acc).2.2⟩]⌝ ∗ (arg5.view.loc (c : Thread nD τ) ↦[arg5.view.set]{fullShare} X5'))
        ∗ (∃ X6', (arg6.view.loc (c : Thread nD τ) ↦[arg6.view.set]{fullShare} X6')) ∗ (∃ X7', (arg7.view.loc (c : Thread nD τ) ↦[arg7.view.set]{fullShare} X7')))) := by
  obtain ⟨a1, a2, a3⟩ := acc
  have h6 : rd6 arg6 (arg6.view.writes (Elt F) arg6.view.junk [⟨Rect.unit (s := S24x64x100) ![23, 0, 0] S1x64x100.size inb_S24x64x100_S1x64x100_23_0_0, k0_pay193 (top11 (rd0 arg0 X0 k) v1 v3 (a1, a2, a3))⟩, ⟨Rect.unit (s := S24x64x100) ![22, 0, 0] S1x64x100.size inb_S24x64x100_S1x64x100_22_0_0, k0_pay189 v1 (work10 (rd0 arg0 X0 k) v1 v3 (a1, a2, a3)) (top10 (rd0 arg0 X0 k) v1 v3 (a1, a2, a3))⟩, ⟨Rect.unit (s := S24x64x100) ![21, 0, 0] S1x64x100.size inb_S24x64x100_S1x64x100_21_0_0, k0_pay184 (top10 (rd0 arg0 X0 k) v1 v3 (a1, a2, a3))⟩, ⟨Rect.unit (s := S24x64x100) ![20, 0, 0] S1x64x100.size inb_S24x64x100_S1x64x100_20_0_0, k0_pay179 v1 (work9 (rd0 arg0 X0 k) v1 v3 (a1, a2, a3)) (top9 (rd0 arg0 X0 k) v1 v3 (a1, a2, a3))⟩, ⟨Rect.unit (s := S24x64x100) ![19, 0, 0] S1x64x100.size inb_S24x64x100_S1x64x100_19_0_0, k0_pay174 (top9 (rd0 arg0 X0 k) v1 v3 (a1, a2, a3))⟩, ⟨Rect.unit (s := S24x64x100) ![18, 0, 0] S1x64x100.size inb_S24x64x100_S1x64x100_18_0_0, k0_pay169 v1 (work8 (rd0 arg0 X0 k) v1 v3 (a1, a2, a3)) (top8 (rd0 arg0 X0 k) v1 v3 (a1, a2, a3))⟩, ⟨Rect.unit (s := S24x64x100) ![17, 0, 0] S1x64x100.size inb_S24x64x100_S1x64x100_17_0_0, k0_pay164 (top8 (rd0 arg0 X0 k) v1 v3 (a1, a2, a3))⟩, ⟨Rect.unit (s := S24x64x100) ![16, 0, 0] S1x64x100.size inb_S24x64x100_S1x64x100_16_0_0, k0_pay159 v1 (work7 (rd0 arg0 X0 k) v1 v3 (a1, a2, a3)) (top7 (rd0 arg0 X0 k) v1 v3 (a1, a2, a3))⟩, ⟨Rect.unit (s := S24x64x100) ![15, 0, 0] S1x64x100.size inb_S24x64x100_S1x64x100_15_0_0, k0_pay154 (top7 (rd0 arg0 X0 k) v1 v3 (a1, a2, a3))⟩, ⟨Rect.unit (s := S24x64x100) ![14, 0, 0] S1x64x100.size inb_S24x64x100_S1x64x100_14_0_0, k0_pay149 v1 (work6 (rd0 arg0 X0 k) v1 v3 (a1, a2, a3)) (top6 (rd0 arg0 X0 k) v1 v3 (a1, a2, a3))⟩, ⟨Rect.unit (s := S24x64x100) ![13, 0, 0] S1x64x100.size inb_S24x64x100_S1x64x100_13_0_0, k0_pay144 (top6 (rd0 arg0 X0 k) v1 v3 (a1, a2, a3))⟩, ⟨Rect.unit (s := S24x64x100) ![12, 0, 0] S1x64x100.size inb_S24x64x100_S1x64x100_12_0_0, k0_pay139 v1 (work5 (rd0 arg0 X0 k) v1 v3 (a1, a2, a3)) (top5 (rd0 arg0 X0 k) v1 v3 (a1, a2, a3))⟩, ⟨Rect.unit (s := S24x64x100) ![11, 0, 0] S1x64x100.size inb_S24x64x100_S1x64x100_11_0_0, k0_pay134 (top5 (rd0 arg0 X0 k) v1 v3 (a1, a2, a3))⟩, ⟨Rect.unit (s := S24x64x100) ![10, 0, 0] S1x64x100.size inb_S24x64x100_S1x64x100_10_0_0, k0_pay129 v1 (work4 (rd0 arg0 X0 k) v1 v3 (a1, a2, a3)) (top4 (rd0 arg0 X0 k) v1 v3 (a1, a2, a3))⟩, ⟨Rect.unit (s := S24x64x100) ![9, 0, 0] S1x64x100.size inb_S24x64x100_S1x64x100_9_0_0, k0_pay124 (top4 (rd0 arg0 X0 k) v1 v3 (a1, a2, a3))⟩, ⟨Rect.unit (s := S24x64x100) ![8, 0, 0] S1x64x100.size inb_S24x64x100_S1x64x100_8_0_0, k0_pay119 v1 (work3 (rd0 arg0 X0 k) v1 v3 (a1, a2, a3)) (top3 (rd0 arg0 X0 k) v1 v3 (a1, a2, a3))⟩, ⟨Rect.unit (s := S24x64x100) ![7, 0, 0] S1x64x100.size inb_S24x64x100_S1x64x100_7_0_0, k0_pay114 (top3 (rd0 arg0 X0 k) v1 v3 (a1, a2, a3))⟩, ⟨Rect.unit (s := S24x64x100) ![6, 0, 0] S1x64x100.size inb_S24x64x100_S1x64x100_6_0_0, k0_pay109 v1 (work2 (rd0 arg0 X0 k) v1 v3 (a1, a2, a3)) (top2 (rd0 arg0 X0 k) v1 v3 (a1, a2, a3))⟩, ⟨Rect.unit (s := S24x64x100) ![5, 0, 0] S1x64x100.size inb_S24x64x100_S1x64x100_5_0_0, k0_pay104 (top2 (rd0 arg0 X0 k) v1 v3 (a1, a2, a3))⟩, ⟨Rect.unit (s := S24x64x100) ![4, 0, 0] S1x64x100.size inb_S24x64x100_S1x64x100_4_0_0, k0_pay99 v1 (work1 (rd0 arg0 X0 k) v1 v3 (a1, a2, a3)) (top1 (rd0 arg0 X0 k) v1 v3 (a1, a2, a3))⟩, ⟨Rect.unit (s := S24x64x100) ![3, 0, 0] S1x64x100.size inb_S24x64x100_S1x64x100_3_0_0, k0_pay94 (top1 (rd0 arg0 X0 k) v1 v3 (a1, a2, a3))⟩, ⟨Rect.unit (s := S24x64x100) ![2, 0, 0] S1x64x100.size inb_S24x64x100_S1x64x100_2_0_0, k0_pay89 v1 (work0 (rd0 arg0 X0 k) v1 v3 (a1, a2, a3)) (top0 (rd0 arg0 X0 k) v1 v3 (a1, a2, a3))⟩, ⟨Rect.unit (s := S24x64x100) ![1, 0, 0] S1x64x100.size inb_S24x64x100_S1x64x100_1_0_0, k0_pay84 (top0 (rd0 arg0 X0 k) v1 v3 (a1, a2, a3))⟩, ⟨Rect.unit (s := S24x64x100) ![0, 0, 0] S1x64x100.size inb_S24x64x100_S1x64x100_0_0_0, k0_pay79 v3 a1 (k0_pay69 (rd0 arg0 X0 k)) (k0_pay70 a1 a2) (keep1 (rd0 arg0 X0 k) v3 (a1, a2, a3)) (k0_pay74 a3)⟩])
      = vals1 (rd0 arg0 X0 k) v1 v3 (a1, a2, a3) := by
    rw [vals1_0 (rd0 arg0 X0 k) v1 v3 (a1, a2, a3), vals1_1 (rd0 arg0 X0 k) v1 v3 (a1, a2, a3), vals1_2 (rd0 arg0 X0 k) v1 v3 (a1, a2, a3), vals1_3 (rd0 arg0 X0 k) v1 v3 (a1, a2, a3), vals1_4 (rd0 arg0 X0 k) v1 v3 (a1, a2, a3), vals1_5 (rd0 arg0 X0 k) v1 v3 (a1, a2, a3), vals1_6 (rd0 arg0 X0 k) v1 v3 (a1, a2, a3), vals1_7 (rd0 arg0 X0 k) v1 v3 (a1, a2, a3), vals1_8 (rd0 arg0 X0 k) v1 v3 (a1, a2, a3), vals1_9 (rd0 arg0 X0 k) v1 v3 (a1, a2, a3), vals1_10 (rd0 arg0 X0 k) v1 v3 (a1, a2, a3), vals1_11 (rd0 arg0 X0 k) v1 v3 (a1, a2, a3), vals1_12 (rd0 arg0 X0 k) v1 v3 (a1, a2, a3), vals1_13 (rd0 arg0 X0 k) v1 v3 (a1, a2, a3), vals1_14 (rd0 arg0 X0 k) v1 v3 (a1, a2, a3), vals1_15 (rd0 arg0 X0 k) v1 v3 (a1, a2, a3), vals1_16 (rd0 arg0 X0 k) v1 v3 (a1, a2, a3), vals1_17 (rd0 arg0 X0 k) v1 v3 (a1, a2, a3), vals1_18 (rd0 arg0 X0 k) v1 v3 (a1, a2, a3), vals1_19 (rd0 arg0 X0 k) v1 v3 (a1, a2, a3), vals1_20 (rd0 arg0 X0 k) v1 v3 (a1, a2, a3), vals1_21 (rd0 arg0 X0 k) v1 v3 (a1, a2, a3), vals1_22 (rd0 arg0 X0 k) v1 v3 (a1, a2, a3), vals1_23 (rd0 arg0 X0 k) v1 v3 (a1, a2, a3)]
    exact funext fun m => readAt_rows _ _ (vals1 (rd0 arg0 X0 k) v1 v3 (a1, a2, a3)) m [23, 22, 21, 20, 19, 18, 17, 16, 15, 14, 13, 12, 11, 10, 9, 8, 7, 6, 5, 4, 3, 2, 1, 0] (by fin_cases m <;> decide)
  have h7 : rd7 arg7 (arg7.view.writes (Elt F) arg7.view.junk [⟨Rect.unit (s := S24x64x100) ![23, 0, 0] S1x64x100.size inb_S24x64x100_S1x64x100_23_0_0, k0_pay194 v1 (work11 (rd0 arg0 X0 k) v1 v3 (a1, a2, a3)) (top11 (rd0 arg0 X0 k) v1 v3 (a1, a2, a3))⟩, ⟨Rect.unit (s := S24x64x100) ![22, 0, 0] S1x64x100.size inb_S24x64x100_S1x64x100_22_0_0, k0_pay190 v1 (work10 (rd0 arg0 X0 k) v1 v3 (a1, a2, a3)) (top10 (rd0 arg0 X0 k) v1 v3 (a1, a2, a3))⟩, ⟨Rect.unit (s := S24x64x100) ![21, 0, 0] S1x64x100.size inb_S24x64x100_S1x64x100_21_0_0, k0_pay185 v1 (work10 (rd0 arg0 X0 k) v1 v3 (a1, a2, a3)) (top10 (rd0 arg0 X0 k) v1 v3 (a1, a2, a3))⟩, ⟨Rect.unit (s := S24x64x100) ![20, 0, 0] S1x64x100.size inb_S24x64x100_S1x64x100_20_0_0, k0_pay180 v1 (work9 (rd0 arg0 X0 k) v1 v3 (a1, a2, a3)) (top9 (rd0 arg0 X0 k) v1 v3 (a1, a2, a3))⟩, ⟨Rect.unit (s := S24x64x100) ![19, 0, 0] S1x64x100.size inb_S24x64x100_S1x64x100_19_0_0, k0_pay175 v1 (work9 (rd0 arg0 X0 k) v1 v3 (a1, a2, a3)) (top9 (rd0 arg0 X0 k) v1 v3 (a1, a2, a3))⟩, ⟨Rect.unit (s := S24x64x100) ![18, 0, 0] S1x64x100.size inb_S24x64x100_S1x64x100_18_0_0, k0_pay170 v1 (work8 (rd0 arg0 X0 k) v1 v3 (a1, a2, a3)) (top8 (rd0 arg0 X0 k) v1 v3 (a1, a2, a3))⟩, ⟨Rect.unit (s := S24x64x100) ![17, 0, 0] S1x64x100.size inb_S24x64x100_S1x64x100_17_0_0, k0_pay165 v1 (work8 (rd0 arg0 X0 k) v1 v3 (a1, a2, a3)) (top8 (rd0 arg0 X0 k) v1 v3 (a1, a2, a3))⟩, ⟨Rect.unit (s := S24x64x100) ![16, 0, 0] S1x64x100.size inb_S24x64x100_S1x64x100_16_0_0, k0_pay160 v1 (work7 (rd0 arg0 X0 k) v1 v3 (a1, a2, a3)) (top7 (rd0 arg0 X0 k) v1 v3 (a1, a2, a3))⟩, ⟨Rect.unit (s := S24x64x100) ![15, 0, 0] S1x64x100.size inb_S24x64x100_S1x64x100_15_0_0, k0_pay155 v1 (work7 (rd0 arg0 X0 k) v1 v3 (a1, a2, a3)) (top7 (rd0 arg0 X0 k) v1 v3 (a1, a2, a3))⟩, ⟨Rect.unit (s := S24x64x100) ![14, 0, 0] S1x64x100.size inb_S24x64x100_S1x64x100_14_0_0, k0_pay150 v1 (work6 (rd0 arg0 X0 k) v1 v3 (a1, a2, a3)) (top6 (rd0 arg0 X0 k) v1 v3 (a1, a2, a3))⟩, ⟨Rect.unit (s := S24x64x100) ![13, 0, 0] S1x64x100.size inb_S24x64x100_S1x64x100_13_0_0, k0_pay145 v1 (work6 (rd0 arg0 X0 k) v1 v3 (a1, a2, a3)) (top6 (rd0 arg0 X0 k) v1 v3 (a1, a2, a3))⟩, ⟨Rect.unit (s := S24x64x100) ![12, 0, 0] S1x64x100.size inb_S24x64x100_S1x64x100_12_0_0, k0_pay140 v1 (work5 (rd0 arg0 X0 k) v1 v3 (a1, a2, a3)) (top5 (rd0 arg0 X0 k) v1 v3 (a1, a2, a3))⟩, ⟨Rect.unit (s := S24x64x100) ![11, 0, 0] S1x64x100.size inb_S24x64x100_S1x64x100_11_0_0, k0_pay135 v1 (work5 (rd0 arg0 X0 k) v1 v3 (a1, a2, a3)) (top5 (rd0 arg0 X0 k) v1 v3 (a1, a2, a3))⟩, ⟨Rect.unit (s := S24x64x100) ![10, 0, 0] S1x64x100.size inb_S24x64x100_S1x64x100_10_0_0, k0_pay130 v1 (work4 (rd0 arg0 X0 k) v1 v3 (a1, a2, a3)) (top4 (rd0 arg0 X0 k) v1 v3 (a1, a2, a3))⟩, ⟨Rect.unit (s := S24x64x100) ![9, 0, 0] S1x64x100.size inb_S24x64x100_S1x64x100_9_0_0, k0_pay125 v1 (work4 (rd0 arg0 X0 k) v1 v3 (a1, a2, a3)) (top4 (rd0 arg0 X0 k) v1 v3 (a1, a2, a3))⟩, ⟨Rect.unit (s := S24x64x100) ![8, 0, 0] S1x64x100.size inb_S24x64x100_S1x64x100_8_0_0, k0_pay120 v1 (work3 (rd0 arg0 X0 k) v1 v3 (a1, a2, a3)) (top3 (rd0 arg0 X0 k) v1 v3 (a1, a2, a3))⟩, ⟨Rect.unit (s := S24x64x100) ![7, 0, 0] S1x64x100.size inb_S24x64x100_S1x64x100_7_0_0, k0_pay115 v1 (work3 (rd0 arg0 X0 k) v1 v3 (a1, a2, a3)) (top3 (rd0 arg0 X0 k) v1 v3 (a1, a2, a3))⟩, ⟨Rect.unit (s := S24x64x100) ![6, 0, 0] S1x64x100.size inb_S24x64x100_S1x64x100_6_0_0, k0_pay110 v1 (work2 (rd0 arg0 X0 k) v1 v3 (a1, a2, a3)) (top2 (rd0 arg0 X0 k) v1 v3 (a1, a2, a3))⟩, ⟨Rect.unit (s := S24x64x100) ![5, 0, 0] S1x64x100.size inb_S24x64x100_S1x64x100_5_0_0, k0_pay105 v1 (work2 (rd0 arg0 X0 k) v1 v3 (a1, a2, a3)) (top2 (rd0 arg0 X0 k) v1 v3 (a1, a2, a3))⟩, ⟨Rect.unit (s := S24x64x100) ![4, 0, 0] S1x64x100.size inb_S24x64x100_S1x64x100_4_0_0, k0_pay100 v1 (work1 (rd0 arg0 X0 k) v1 v3 (a1, a2, a3)) (top1 (rd0 arg0 X0 k) v1 v3 (a1, a2, a3))⟩, ⟨Rect.unit (s := S24x64x100) ![3, 0, 0] S1x64x100.size inb_S24x64x100_S1x64x100_3_0_0, k0_pay95 v1 (work1 (rd0 arg0 X0 k) v1 v3 (a1, a2, a3)) (top1 (rd0 arg0 X0 k) v1 v3 (a1, a2, a3))⟩, ⟨Rect.unit (s := S24x64x100) ![2, 0, 0] S1x64x100.size inb_S24x64x100_S1x64x100_2_0_0, k0_pay90 v1 (work0 (rd0 arg0 X0 k) v1 v3 (a1, a2, a3)) (top0 (rd0 arg0 X0 k) v1 v3 (a1, a2, a3))⟩, ⟨Rect.unit (s := S24x64x100) ![1, 0, 0] S1x64x100.size inb_S24x64x100_S1x64x100_1_0_0, k0_pay85 v1 (work0 (rd0 arg0 X0 k) v1 v3 (a1, a2, a3)) (top0 (rd0 arg0 X0 k) v1 v3 (a1, a2, a3))⟩, ⟨Rect.unit (s := S24x64x100) ![0, 0, 0] S1x64x100.size inb_S24x64x100_S1x64x100_0_0_0, k0_pay80 v1 v3 a1 (k0_pay69 (rd0 arg0 X0 k)) (k0_pay70 a1 a2) (keep1 (rd0 arg0 X0 k) v3 (a1, a2, a3)) (k0_pay74 a3)⟩])
      = lanes1 (rd0 arg0 X0 k) v1 v3 (a1, a2, a3) := by
    rw [lanes1_0 (rd0 arg0 X0 k) v1 v3 (a1, a2, a3), lanes1_1 (rd0 arg0 X0 k) v1 v3 (a1, a2, a3), lanes1_2 (rd0 arg0 X0 k) v1 v3 (a1, a2, a3), lanes1_3 (rd0 arg0 X0 k) v1 v3 (a1, a2, a3), lanes1_4 (rd0 arg0 X0 k) v1 v3 (a1, a2, a3), lanes1_5 (rd0 arg0 X0 k) v1 v3 (a1, a2, a3), lanes1_6 (rd0 arg0 X0 k) v1 v3 (a1, a2, a3), lanes1_7 (rd0 arg0 X0 k) v1 v3 (a1, a2, a3), lanes1_8 (rd0 arg0 X0 k) v1 v3 (a1, a2, a3), lanes1_9 (rd0 arg0 X0 k) v1 v3 (a1, a2, a3), lanes1_10 (rd0 arg0 X0 k) v1 v3 (a1, a2, a3), lanes1_11 (rd0 arg0 X0 k) v1 v3 (a1, a2, a3), lanes1_12 (rd0 arg0 X0 k) v1 v3 (a1, a2, a3), lanes1_13 (rd0 arg0 X0 k) v1 v3 (a1, a2, a3), lanes1_14 (rd0 arg0 X0 k) v1 v3 (a1, a2, a3), lanes1_15 (rd0 arg0 X0 k) v1 v3 (a1, a2, a3), lanes1_16 (rd0 arg0 X0 k) v1 v3 (a1, a2, a3), lanes1_17 (rd0 arg0 X0 k) v1 v3 (a1, a2, a3), lanes1_18 (rd0 arg0 X0 k) v1 v3 (a1, a2, a3), lanes1_19 (rd0 arg0 X0 k) v1 v3 (a1, a2, a3), lanes1_20 (rd0 arg0 X0 k) v1 v3 (a1, a2, a3), lanes1_21 (rd0 arg0 X0 k) v1 v3 (a1, a2, a3), lanes1_22 (rd0 arg0 X0 k) v1 v3 (a1, a2, a3), lanes1_23 (rd0 arg0 X0 k) v1 v3 (a1, a2, a3)]
    exact funext fun m => readAt_rows _ _ (lanes1 (rd0 arg0 X0 k) v1 v3 (a1, a2, a3)) m [23, 22, 21, 20, 19, 18, 17, 16, 15, 14, 13, 12, 11, 10, 9, 8, 7, 6, 5, 4, 3, 2, 1, 0] (by fin_cases m <;> decide)
  have h3 : rd3 arg3 (arg3.view.writes (Elt F) arg3.view.junk [⟨Rect.unit (s := S64x100x128) ![0, 0, 0] S64x100x128.size inb_S64x100x128_S64x100x128_0_0_0,
      k0_pay76 v3 a1 (k0_pay69 (rd0 arg0 X0 k)) (k0_pay70 a1 a2) (keep1 (rd0 arg0 X0 k) v3 (a1, a2, a3)) (k0_pay74 a3)⟩])
      = k0_pay76 v3 a1 (k0_pay69 (rd0 arg0 X0 k)) (k0_pay70 a1 a2) (keep1 (rd0 arg0 X0 k) v3 (a1, a2, a3)) (k0_pay74 a3) := View.readAt_writes_full _ _ _ _ _ _
  have key (h : ¬ k0_cond1 k = 1#1) := congrArg (fun s : Acc3 F => ((s.2.2.2.1, s.2.2.2.2.1, s.2.2.2.2.2) : Sel F))
    (congr (congr (congrArg (fun Y3 Y6 Y7 => st3 (F := F) Y3 Y6 Y7 v0 v1 v2 (init3 (rd0 arg0 X0 k) v1 v3 (a1, a2, a3)) k0_t3_loop.trips) h3) h6) h7)
  have sel_pos (h : k0_cond1 k = 1#1) : sel1 k (rd0 arg0 X0 k) v0 v1 v2 v3 (a1, a2, a3) = _ := if_pos h
  have sel_neg (h : ¬ k0_cond1 k = 1#1) : sel1 k (rd0 arg0 X0 k) v0 v1 v2 v3 (a1, a2, a3) = _ := (if_neg h).trans (key h).symm
  clear key h3 h6 h7
  unfold k0_t1_body
  iintro ⟨HR_arg0, HR_arg3, HR_arg4, HR_arg5, HR_arg6, HR_arg7⟩
  sl_exec
  split
  all_goals rename_i hb
  all_goals sl_exec
  all_goals sl_step
  · rw [sel_pos hb]
    isplitr
    · ipureintro; rfl
    isplitl [HR_arg0]; · iexact HR_arg0
    isplitl [HR_arg3]; · iexists _; iexact HR_arg3
    isplitl [HR_arg4]
    · iexists _; isplitr; swap; (· iexact HR_arg4)
      ipureintro; rfl
    isplitl [HR_arg5]
    · iexists _; isplitr; swap; (· iexact HR_arg5)
      ipureintro; rfl
    isplitl [HR_arg6]; · iexists _; iexact HR_arg6
    iexists _; iexact HR_arg7
  · rw [sel_neg hb]
    isplitr
    · ipureintro; rfl
    isplitl [HR_arg0]; · iexact HR_arg0
    isplitl [HR_arg3]; · iexists _; iexact HR_arg3
    isplitl [HR_arg4]
    · iexists _; isplitr; swap; (· iexact HR_arg4)
      ipureintro; rfl
    isplitl [HR_arg5]
    · iexists _; isplitr; swap; (· iexact HR_arg5)
      ipureintro; rfl
    isplitl [HR_arg6]; · iexists _; iexact HR_arg6
    iexists _; iexact HR_arg7

end Cert.Proof.KernelIdeal

end
-- ==== Proof.KernelIdealLoops.lean ====
module

public import proofs.«01_k».proof.Proof.KernelIdealStep

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## The loop over the time steps -/

/-- The selection of step `k` of the run from `acc`. -/
abbrev selAt (x : Fin k0_t1_loop.trips → Vec F S1x64x96 .f32) (v0 : IVec S64x100 32) (v1 v2 : IVec S64x100x128 32) (v3 : IVec S64x100x96 32) (k : Fin k0_t1_loop.trips) (acc : Acc1 F) : Sel F :=
  sel1 k (x k) v0 v1 v2 v3 acc

/-- The carried value after the first steps. -/
def st1 (x : Fin k0_t1_loop.trips → Vec F S1x64x96 .f32) (v0 : IVec S64x100 32) (v1 v2 : IVec S64x100x128 32) (v3 : IVec S64x100x96 32) (v4 : IVec S64x100x100 32) (init : Acc1 F) : ℕ → Acc1 F
  | 0 => init
  | k + 1 => if h : k < k0_t1_loop.trips then
      next1 (x ⟨k, h⟩) v3 v4 (st1 x v0 v1 v2 v3 v4 init k) (selAt x v0 v1 v2 v3 ⟨k, h⟩ (st1 x v0 v1 v2 v3 v4 init k))
    else st1 x v0 v1 v2 v3 v4 init k

theorem st1_succ (x : Fin k0_t1_loop.trips → Vec F S1x64x96 .f32) (v0 : IVec S64x100 32) (v1 v2 : IVec S64x100x128 32) (v3 : IVec S64x100x96 32) (v4 : IVec S64x100x100 32) (init : Acc1 F) (k : Fin k0_t1_loop.trips) :
    st1 x v0 v1 v2 v3 v4 init (k.val + 1)
      = next1 (x k) v3 v4 (st1 x v0 v1 v2 v3 v4 init k.val) (selAt x v0 v1 v2 v3 k (st1 x v0 v1 v2 v3 v4 init k.val)) := by
  rw [st1, dif_pos k.isLt]

local notation "𝕄" => MT nD τ sig Unit (Elt F) ℕ (UR sig nD τ) ℕ

/-- Row `k` of a table of the selections, as a load of it reads. -/
abbrev rdT (a : Memref sig .tc .vmem S64x64x100 .i32) (X : BufTy.Contents (Elt F) a.view.ty) (k : Fin k0_t1_loop.trips) : Vec F S1x64x100 .i32 :=
  View.readAt (Elt F) a.view (rowT k).toLoadRect X

/-- Rows `k` and `j` of a table lie apart. -/
theorem rowT_apart (j k : Fin k0_t1_loop.trips) (h : j.val < k.val) :
    k0_off2 j (0 : Fin 3) + S1x64x100.size 0 ≤ k0_off2 k (0 : Fin 3) ∨ k0_off2 k (0 : Fin 3) + S1x64x100.size 0 ≤ k0_off2 j (0 : Fin 3) := by
  rw [k0_off2_eq, k0_off2_eq]
  show j.val + 1 ≤ k.val ∨ k.val + 1 ≤ j.val
  omega

/-- One more row stored: the rows below and the row itself read as they should. -/
theorem rows_succ (a : Memref sig .tc .vmem S64x64x100 .i32) (X : BufTy.Contents (Elt F) a.view.ty) (p : Fin k0_t1_loop.trips → Vec F S1x64x100 .i32)
    (k : Fin k0_t1_loop.trips) (h : ∀ j : Fin k0_t1_loop.trips, j.val < k.val → rdT a X j = p j) (w : Vec F S1x64x100 .i32) (hw : w = p k) :
    ∀ j : Fin k0_t1_loop.trips, j.val < k.val + 1 → rdT a (a.view.writes (Elt F) X [⟨rowT k, w⟩]) j = p j := by
  intro j hj
  by_cases hjk : j = k
  · subst hjk
    rw [← hw]
    exact readAt_cons_same a.view X _ _ rfl w []
  · have hlt : j.val < k.val := by have : j.val ≠ k.val := fun e => hjk (Fin.ext e); omega
    rw [← h j hlt]
    exact readAt_cons_ne a.view X _ _ (0 : Fin 3) (rowT_apart j k hlt) w []

set_option warn.classDefReducibility false in
set_option maxHeartbeats 2000000 in
/-- The loop over the time steps by its invariant: the carried value is `st1`'s, and the rows below hold the selections. -/
@[sl_loop] def loop1 (c : Dev nD) (arg0 : Memref sig .tc .vmem S64x64x96 .f32) (harg0 : arg0.IsWhole) (arg1 : Memref sig .tc .vmem S64x64 .i32) (harg1 : arg1.IsWhole) (arg2 : Memref sig .tc .vmem S64x1 .f32) (harg2 : arg2.IsWhole) (arg3 : Memref sig .tc .vmem S64x100x128 .f32) (harg3 : arg3.IsWhole) (arg4 : Memref sig .tc .vmem S64x64x100 .i32) (harg4 : arg4.IsWhole) (arg5 : Memref sig .tc .vmem S64x64x100 .i32) (harg5 : arg5.IsWhole) (arg6 : Memref sig .tc .vmem S24x64x100 .f32) (harg6 : arg6.IsWhole) (arg7 : Memref sig .tc .vmem S24x64x100 .i32) (harg7 : arg7.IsWhole) (X0 : BufTy.Contents (Elt F) arg0.view.ty) (v0 : IVec S64x100 32) (v1 v2 : IVec S64x100x128 32) (v3 : IVec S64x100x96 32) (v4 : IVec S64x100x100 32) (E : Set ℕ) (init : Acc1 F) :
    Idealize.ShloMosaic.LoopInv (M := 𝕄) Idealize.ShloMosaic.frame (wpE (defs₀ (F := F)) 𝒱₀ (c : Thread nD τ) none) E
      k0_t1_loop.lb k0_t1_loop.ub k0_t1_loop.st k0_t1_ok init (k0_t1_body (F := F) arg0 harg0 arg1 harg1 arg2 harg2 arg3 harg3 arg4 harg4 arg5 harg5 arg6 harg6 arg7 harg7 v0 v1 v2 v3 v4) where
  inv k acc := iprop((arg0.view.loc (c : Thread nD τ) ↦[arg0.view.set]{fullShare} X0) ∗ (∃ X3, (arg3.view.loc (c : Thread nD τ) ↦[arg3.view.set]{fullShare} X3))
    ∗ (∃ X4, (arg4.view.loc (c : Thread nD τ) ↦[arg4.view.set]{fullShare} X4) ∗ ⌜∀ j : Fin k0_t1_loop.trips, j.val < k → rdT arg4 X4 j = k0_pay215 (selAt (rd0 arg0 X0) v0 v1 v2 v3 j (st1 (rd0 arg0 X0) v0 v1 v2 v3 v4 init j.val)).2.1⌝)
    ∗ (∃ X5, (arg5.view.loc (c : Thread nD τ) ↦[arg5.view.set]{fullShare} X5) ∗ ⌜∀ j : Fin k0_t1_loop.trips, j.val < k → rdT arg5 X5 j = k0_pay216 (selAt (rd0 arg0 X0) v0 v1 v2 v3 j (st1 (rd0 arg0 X0) v0 v1 v2 v3 v4 init j.val)).2.2⌝)
    ∗ (∃ X6, (arg6.view.loc (c : Thread nD τ) ↦[arg6.view.set]{fullShare} X6)) ∗ (∃ X7, (arg7.view.loc (c : Thread nD τ) ↦[arg7.view.set]{fullShare} X7)) ∗ ⌜acc = st1 (rd0 arg0 X0) v0 v1 v2 v3 v4 init k⌝)
  step k acc := by
    iintro ⟨H0, ⟨%X3, H3⟩, ⟨%X4, H4, %h4⟩, ⟨%X5, H5, %h5⟩, ⟨%X6, H6⟩, ⟨%X7, H7⟩, %h⟩
    subst h
    iapply (wp_wand_r Idealize.ShloMosaic.frame (wpE (defs₀ (F := F)) 𝒱₀ (c : Thread nD τ) none) E)
    isplitl [H0 H3 H4 H5 H6 H7]
    · iapply (trip1 c arg0 harg0 arg1 harg1 arg2 harg2 arg3 harg3 arg4 harg4 arg5 harg5 arg6 harg6 arg7 harg7 X0 X3 X4 X5 X6 X7 v0 v1 v2 v3 v4 k E)
      isplitl [H0]; · iexact H0
      isplitl [H3]; · iexact H3
      isplitl [H4]; · iexact H4
      isplitl [H5]; · iexact H5
      isplitl [H6]; · iexact H6
      iexact H7
    · iintro %yld ⟨%h, H0, ⟨%X3', H3⟩, ⟨%X4', %g4, H4⟩, ⟨%X5', %g5, H5⟩, ⟨%X6', H6⟩, ⟨%X7', H7⟩⟩
      isplitl [H0]; · iexact H0
      isplitl [H3]; · iexists X3'; iexact H3
      isplitl [H4]
      · iexists X4'; isplitl [H4]; · iexact H4
        ipureintro; rw [g4]
        exact rows_succ arg4 X4 (fun j => k0_pay215 (selAt (rd0 arg0 X0) v0 v1 v2 v3 j (st1 (rd0 arg0 X0) v0 v1 v2 v3 v4 init j.val)).2.1) k h4 _ rfl
      isplitl [H5]
      · iexists X5'; isplitl [H5]; · iexact H5
        ipureintro; rw [g5]
        exact rows_succ arg5 X5 (fun j => k0_pay216 (selAt (rd0 arg0 X0) v0 v1 v2 v3 j (st1 (rd0 arg0 X0) v0 v1 v2 v3 v4 init j.val)).2.2) k h5 _ rfl
      isplitl [H6]; · iexists X6'; iexact H6
      isplitl [H7]; · iexists X7'; iexact H7
      ipureintro; rw [h]
      exact (st1_succ _ _ _ _ _ _ _ k).symm

/-! ## The walk back over the stored selections -/

/-- One step of the walk, from the two rows it reads. -/
def step4 (b s : Vec F S1x64x100 .i32) (acc : Acc4) : Acc4 :=
  (k0_pay222 (F := F) acc.1 b, k0_pay225 (F := F) acc.1 acc.2.1 s, k0_pay224 (F := F) acc.1 acc.2.1 acc.2.2 s)

/-- The carried value after the first steps back. -/
def st4 (Y4 Y5 : Fin k0_t4_loop.trips → Vec F S1x64x100 .i32) (init : Acc4) : ℕ → Acc4
  | 0 => init
  | k + 1 => if h : k < k0_t4_loop.trips then step4 (Y4 ⟨k, h⟩) (Y5 ⟨k, h⟩) (st4 Y4 Y5 init k) else st4 Y4 Y5 init k

theorem st4_succ (Y4 Y5 : Fin k0_t4_loop.trips → Vec F S1x64x100 .i32) (init : Acc4) (k : Fin k0_t4_loop.trips) :
    st4 Y4 Y5 init (k.val + 1) = step4 (Y4 k) (Y5 k) (st4 Y4 Y5 init k.val) := by
  rw [st4, dif_pos k.isLt]

/-- The row step `k` of the walk reads. -/
abbrev rdB (a : Memref sig .tc .vmem S64x64x100 .i32) (X : BufTy.Contents (Elt F) a.view.ty) (k : Fin k0_t4_loop.trips) : Vec F S1x64x100 .i32 :=
  View.readAt (Elt F) a.view (Rect.unit (s := S64x64x100) (k0_off3 k) S1x64x100.size (k0_off3_inb k)).toLoadRect X

set_option maxHeartbeats 2000000 in
/-- One step of the walk, run. -/
theorem trip4 (c : Dev nD) (arg0 : Memref sig .tc .vmem S64x64x96 .f32) (harg0 : arg0.IsWhole) (arg1 : Memref sig .tc .vmem S64x64 .i32) (harg1 : arg1.IsWhole) (arg2 : Memref sig .tc .vmem S64x1 .f32) (harg2 : arg2.IsWhole) (arg3 : Memref sig .tc .vmem S64x100x128 .f32) (harg3 : arg3.IsWhole) (arg4 : Memref sig .tc .vmem S64x64x100 .i32) (harg4 : arg4.IsWhole) (arg5 : Memref sig .tc .vmem S64x64x100 .i32) (harg5 : arg5.IsWhole) (arg6 : Memref sig .tc .vmem S24x64x100 .f32) (harg6 : arg6.IsWhole) (arg7 : Memref sig .tc .vmem S24x64x100 .i32) (harg7 : arg7.IsWhole) (X4 : BufTy.Contents (Elt F) arg4.view.ty) (X5 : BufTy.Contents (Elt F) arg5.view.ty) (k : Fin k0_t4_loop.trips) (E : Set ℕ) (acc : Acc4) :
    (iprop((arg4.view.loc (c : Thread nD τ) ↦[arg4.view.set]{fullShare} X4) ∗ (arg5.view.loc (c : Thread nD τ) ↦[arg5.view.set]{fullShare} X5)) : sProp 𝕄) ⊢ wp frame (wpE (defs₀ (F := F)) 𝒱₀ (c : Thread nD τ) none) E
      (k0_t4_body (F := F) arg0 harg0 arg1 harg1 arg2 harg2 arg3 harg3 arg4 harg4 arg5 harg5 arg6 harg6 arg7 harg7 k acc)
      (fun yld => iprop(⌜yld = step4 (rdB arg4 X4 k) (rdB arg5 X5 k) acc⌝ ∗ (arg4.view.loc (c : Thread nD τ) ↦[arg4.view.set]{fullShare} X4) ∗ (arg5.view.loc (c : Thread nD τ) ↦[arg5.view.set]{fullShare} X5))) := by
  obtain ⟨a1, a2, a3⟩ := acc
  unfold k0_t4_body
  iintro ⟨HR_arg4, HR_arg5⟩
  sl_exec
  sl_step
  isplitr
  · ipureintro; rfl
  isplitl [HR_arg4]; · iexact HR_arg4
  iexact HR_arg5

set_option warn.classDefReducibility false in
/-- The walk back by its invariant. -/
@[sl_loop] def loop4 (c : Dev nD) (arg0 : Memref sig .tc .vmem S64x64x96 .f32) (harg0 : arg0.IsWhole) (arg1 : Memref sig .tc .vmem S64x64 .i32) (harg1 : arg1.IsWhole) (arg2 : Memref sig .tc .vmem S64x1 .f32) (harg2 : arg2.IsWhole) (arg3 : Memref sig .tc .vmem S64x100x128 .f32) (harg3 : arg3.IsWhole) (arg4 : Memref sig .tc .vmem S64x64x100 .i32) (harg4 : arg4.IsWhole) (arg5 : Memref sig .tc .vmem S64x64x100 .i32) (harg5 : arg5.IsWhole) (arg6 : Memref sig .tc .vmem S24x64x100 .f32) (harg6 : arg6.IsWhole) (arg7 : Memref sig .tc .vmem S24x64x100 .i32) (harg7 : arg7.IsWhole) (X4 : BufTy.Contents (Elt F) arg4.view.ty) (X5 : BufTy.Contents (Elt F) arg5.view.ty) (E : Set ℕ) (init : Acc4) :
    Idealize.ShloMosaic.LoopInv (M := 𝕄) Idealize.ShloMosaic.frame (wpE (defs₀ (F := F)) 𝒱₀ (c : Thread nD τ) none) E
      k0_t4_loop.lb k0_t4_loop.ub k0_t4_loop.st k0_t4_ok init (k0_t4_body (F := F) arg0 harg0 arg1 harg1 arg2 harg2 arg3 harg3 arg4 harg4 arg5 harg5 arg6 harg6 arg7 harg7) where
  inv k acc := iprop((arg4.view.loc (c : Thread nD τ) ↦[arg4.view.set]{fullShare} X4) ∗ (arg5.view.loc (c : Thread nD τ) ↦[arg5.view.set]{fullShare} X5) ∗ ⌜acc = st4 (rdB arg4 X4) (rdB arg5 X5) init k⌝)
  step k acc := by
    iintro ⟨H4, H5, %h⟩
    subst h
    iapply (wp_wand_r Idealize.ShloMosaic.frame (wpE (defs₀ (F := F)) 𝒱₀ (c : Thread nD τ) none) E)
    isplitl [H4 H5]
    · iapply (trip4 c arg0 harg0 arg1 harg1 arg2 harg2 arg3 harg3 arg4 harg4 arg5 harg5 arg6 harg6 arg7 harg7 X4 X5 k E)
      isplitl [H4]; · iexact H4
      iexact H5
    · iintro %yld ⟨%h, H4, H5⟩
      isplitl [H4]; · iexact H4
      isplitl [H5]; · iexact H5
      ipureintro; rw [h]
      exact (st4_succ _ _ _ k).symm

/-! ## The whole body -/

/-- The coordinate tables the body starts from. -/
abbrev i0 : IVec S64x100 32 := iota .tc S64x100 32 [1] iota_S64x100_d1_w32
abbrev i1 : IVec S64x100x128 32 := iota .tc S64x100x128 32 [2] iota_S64x100x128_d2_w32
abbrev i2 : IVec S64x100x128 32 := iota .tc S64x100x128 32 [1] iota_S64x100x128_d1_w32
abbrev i3 : IVec S64x100x96 32 := iota .tc S64x100x96 32 [2] iota_S64x100x96_d2_w32
abbrev i4 : IVec S64x100x100 32 := iota .tc S64x100x100 32 [2] iota_S64x100x100_d2_w32

/-- Step `k`'s slab of a block of posteriors. -/
def slab (b : FVec F S64x64x96 .f32) (k : Fin k0_t1_loop.trips) : Vec F S1x64x96 .f32 :=
  fun y => b ((Rect.unit (s := S64x64x96) (k0_off1 k) S1x64x96.size (k0_off1_inb k)).toLoadRect.idx y)

/-- The carried value after the first `k` steps over a block. -/
def beams (b : FVec F S64x64x96 .f32) (k : ℕ) : Acc1 F :=
  st1 (slab b) i0 i1 i2 i3 i4 (k0_pay208 (F := F), k0_pay209 (F := F), k0_pay210) k

/-- The selection of step `k` over a block. -/
def selOf (b : FVec F S64x64x96 .f32) (k : Fin k0_t1_loop.trips) : Sel F :=
  selAt (slab b) i0 i1 i2 i3 k (beams b k.val)

/-- The step whose row the walk's step `k` reads. -/
def back (k : Fin k0_t4_loop.trips) : Fin k0_t1_loop.trips := ⟨63 - k.val, by
  have h1 : k0_t1_loop.trips = 64 := by decide
  omega⟩

/-- The walk back over a block's selections. -/
def walk (b : FVec F S64x64x96 .f32) : Acc4 :=
  st4 (F := F) (fun k => k0_pay215 (selOf b (back k)).2.1) (fun k => k0_pay216 (selOf b (back k)).2.2) (k0_pay218, k0_pay219, k0_pay220) k0_t4_loop.trips

/-- The decoded prefixes and the scores the body stores for a block. -/
def outPrefix (b : FVec F S64x64x96 .f32) : IVec S64x64 32 :=
  k0_pay1 (iota .tc S64x64 32 [1] iota_S64x64_d1_w32) (walk b).2.1 (walk b).2.2 (iota .tc S64x64x64 32 [2] iota_S64x64x64_d2_w32)
    (iota .tc S64x64x64 32 [1] iota_S64x64x64_d1_w32) (k0_pay226 (walk b).2.1)
def outScore (b : FVec F S64x64x96 .f32) : FVec F S64x1 .f32 :=
  k0_pay217 (beams b k0_t1_loop.trips).1 (beams b k0_t1_loop.trips).2.1

/-- Loads at equal offsets read the same. -/
theorem readAt_off_congr (a : Memref sig .tc .vmem S64x64x100 .i32) (X : BufTy.Contents (Elt F) a.view.ty) {off off' : Fin 3 → ℕ} (h : off = off')
    (inb : ∀ i, off i + S1x64x100.size i ≤ S64x64x100.size i) (inb' : ∀ i, off' i + S1x64x100.size i ≤ S64x64x100.size i) :
    View.readAt (Elt F) a.view (Rect.unit (s := S64x64x100) off S1x64x100.size inb).toLoadRect X
      = View.readAt (Elt F) a.view (Rect.unit (s := S64x64x100) off' S1x64x100.size inb').toLoadRect X := by
  subst h; rfl

theorem rdB_eq (a : Memref sig .tc .vmem S64x64x100 .i32) (X : BufTy.Contents (Elt F) a.view.ty) (p : Fin k0_t1_loop.trips → Vec F S1x64x100 .i32)
    (h : ∀ j : Fin k0_t1_loop.trips, j.val < k0_t1_loop.trips → rdT a X j = p j) : rdB a X = fun k => p (back k) := by
  funext k
  rw [← h (back k) (back k).isLt]
  exact readAt_off_congr a X (by rw [k0_off3_eq, k0_off2_eq]; rfl) _ _

end Cert.Proof.KernelIdeal

end
-- ==== Proof.KernelIdealRun.lean ====
module

public import proofs.«01_k».proof.Proof.KernelIdealLoops
public import Idealize.ShloMosaic.Lib.Pipeline.KitQuiescent

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The body, run: from any contents it leaves the input as it was and the two outputs at `outPrefix` and `outScore` of the input. -/
theorem kernelRun (c : Dev nD) (arg0 : Memref sig .tc .vmem S64x64x96 .f32) (harg0 : arg0.IsWhole) (arg1 : Memref sig .tc .vmem S64x64 .i32) (harg1 : arg1.IsWhole) (arg2 : Memref sig .tc .vmem S64x1 .f32) (harg2 : arg2.IsWhole) (arg3 : Memref sig .tc .vmem S64x100x128 .f32) (harg3 : arg3.IsWhole) (arg4 : Memref sig .tc .vmem S64x64x100 .i32) (harg4 : arg4.IsWhole) (arg5 : Memref sig .tc .vmem S64x64x100 .i32) (harg5 : arg5.IsWhole) (arg6 : Memref sig .tc .vmem S24x64x100 .f32) (harg6 : arg6.IsWhole) (arg7 : Memref sig .tc .vmem S24x64x100 .i32) (harg7 : arg7.IsWhole) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (E : Set ℕ) :
    (iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7)) : sProp 𝕄) ⊢ wp frame (wpE (defs₀ (F := F)) 𝒱₀ (c : Thread nD τ) none) E
      (cc0__body (F := F) arg0 harg0 arg1 harg1 arg2 harg2 arg3 harg3 arg4 harg4 arg5 harg5 arg6 harg6 arg7 harg7)
      (fun _ => iprop((arg0.view.loc (c : Thread nD τ) ↦[arg0.view.set]{fullShare} X0)
        ∗ (∃ X1', ⌜View.read (Elt F) arg1.view X1' = outPrefix (View.read (Elt F) arg0.view X0)⌝ ∗ (arg1.view.loc (c : Thread nD τ) ↦[arg1.view.set]{fullShare} X1'))
        ∗ (∃ X2', ⌜View.read (Elt F) arg2.view X2' = outScore (View.read (Elt F) arg0.view X0)⌝ ∗ (arg2.view.loc (c : Thread nD τ) ↦[arg2.view.set]{fullShare} X2'))
        ∗ (∃ X3', (arg3.view.loc (c : Thread nD τ) ↦[arg3.view.set]{fullShare} X3')) ∗ (∃ X4', (arg4.view.loc (c : Thread nD τ) ↦[arg4.view.set]{fullShare} X4')) ∗ (∃ X5', (arg5.view.loc (c : Thread nD τ) ↦[arg5.view.set]{fullShare} X5')) ∗ (∃ X6', (arg6.view.loc (c : Thread nD τ) ↦[arg6.view.set]{fullShare} X6')) ∗ (∃ X7', (arg7.view.loc (c : Thread nD τ) ↦[arg7.view.set]{fullShare} X7')))) := by
  have hslab : rd0 arg0 X0 = slab (View.read (Elt F) arg0.view X0) := rfl
  rw [cc0__body_eq_skeleton]
  unfold cc0__body_skel
  rw [k0_part23_eq_skeleton]
  unfold k0_part23_skel
  iintro ⟨HR_arg0, HR_arg1, HR_arg2, HR_arg3, HR_arg4, HR_arg5, HR_arg6, HR_arg7⟩
  sl_exec
  rw [wp_bind, wp_bind]
  iapply (exec_loop_last frame (wpE (defs₀ (F := F)) 𝒱₀ (c : Thread nD τ) none) E _ _ _ _ _ _ (loop1 c arg0 harg0 arg1 harg1 arg2 harg2 arg3 harg3 arg4 harg4 arg5 harg5 arg6 harg6 arg7 harg7 X0 _ _ _ _ _ E _)) $$ [HR_arg0 HR_arg3 HR_arg4 HR_arg5 HR_arg6 HR_arg7]
  · unfold loop1
    dsimp only
    isplitl [HR_arg0]; · iexact HR_arg0
    isplitl [HR_arg3]; · iexists X3; iexact HR_arg3
    isplitl [HR_arg4]
    · iexists X4; isplitl [HR_arg4]; · iexact HR_arg4
      ipureintro; intro j hj; exact absurd hj (Nat.not_lt_zero _)
    isplitl [HR_arg5]
    · iexists X5; isplitl [HR_arg5]; · iexact HR_arg5
      ipureintro; intro j hj; exact absurd hj (Nat.not_lt_zero _)
    isplitl [HR_arg6]; · iexists X6; iexact HR_arg6
    isplitl [HR_arg7]; · iexists X7; iexact HR_arg7
    ipureintro; rfl
  iintro %acc HI
  unfold loop1
  dsimp only
  icases HI with ⟨HR_arg0, ⟨%Z3, HR_arg3⟩, ⟨%Z4, HR_arg4, %h4⟩, ⟨%Z5, HR_arg5, %h5⟩, ⟨%Z6, HR_arg6⟩, ⟨%Z7, HR_arg7⟩, %hacc⟩
  have e4 := rdB_eq arg4 Z4 (fun j => k0_pay215 (selOf (View.read (Elt F) arg0.view X0) j).2.1) h4
  have e5 := rdB_eq arg5 Z5 (fun j => k0_pay216 (selOf (View.read (Elt F) arg0.view X0) j).2.2) h5
  have hw : st4 (rdB arg4 Z4) (rdB arg5 Z5) (k0_pay218, k0_pay219, k0_pay220) k0_t4_loop.trips = walk (View.read (Elt F) arg0.view X0) := by
    rw [e4, e5]; rfl
  have ha : acc = beams (View.read (Elt F) arg0.view X0) k0_t1_loop.trips := hacc
  clear h4 h5 e4 e5 hacc hslab
  subst ha
  sl_exec
  sl_step
  isplitl [HR_arg0]; · iexact HR_arg0
  isplitl [HR_arg1]
  · iexists _; isplitr; swap; (· iexact HR_arg1)
    ipureintro
    refine (View.read_writes_full _ _ _ _ _).trans ?_
    unfold outPrefix
    rw [← hw]
    rfl
  isplitl [HR_arg2]
  · iexists _; isplitr; swap; (· iexact HR_arg2)
    ipureintro
    exact View.read_writes_full _ _ _ _ _
  isplitl [HR_arg3]; · iexists Z3; iexact HR_arg3
  isplitl [HR_arg4]; · iexists Z4; iexact HR_arg4
  isplitl [HR_arg5]; · iexists Z5; iexact HR_arg5
  isplitl [HR_arg6]; · iexists Z6; iexact HR_arg6
  iexists Z7; iexact HR_arg7

/-! ## The launch -/

variable (m : (ℓ : Loc nD τ sig) → Buf (Elt F) ℓ) (ρ : Dev nD → PrngReg)

/-- What the launch starts from: every staging cell's owner and a duty token for every transfer. -/
def u₀ : UR sig nD τ := initOf (Pipeline.cells cfgs cellOf_inj) (Pipeline.launchToks cfgs cellOf_inj)

/-- The launch algebra's embedding. -/
def EP : Emb (UR sig nD τ) (MT nD τ sig Unit (Elt F) ℕ (UR sig nD τ) ℕ) :=
  (Emb.refl _).trans (uEmb (nD := nD) (sig := sig) (Ix := Unit) (Val := Elt F) (Name := ℕ) (U := UR sig nD τ) (Lvl := ℕ)).toEmb

instance EP_landsIn : (EP : Emb (UR sig nD τ) 𝕄).LandsIn (upEmb : UEmb _ 𝕄) := by unfold EP; infer_instance

/-- The block of posteriors the region finds. -/
def blockIn (c : Dev nD) : FVec F S64x64x96 .f32 := iblk m c 0 t0_0

/-- What each window's buffer holds after the body, and what the body keeps: the scratch. -/
def dats (_ : Fin 1) (c : Dev nD) : Dat τ (Elt F) Unit ℕ (UR sig nD τ) ℕ (cfg0) c where
  A w := V m c (Pipeline.arrRef spec0 w)
  after w _ := match w with
    | ⟨0, _⟩ => iblk m c 0 t0_0
    | ⟨1, _⟩ => outPrefix (blockIn m c)
    | ⟨2, _⟩ => outScore (blockIn m c)
  Φ _ := Pipeline.scopedRest spec0 c
  q _ := fullShare
  owed _ := 0

theorem before_in (c : Dev nD) (d) : (dats m 0 c).before 0 t0_0 d = iblk m c 0 t0_0 :=
  before0_0_of m (dats m 0 c) rfl (fun t => by obtain rfl := fin_N0 t; rfl) t0_0 d

set_option maxHeartbeats 4000000 in
theorem body_obligation (c : Dev nD) : BodyObligation (dats (F := F) m 0 c) (defs₀ (F := F)) 𝒱₀ () Set.univ := fun t => by
  obtain rfl := fin_N0 t
  rw [bigSep_W0, bigSep_W0]
  rw [show (dats m 0 c).Φ t0_0.castSucc = Pipeline.scopedRest spec0 c from rfl, show (dats m 0 c).Φ t0_0.succ = Pipeline.scopedRest spec0 c from rfl,
    scopedRest0_eq]
  show iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f)) ∗ (dats m 0 c).owesAt () t0_0.castSucc
      ∗ (∃ d, owns (c : Thread nD τ) (st0_0 t0_0) fullShare ((dats m 0 c).before 0 t0_0 d)) ∗ (∃ d, owns (c : Thread nD τ) (st0_1 t0_0) fullShare ((dats m 0 c).before 1 t0_0 d)) ∗ (∃ d, owns (c : Thread nD τ) (st0_2 t0_0) fullShare ((dats m 0 c).before 2 t0_0 d)))
    ⊢ wp Idealize.ShloMosaic.frame (wpE (defs₀ (F := F)) 𝒱₀ (c : Thread nD τ) none) Set.univ (bodyAt0 (F := F) t0_0) fun _ =>
      iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f)) ∗ (dats m 0 c).owesAt () t0_0.succ
        ∗ owns (c : Thread nD τ) (st0_0 t0_0) fullShare (iblk m c 0 t0_0) ∗ owns (c : Thread nD τ) (st0_1 t0_0) fullShare (outPrefix (blockIn m c)) ∗ owns (c : Thread nD τ) (st0_2 t0_0) fullShare (outScore (blockIn m c)))
  simp only [before_in]
  unfold owns Dat.owesAt Pipeline.owesWithin
  iintro ⟨⟨⟨%f3, S3⟩, ⟨%f4, S4⟩, ⟨%f5, S5⟩, ⟨%f6, S6⟩, ⟨%f7, S7⟩⟩, ⟨%W, %hW, HO⟩, ⟨%d0, %f0, %hf0, H0⟩, ⟨%d1, %f1, %hf1, H1⟩, ⟨%d2, %f2, %hf2, H2⟩⟩
  iapply (wp_wand_r Idealize.ShloMosaic.frame (wpE (defs₀ (F := F)) 𝒱₀ (c : Thread nD τ) none) Set.univ)
  isplitl [H0 H1 H2 S3 S4 S5 S6 S7]
  · iapply (kernelRun c (st0_0 t0_0) (hstage0_0 0) (st0_1 t0_0) (hstage0_1 0) (st0_2 t0_0) (hstage0_2 0) (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) f0 f1 f2 f3 f4 f5 f6 f7 Set.univ)
    simp only [Memref.view_whole, View.set_whole]
    isplitl [H0]; · iexact H0
    isplitl [H1]; · iexact H1
    isplitl [H2]; · iexact H2
    isplitl [S3]; · iexact S3
    isplitl [S4]; · iexact S4
    isplitl [S5]; · iexact S5
    isplitl [S6]; · iexact S6
    iexact S7
  simp only [Memref.view_whole, View.set_whole]
  iintro %_ ⟨H0, ⟨%g1, %hg1, H1⟩, ⟨%g2, %hg2, H2⟩, ⟨%g3, S3⟩, ⟨%g4, S4⟩, ⟨%g5, S5⟩, ⟨%g6, S6⟩, ⟨%g7, S7⟩⟩
  isplitl [S3 S4 S5 S6 S7]
  · isplitl [S3]; · iexists g3; iexact S3
    isplitl [S4]; · iexists g4; iexact S4
    isplitl [S5]; · iexists g5; iexact S5
    isplitl [S6]; · iexists g6; iexact S6
    iexists g7; iexact S7
  isplitl [HO]
  · iexists W; isplitr; · ipureintro; exact hW
    iexact HO
  isplitl [H0]
  · iexists f0; isplitr; · ipureintro; exact hf0
    iexact H0
  isplitl [H1]
  · iexists g1; isplitr; swap; (· iexact H1)
    ipureintro; rw [hg1, hf0]; rfl
  · iexists g2; isplitr; swap; (· iexact H2)
    ipureintro; rw [hg2, hf0]; rfl

theorem share_eq (c : Dev nD) (w : Fin cfg0.W) : (dats m 0 c).share w = fullShare := by
  unfold Dat.share; split <;> rfl

/-- The physical post: each window's array at what the library computes it holds, the argument as launched. -/
def QC : PUnit × MemSt nD τ sig (Elt F) → Prop := fun r =>
  ∀ c : Dev nD, (∀ w, r.2.mem ((cfg0.win w).arr.view.loc (c : Thread nD τ)) = (dats m 0 c).arrAt w cfg0.N)
    ∧ r.2.mem ((c : Thread nD τ).loc main_arg0) = m ((c : Thread nD τ).loc main_arg0)

/-- Every fair execution from zero counters ends, with the post and every counter at zero. -/
theorem run_main : θ_run defs (onTc (τ := τ) (main (F := F))) ⟨m, fun _ => 0, ρ⟩ (fun r => QC m r ∧ r.2.sem = fun _ => 0) :=
  Pipeline.θ_run_region_noSem_kit_quiescent cfgs (dats m) () (0 : Fin 1) launch0 EP defs₀ 𝒱₀ m ρ main
    (hbody := fun c => (body_obligation m c).loose) (hshare := share_eq m) (howed := fun _ _ => rfl)
    (u₀ := u₀) (hu₀ := BI.Entails.refl _) (V := V m)
    (hmain := Gen.hmain m 𝒱₀) (hA := fun _ _ => rfl)
    (X := fun _ => iprop(emp)) (Y := fun _ => iprop(emp)) (Z := fun c => iprop(((c : Thread nD τ).loc main_arg0) ↦{fullShare} V m c main_arg0))
    (hX := fun c => by rw [unscopedRest0_eq]; iintro H; isplitr; · iempintro
                       iexact H)
    (hin := fun c => by
      rw [show (dats m 0 c).Φ 0 = Pipeline.scopedRest spec0 c from rfl]
      iintro ⟨-, H⟩; iexact H)
    (hout := fun c => by
      rw [show (dats m 0 c).Φ (Fin.last cfg0.N) = Pipeline.scopedRest spec0 c from rfl]
      iintro H; isplitr; · iempintro
      iexact H)
    (QY := fun c s => s.mem ((c : Thread nD τ).loc main_arg0) = V m c main_arg0)
    (hY := fun c s' => by
      iintro ⟨-, H0, HSI⟩
      icombine HSI H0 gives %h0
      imodintro
      isplitr; · ipureintro; exact Buf.eq_of_forall_mem_univ h0
      iexact HSI)
    (hQ := fun _ h hz => ⟨fun c => ⟨(h c).1, (h c).2.trans (V_main_arg0 m c)⟩, hz⟩)

/-- The frame of the program, every counter at zero at the end. -/
theorem frame_main : θ_run defs (onTc (τ := τ) (main (F := F))) ⟨m, fun _ => 0, ρ⟩ (fun r =>
    (∀ c : Dev nD, r.2.mem ((c : Thread nD τ).loc main_arg0) = m ((c : Thread nD τ).loc main_arg0)) ∧ r.2.sem = fun _ => 0) :=
  (θ_run defs _ _).mono (fun _ h => ⟨fun c => (h.1 c).2, h.2⟩) (run_main m ρ)

end Cert.Proof.KernelIdeal

end
-- ==== Proof.Frames.lean ====
/- The runs without their values: each of the three programs terminates with its argument unchanged and every counter at
   zero, and the two named constants are what the substitution names say. -/
module

public import proofs.«01_k».proof.Defs
public import proofs.«01_k».proof.Proof.KernelRun
public import proofs.«01_k».proof.Proof.KernelIdealRun
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- The reference declares no semaphore, so its counters are at zero whatever it does. -/
theorem frame_reference : Cert.quiescent_ReferenceIdeal := fun m ρ _ =>
  (θ_run _ _ _).mono (fun r h => ⟨fun c => (h c).2.2, sem_eq_zero_of_no_sems (by decide) r.2⟩) (Cert.ReferenceIdeal.Value.run m ρ)

theorem frame_kernel : Cert.quiescent_Kernel := fun m ρ _ => Kernel.frame_main m ρ

theorem frame_kernelIdeal : Cert.quiescent_KernelIdeal := fun m ρ _ => KernelIdeal.frame_main m ρ

/-- The two frames the last claim asks for hold for any argument, so also under its precondition. -/
theorem frame_kernelIdeal_nonneg [Cert.Pre_nonneg.Facts] : Cert.quiescent_KernelIdeal_pre_nonneg := fun m ρ _ => KernelIdeal.frame_main m ρ

theorem frame_reference_nonneg [Cert.Pre_nonneg.Facts] : Cert.quiescent_ReferenceIdeal_pre_nonneg := fun m ρ _ =>
  (θ_run _ _ _).mono (fun r h => ⟨fun c => (h c).2.2, sem_eq_zero_of_no_sems (by decide) r.2⟩) (Cert.ReferenceIdeal.Value.run m ρ)

theorem preserves : Cert.preserves_Kernel_KernelIdeal :=
  ⟨IdealRules.named_const.statement Cert.KernelIdeal.κ "dead" .f32 0xF149F2CA#32 ⊥ rfl,
    IdealRules.named_const.statement Cert.KernelIdeal.κ "padding" .f32 0xFF61B1E6#32 ⊥ rfl⟩

end Cert.Proof

end
-- ==== Proof.Rows.lean ====
module

public import Idealize.ShloMosaic.Lib.Pointwise

@[expose] public section

noncomputable section

namespace Cert.Proof.Beam

/-! # One beam's row of candidates, taken out greatest first -/

/-- The greatest value of a row. -/
def top (w : Fin 128 → EReal) : EReal := Finset.univ.fold max ⊥ w

theorem le_top (w : Fin 128 → EReal) (k : Fin 128) : w k ≤ top w := by
  have : top w = Finset.univ.sup w := rfl
  rw [this]; exact Finset.le_sup (Finset.mem_univ k)

theorem exists_top (w : Fin 128 → EReal) : ∃ k, w k = top w := by
  obtain ⟨k, -, h⟩ := Finset.exists_mem_eq_sup (Finset.univ : Finset (Fin 128)) ⟨0, Finset.mem_univ _⟩ w
  exact ⟨k, h.symm⟩

theorem exists_arg (w : Fin 128 → EReal) : ∃ k, w k = top w ∧ ∀ k', w k' = top w → k ≤ k' := by
  have hne : (Finset.univ.filter fun k => w k = top w).Nonempty := by
    obtain ⟨k, h⟩ := exists_top w
    exact ⟨k, Finset.mem_filter.mpr ⟨Finset.mem_univ _, h⟩⟩
  refine ⟨_, (Finset.mem_filter.mp (Finset.min'_mem _ hne)).2, fun k' h => ?_⟩
  exact Finset.min'_le (Finset.univ.filter fun k => w k = top w) k' (Finset.mem_filter.mpr ⟨Finset.mem_univ _, h⟩)

/-- The first lane that holds a row's greatest value. -/
def arg (w : Fin 128 → EReal) : Fin 128 := (exists_arg w).choose

theorem at_arg (w : Fin 128 → EReal) : w (arg w) = top w := (exists_arg w).choose_spec.1

theorem arg_le {w : Fin 128 → EReal} {k : Fin 128} (h : w k = top w) : arg w ≤ k := (exists_arg w).choose_spec.2 k h

/-- A row with the lane of its greatest value masked, `m` times over. -/
def wr (r : Fin 128 → EReal) : ℕ → Fin 128 → EReal
  | 0 => r
  | m + 1 => fun k => if k = arg (wr r m) then ⊥ else wr r m k

/-- The `m`-th greatest value of a row. -/
def tv (r : Fin 128 → EReal) (m : ℕ) : EReal := top (wr r m)

/-- The lane of the `m`-th greatest value of a row. -/
def tl (r : Fin 128 → EReal) (m : ℕ) : Fin 128 := arg (wr r m)

/-- The lanes masked after `m` rounds. -/
def gone (r : Fin 128 → EReal) (m : ℕ) (k : Fin 128) : Prop := ∃ i, i < m ∧ tl r i = k

variable (r : Fin 128 → EReal)

theorem gone_succ (m : ℕ) (k : Fin 128) : gone r (m + 1) k ↔ gone r m k ∨ tl r m = k := by
  constructor
  · rintro ⟨i, hi, h⟩
    rcases Nat.lt_succ_iff_lt_or_eq.mp hi with h' | h'
    · exact .inl ⟨i, h', h⟩
    · exact .inr (h' ▸ h)
  · rintro (⟨i, hi, h⟩ | h)
    · exact ⟨i, by omega, h⟩
    · exact ⟨m, by omega, h⟩

theorem gone_mono {m m' : ℕ} (h : m ≤ m') {k : Fin 128} : gone r m k → gone r m' k := fun ⟨i, hi, e⟩ => ⟨i, by omega, e⟩

theorem wr_gone (m : ℕ) (k : Fin 128) : (gone r m k → wr r m k = ⊥) ∧ (¬ gone r m k → wr r m k = r k) := by
  induction m with
  | zero => exact ⟨fun ⟨i, hi, _⟩ => absurd hi (Nat.not_lt_zero i), fun _ => rfl⟩
  | succ m ih =>
    by_cases h : tl r m = k
    · have hw : wr r (m + 1) k = ⊥ := if_pos h.symm
      exact ⟨fun _ => hw, fun h' => absurd ((gone_succ r m k).mpr (.inr h)) h'⟩
    · have hw : wr r (m + 1) k = wr r m k := if_neg fun h' => h h'.symm
      rw [hw, gone_succ]
      exact ⟨fun h' => ih.1 (h'.resolve_right h), fun h' => ih.2 fun g => h' (.inl g)⟩

theorem le_tv {m : ℕ} {k : Fin 128} (h : ¬ gone r m k) : r k ≤ tv r m := by
  rw [← (wr_gone r m k).2 h]; exact le_top _ k

theorem tl_not_gone {m : ℕ} (h : tv r m ≠ ⊥) : ¬ gone r m (tl r m) := fun g =>
  h ((at_arg (wr r m)).symm.trans ((wr_gone r m _).1 g))

theorem at_tl {m : ℕ} (h : tv r m ≠ ⊥) : r (tl r m) = tv r m :=
  ((wr_gone r m _).2 (tl_not_gone r h)).symm.trans (at_arg (wr r m))

theorem tl_le {m : ℕ} {k : Fin 128} (h : ¬ gone r m k) (e : r k = tv r m) : tl r m ≤ k :=
  arg_le (((wr_gone r m k).2 h).trans e)

theorem tv_succ_le (m : ℕ) : tv r (m + 1) ≤ tv r m := by
  obtain ⟨k, hk⟩ := exists_top (wr r (m + 1))
  rw [tv, ← hk]
  by_cases h : k = arg (wr r m)
  · rw [show wr r (m + 1) k = ⊥ from if_pos h]; exact bot_le
  · rw [show wr r (m + 1) k = wr r m k from if_neg h]; exact le_top _ k

theorem tv_anti {m m' : ℕ} (h : m ≤ m') : tv r m' ≤ tv r m := by
  induction h with
  | refl => exact le_rfl
  | step _ ih => exact (tv_succ_le r _).trans ih

theorem gone_before {m : ℕ} (h : tv r m ≠ ⊥) {k : Fin 128} (g : gone r m k) : tv r m < r k ∨ (r k = tv r m ∧ k < tl r m) := by
  obtain ⟨i, hi, rfl⟩ := g
  have hle := tv_anti r (Nat.le_of_lt hi)
  have hi' : tv r i ≠ ⊥ := fun e => h (le_bot_iff.mp (e ▸ hle))
  rw [at_tl r hi']
  rcases hle.lt_or_eq with hlt | heq
  · exact .inl hlt
  · refine .inr ⟨heq.symm, lt_of_le_of_ne (tl_le r (fun g => tl_not_gone r h (gone_mono r hi.le g)) ((at_tl r h).trans heq)) fun e => ?_⟩
    exact tl_not_gone r h ⟨i, hi, e⟩

/-- What is left after the `m`-th greatest value is what comes after it in the order of value, then lane. -/
theorem not_gone_succ {m : ℕ} (h : tv r m ≠ ⊥) (k : Fin 128) :
    ¬ gone r (m + 1) k ↔ r k < tv r m ∨ (r k = tv r m ∧ tl r m < k) := by
  rw [gone_succ]
  constructor
  · intro hn
    have h1 : ¬ gone r m k := fun g => hn (.inl g)
    rcases (le_tv r h1).lt_or_eq with hlt | heq
    · exact .inl hlt
    · exact .inr ⟨heq, lt_of_le_of_ne (tl_le r h1 heq) fun e => hn (.inr e)⟩
  · rintro (hlt | ⟨heq, hlt⟩) (g | e)
    · rcases gone_before r h g with h' | ⟨h', _⟩
      · exact absurd h' (not_lt.mpr hlt.le)
      · exact absurd h' hlt.ne
    · rw [← e, at_tl r h] at hlt; exact lt_irrefl _ hlt
    · rcases gone_before r h g with h' | ⟨_, h'⟩
      · exact absurd heq h'.ne'
      · exact absurd h' (not_lt.mpr hlt.le)
    · exact absurd e hlt.ne

/-- The row masked to what comes after the `m`-th greatest value is the row after `m + 1` rounds. -/
theorem wr_succ_eq {m : ℕ} (h : tv r m ≠ ⊥) (k : Fin 128) :
    wr r (m + 1) k = if r k < tv r m ∨ (r k = tv r m ∧ tl r m < k) then r k else ⊥ := by
  by_cases hg : gone r (m + 1) k
  · rw [(wr_gone r (m + 1) k).1 hg, if_neg fun h' => (not_gone_succ r h k).mpr h' hg]
  · rw [(wr_gone r (m + 1) k).2 hg, if_pos ((not_gone_succ r h k).mp hg)]

/-- Values taken out while the row is live come from distinct lanes. -/
theorem tl_inj {m i : ℕ} (h : tv r m ≠ ⊥) (hi : i < m) : tl r i ≠ tl r m := fun e => tl_not_gone r h ⟨i, hi, e⟩

end Cert.Proof.Beam

end
-- ==== Proof.Greedy.lean ====
module

public import proofs.«01_k».proof.Proof.Rows

@[expose] public section

noncomputable section

namespace Cert.Proof.Beam

/-! # The hundred best candidates, one after another

A candidate is a number below 9700: numbers below 100 keep a beam, and number `100 + 96 l + c` extends beam `l` by
character `c`. The kernel names it by its beam and a lane: lane 0 keeps the beam, lane `c + 1` extends it by `c`. -/

/-- The beam of a candidate. -/
def bm (n : Fin 9700) : Fin 100 := if h : n.val < 100 then ⟨n.val, h⟩ else ⟨(n.val - 100) / 96, by have := n.isLt; omega⟩

/-- The lane of a candidate. -/
def ln (n : Fin 9700) : Fin 128 := if n.val < 100 then 0 else ⟨(n.val - 100) % 96 + 1, by omega⟩

/-- The candidate of a beam and a lane. -/
def no (l : Fin 100) (k : Fin 128) : Fin 9700 :=
  if h : 1 ≤ k.val ∧ k.val ≤ 96 then ⟨99 + 96 * l.val + k.val, by have := l.isLt; omega⟩ else ⟨l.val, by have := l.isLt; omega⟩

theorem bm_val (n : Fin 9700) : (bm n).val = if n.val < 100 then n.val else (n.val - 100) / 96 := by
  unfold bm; split <;> rfl

theorem ln_val (n : Fin 9700) : (ln n).val = if n.val < 100 then 0 else (n.val - 100) % 96 + 1 := by
  unfold ln; split <;> rfl

theorem no_val (l : Fin 100) (k : Fin 128) (h : k.val ≤ 96) : (no l k).val = if k.val = 0 then l.val else 99 + 96 * l.val + k.val := by
  unfold no; split <;> split <;> (try rfl) <;> omega

theorem ln_le (n : Fin 9700) : (ln n).val ≤ 96 := by rw [ln_val]; split <;> omega

theorem no_bm_ln (n : Fin 9700) : no (bm n) (ln n) = n := by
  apply Fin.ext
  rw [no_val _ _ (ln_le n), ln_val, bm_val]
  by_cases h : n.val < 100
  · rw [if_pos h, if_pos h, if_pos rfl]
  · rw [if_neg h, if_neg h, if_neg (by omega)]; omega

theorem bm_no (l : Fin 100) (k : Fin 128) (h : k.val ≤ 96) : bm (no l k) = l := by
  apply Fin.ext
  rw [bm_val, no_val _ _ h]
  have := l.isLt
  split_ifs <;> omega

theorem ln_no (l : Fin 100) (k : Fin 128) (h : k.val ≤ 96) : ln (no l k) = k := by
  apply Fin.ext
  rw [ln_val, no_val _ _ h]
  have := l.isLt
  split_ifs <;> omega

/-- A sequence of candidates, each the greatest in value (then the first) of those not yet named. -/
def Greedy (V : Fin 9700 → EReal) (I : Fin 100 → Fin 9700) : Prop :=
  ∀ j, (∀ i, i < j → I i ≠ I j) ∧ ∀ n, (∀ i, i < j → I i ≠ n) → V n < V (I j) ∨ (V n = V (I j) ∧ I j ≤ n)

variable (C : Fin 100 → Fin 128 → EReal) (I : Fin 100 → Fin 9700)

/-- The value of a candidate in the kernel's table. -/
def val (n : Fin 9700) : EReal := C (bm n) (ln n)

/-- What a selection in progress holds after `j` picks: of every beam the value `hv` and lane `hl` of its best candidate not yet
    picked, and how many of its candidates are picked, `p`. -/
structure Heads (j : ℕ) (hv : Fin 100 → EReal) (hl p : Fin 100 → ℕ) : Prop where
  value : ∀ l, hv l = tv (C l) (p l)
  lane : ∀ l, hv l ≠ ⊥ → hl l = (tl (C l) (p l)).val
  small : ∀ l, hl l ≤ 129
  spent : ∀ l, p l ≤ j
  taken : ∀ l k, k.val ≤ 96 → (gone (C l) (p l) k ↔ ∃ i : Fin 100, i.val < j ∧ I i = no l k)

variable {C I}
variable {hv : Fin 100 → EReal} {hl p : Fin 100 → ℕ}

/-- The order the kernel ranks heads of equal value by: kept beams before extended ones, then the beam. -/
def rank (hl : Fin 100 → ℕ) (l : Fin 100) : ℕ := l.val + if hl l = 0 then 0 else 100

theorem Heads.pick (hC : ∀ l k, 96 < k.val → C l k = ⊥) (hG : Greedy (val C) I) (j : Fin 100) (H : Heads C I j hv hl p)
    (hlive : val C (I j) ≠ ⊥) :
    hv (bm (I j)) = val C (I j) ∧ (∀ l, hv l ≤ val C (I j)) ∧ hl (bm (I j)) = (ln (I j)).val
      ∧ tl (C (bm (I j))) (p (bm (I j))) = ln (I j)
      ∧ ∀ l, hv l = val C (I j) → rank hl (bm (I j)) ≤ rank hl l := by
  obtain ⟨hnew, hbest⟩ := hG j
  -- the lane at the head of any live beam is an untaken candidate
  have hfree : ∀ l, hv l ≠ ⊥ → (tl (C l) (p l)).val ≤ 96 ∧ C l (tl (C l) (p l)) = hv l
      ∧ ∀ i, i < j → I i ≠ no l (tl (C l) (p l)) := by
    intro l hne
    rw [H.value l] at hne
    have h1 := at_tl (C l) hne
    have h96 : (tl (C l) (p l)).val ≤ 96 := by
      by_contra hlt
      exact hne (h1.symm.trans (hC l _ (by omega)))
    refine ⟨h96, h1.trans (H.value l).symm, fun i hi e => ?_⟩
    exact tl_not_gone (C l) hne ((H.taken l _ h96).mpr ⟨i, hi, e⟩)
  have hval : ∀ l k, k.val ≤ 96 → val C (no l k) = C l k := fun l k h => by
    unfold val; rw [bm_no l k h, ln_no l k h]
  -- no head is above the pick
  have hle : ∀ l, hv l ≤ val C (I j) := by
    intro l
    by_cases hne : hv l = ⊥
    · rw [hne]; exact bot_le
    · obtain ⟨h96, hv', hf⟩ := hfree l hne
      have := hbest _ hf
      rw [hval l _ h96, hv'] at this
      exact this.elim le_of_lt fun h => h.1.le
  -- the pick's own beam has it at its head
  have hng : ¬ gone (C (bm (I j))) (p (bm (I j))) (ln (I j)) := fun g => by
    obtain ⟨i, hi, e⟩ := (H.taken _ _ (ln_le _)).mp g
    rw [no_bm_ln] at e
    exact hnew i hi e
  have hge : val C (I j) ≤ hv (bm (I j)) := by
    rw [H.value]; exact le_tv _ hng
  have heq : hv (bm (I j)) = val C (I j) := le_antisymm (hle _) hge
  have hne : hv (bm (I j)) ≠ ⊥ := heq ▸ hlive
  have hlane : tl (C (bm (I j))) (p (bm (I j))) = ln (I j) := by
    obtain ⟨h96, hv', hf⟩ := hfree _ hne
    have h1 : tl (C (bm (I j))) (p (bm (I j))) ≤ ln (I j) := tl_le _ hng (by rw [← H.value, heq]; rfl)
    have h2 := hbest _ hf
    rw [hval _ _ h96, hv', heq] at h2
    have h3 := (h2.resolve_left (lt_irrefl _)).2
    rw [Fin.le_def, no_val _ _ h96] at h3
    have h4 : (I j).val = _ := (congrArg Fin.val (no_bm_ln (I j))).symm
    rw [no_val _ _ (ln_le _)] at h4
    rw [Fin.le_def] at h1
    apply Fin.ext
    have := (bm (I j)).isLt
    split_ifs at h3 h4 <;> omega
  refine ⟨heq, hle, (H.lane _ hne).trans (congrArg Fin.val hlane), hlane, fun l hl' => ?_⟩
  have hne' : hv l ≠ ⊥ := hl' ▸ hlive
  obtain ⟨h96, hv', hf⟩ := hfree l hne'
  have h2 := hbest _ hf
  rw [hval _ _ h96, hv', hl'] at h2
  have h3 := (h2.resolve_left (lt_irrefl _)).2
  rw [Fin.le_def, no_val _ _ h96] at h3
  have h4 : (I j).val = _ := (congrArg Fin.val (no_bm_ln (I j))).symm
  rw [no_val _ _ (ln_le _)] at h4
  unfold rank
  rw [H.lane _ hne, H.lane _ hne', hlane]
  have := (bm (I j)).isLt
  have := l.isLt
  split_ifs at h3 h4 ⊢ <;> omega

/-- After the pick the head of its beam moves on by one, and the others stay. -/
theorem Heads.step (j : Fin 100) (H : Heads C I j hv hl p) {hv' : Fin 100 → EReal} {hl' p' : Fin 100 → ℕ}
    (hlane : tl (C (bm (I j))) (p (bm (I j))) = ln (I j))
    (hp : ∀ l, p' l = if l = bm (I j) then p l + 1 else p l)
    (hvs : hv' (bm (I j)) = tv (C (bm (I j))) (p (bm (I j)) + 1))
    (hls : hv' (bm (I j)) ≠ ⊥ → hl' (bm (I j)) = (tl (C (bm (I j))) (p (bm (I j)) + 1)).val)
    (hv0 : ∀ l, l ≠ bm (I j) → hv' l = hv l) (hl0 : ∀ l, l ≠ bm (I j) → hl' l = hl l) (hsm : ∀ l, hl' l ≤ 129) :
    Heads C I (j + 1) hv' hl' p' where
  value l := by
    by_cases h : l = bm (I j)
    · subst h; rw [hp, if_pos rfl, hvs]
    · rw [hp, if_neg h, hv0 l h, H.value]
  lane l hne := by
    by_cases h : l = bm (I j)
    · subst h; rw [hp, if_pos rfl]; exact hls hne
    · rw [hp, if_neg h, hl0 l h]; exact H.lane l (hv0 l h ▸ hne)
  small := hsm
  spent l := by
    have := H.spent l
    rw [hp]; split <;> omega
  taken l k hk := by
    have hsplit : (∃ i : Fin 100, i.val < j.val + 1 ∧ I i = no l k) ↔ (∃ i : Fin 100, i.val < j.val ∧ I i = no l k) ∨ I j = no l k := by
      constructor
      · rintro ⟨i, hi, e⟩
        rcases Nat.lt_succ_iff_lt_or_eq.mp hi with h | h
        · exact .inl ⟨i, h, e⟩
        · exact .inr (Fin.ext h ▸ e)
      · rintro (⟨i, hi, e⟩ | e)
        · exact ⟨i, by omega, e⟩
        · exact ⟨j, by omega, e⟩
    rw [hsplit, ← H.taken l k hk, hp]
    by_cases h : l = bm (I j)
    · subst h
      rw [if_pos rfl, gone_succ, hlane]
      refine or_congr_right ⟨fun e => by rw [← e, no_bm_ln], fun e => by rw [e, ln_no _ _ hk]⟩
    · rw [if_neg h]
      refine ⟨.inl, fun h' => h'.resolve_right fun e => h (by rw [e, bm_no _ _ hk])⟩

/-! ## The first step: one live beam -/

section First

variable (hC : ∀ k, C 0 k ≠ ⊥ ↔ k.val < 96) (hC0 : ∀ l k, l ≠ 0 → C l k = ⊥) (hG : Greedy (val C) I)

include hC in
/-- A row with 96 live lanes is live for 96 rounds. -/
theorem row_live : ∀ j, j < 96 → tv (C 0) j ≠ ⊥ := by
  intro j hj hbot
  have hall : ∀ k : Fin 96, gone (C 0) j ⟨k.val, by omega⟩ := by
    intro k
    by_contra hg
    have := le_tv (C 0) hg
    rw [hbot, le_bot_iff] at this
    exact (hC _).mpr k.isLt this
  choose f hf using hall
  have hinj : Function.Injective (fun k : Fin 96 => (⟨f k, (hf k).1⟩ : Fin j)) := by
    intro a b e
    have e' : f a = f b := Fin.mk.inj e
    have h1 := (hf a).2
    rw [e', (hf b).2] at h1
    exact Fin.ext (congrArg Fin.val h1).symm
  have := Fintype.card_le_of_injective _ hinj
  simp at this
  omega

include hC hC0 hG in
/-- The first 96 picks are the first beam's, in its row's order. -/
theorem first_row : ∀ j : ℕ, ∀ h : j < 96, I ⟨j, by omega⟩ = no 0 (tl (C 0) j) := by
  intro j
  induction j using Nat.strong_induction_on with
  | _ j ih =>
    intro h
    have hlive := row_live hC j h
    have h96 : (tl (C 0) j).val < 96 := (hC _).mp (by rw [at_tl _ hlive]; exact hlive)
    obtain ⟨hnew, hbest⟩ := hG ⟨j, by omega⟩
    have htaken : ∀ i : Fin 100, i.val < j → I i = no 0 (tl (C 0) i.val) := fun i hi => ih i.val hi (by omega)
    have hlow : ∀ i : ℕ, i < j → (tl (C 0) i).val ≤ 96 := fun i hi => by
      have hl := row_live hC i (by omega)
      have := (hC (tl (C 0) i)).mp (by rw [at_tl _ hl]; exact hl)
      omega
    have h1 := hbest (no 0 (tl (C 0) j)) fun i hi e => by
      rw [htaken i hi] at e
      have e2 := congrArg ln e
      rw [ln_no _ _ (hlow _ hi), ln_no _ _ h96.le] at e2
      exact tl_inj (C 0) hlive hi e2
    have hv : val C (no 0 (tl (C 0) j)) = tv (C 0) j := by
      unfold val; rw [bm_no _ _ h96.le, ln_no _ _ h96.le, at_tl _ hlive]
    rw [hv] at h1
    -- the pick is live, so it is of beam 0
    have hge : tv (C 0) j ≤ val C (I ⟨j, by omega⟩) := h1.elim le_of_lt fun h => h.1.le
    have hb : bm (I ⟨j, by omega⟩) = 0 := by
      by_contra hb
      have : val C (I ⟨j, by omega⟩) = ⊥ := hC0 _ _ hb
      rw [this, le_bot_iff] at hge
      exact hlive hge
    have hI : no 0 (ln (I ⟨j, by omega⟩)) = I ⟨j, by omega⟩ := by rw [← hb, no_bm_ln]
    have hng : ¬ gone (C 0) j (ln (I ⟨j, by omega⟩)) := by
      rintro ⟨i, hi, e⟩
      refine hnew ⟨i, by omega⟩ hi ?_
      rw [htaken ⟨i, by omega⟩ hi, show tl (C 0) i = _ from e, hI]
    have hle := le_tv (C 0) hng
    have hvI : val C (I ⟨j, by omega⟩) = C 0 (ln (I ⟨j, by omega⟩)) := by unfold val; rw [hb]
    rw [← hvI] at hle
    have heq := le_antisymm hge hle
    have hl1 := tl_le (C 0) hng (hvI.symm.trans heq.symm)
    have hl2 := (h1.resolve_left (heq ▸ lt_irrefl _)).2
    rw [← hI, Fin.le_def, no_val _ _ (ln_le _), no_val _ _ h96.le] at hl2
    rw [Fin.le_def] at hl1
    rw [← hI]
    congr 1
    apply Fin.ext
    split_ifs at hl2 <;> omega

include hC hC0 hG in
/-- The first beam's candidates are all picked by then. -/
theorem first_all (k : Fin 128) (hk : k.val < 96) : ∃ i : Fin 100, i.val < 96 ∧ I i = no 0 k := by
  have hinj : Function.Injective (fun i : Fin 96 => (⟨(tl (C 0) i.val).val, (hC _).mp (by
      rw [at_tl _ (row_live hC _ i.isLt)]; exact row_live hC _ i.isLt)⟩ : Fin 96)) := by
    intro a b e
    have e' : tl (C 0) a.val = tl (C 0) b.val := Fin.ext (Fin.mk.inj e)
    rcases lt_trichotomy a.val b.val with h | h | h
    · exact absurd e' (tl_inj _ (row_live hC _ b.isLt) h)
    · exact Fin.ext h
    · exact absurd e'.symm (tl_inj _ (row_live hC _ a.isLt) h)
  obtain ⟨i, hi⟩ := (Finite.injective_iff_surjective.mp hinj) ⟨k.val, hk⟩
  refine ⟨⟨i.val, by omega⟩, i.isLt, ?_⟩
  rw [first_row hC hC0 hG i.val i.isLt]
  congr 1
  exact Fin.ext (Fin.mk.inj hi)

include hC hC0 hG in
/-- The last four picks keep beams 1 to 4. -/
theorem first_rest : ∀ j : ℕ, ∀ h : j < 4, (I ⟨96 + j, by omega⟩).val = j + 1 := by
  intro j
  induction j using Nat.strong_induction_on with
  | _ j ih =>
    intro h
    obtain ⟨hnew, hbest⟩ := hG ⟨96 + j, by omega⟩
    have hdead : ∀ n, (∀ i : Fin 100, i.val < 96 → I i ≠ n) → val C n = ⊥ := by
      intro n hn
      by_contra hne
      have hb : bm n = 0 := by
        by_contra hb
        exact hne (hC0 _ _ hb)
      have hk : (ln n).val < 96 := (hC _).mp (by rw [← hb]; exact hne)
      obtain ⟨i, hi, e⟩ := first_all hC hC0 hG _ hk
      rw [← hb, no_bm_ln] at e
      exact hn i hi e
    have h0 : val C (I ⟨96 + j, by omega⟩) = ⊥ := hdead _ fun i hi => hnew i (by rw [Fin.lt_def]; show i.val < 96 + j; omega)
    have hfree : ∀ i : Fin 100, i < ⟨96 + j, by omega⟩ → I i ≠ ⟨j + 1, by omega⟩ := by
      intro i hi e
      have hi' : i.val < 96 + j := hi
      by_cases hi2 : i.val < 96
      · have e2 := first_row hC hC0 hG i.val hi2
        rw [show (⟨i.val, by omega⟩ : Fin 100) = i from rfl, e] at e2
        have e3 := congrArg bm e2
        have hl := row_live hC i.val hi2
        have h96 := (hC (tl (C 0) i.val)).mp (by rw [at_tl _ hl]; exact hl)
        rw [bm_no _ _ (by omega)] at e3
        have e4 := congrArg Fin.val e3
        rw [bm_val] at e4
        have e5 : (if j + 1 < 100 then j + 1 else (j + 1 - 100) / 96) = 0 := e4
        split_ifs at e5 <;> omega
      · have e2 := ih (i.val - 96) (by omega) (by omega)
        have e3 : (⟨96 + (i.val - 96), by omega⟩ : Fin 100) = i := Fin.ext (by simp; omega)
        rw [e3, e] at e2
        simp at e2
        omega
    have h1 := hbest ⟨j + 1, by omega⟩ hfree
    rw [h0] at h1
    have h2 := (h1.resolve_left not_lt_bot).2
    rw [Fin.le_def] at h2
    simp only [] at h2
    -- nothing lower is left
    by_contra hne
    have hlt : (I ⟨96 + j, by omega⟩).val < j + 1 := by omega
    by_cases hz : (I ⟨96 + j, by omega⟩).val = 0
    · obtain ⟨i, hi, e⟩ := first_all hC hC0 hG 0 (by decide)
      refine hnew i (by rw [Fin.lt_def]; show i.val < 96 + j; omega) (e.trans (Fin.ext ?_))
      rw [hz, no_val _ _ (by decide)]
      rfl
    · have e2 := ih ((I ⟨96 + j, by omega⟩).val - 1) (by omega) (by omega)
      refine hnew ⟨96 + ((I ⟨96 + j, by omega⟩).val - 1), by omega⟩ (by rw [Fin.lt_def]; show 96 + _ < 96 + j; omega) (Fin.ext ?_)
      rw [e2]
      omega

end First

/-- With a hundred live candidates every pick is live. -/
theorem picks_live (hG : Greedy (val C) I) (f : Fin 100 → Fin 9700) (hf : Function.Injective f) (hv : ∀ i, val C (f i) ≠ ⊥) (j : Fin 100) :
    val C (I j) ≠ ⊥ := by
  intro hbot
  obtain ⟨-, hbest⟩ := hG j
  have hall : ∀ a : Fin 100, ∃ i, i < j ∧ I i = f a := by
    intro a
    by_contra hn
    push Not at hn
    have := hbest (f a) fun i hi => hn i hi
    rw [hbot] at this
    rcases this with h | ⟨h, _⟩
    · exact not_lt_bot h
    · exact hv a h
  choose g hg using hall
  have hinj : Function.Injective (fun a : Fin 100 => (⟨(g a).val, (hg a).1⟩ : Fin j.val)) := by
    intro a b e
    have e' : g a = g b := Fin.ext (Fin.mk.inj e)
    have h1 := (hg a).2
    rw [e', (hg b).2] at h1
    exact hf h1.symm
  have := Fintype.card_le_of_injective _ hinj
  simp at this
  omega

end Cert.Proof.Beam

end
-- ==== Proof.Model.lean ====
module

public import proofs.«01_k».proof.Proof.Greedy

@[expose] public section

noncomputable section

namespace Cert.Proof.Beam

open Idealize.ShloMosaic

/-! # One time step of one row's beam search, over the extended reals -/

/-- The logarithm of the sum of two exponentials, as both programs write it. -/
def lae (a b : EReal) : EReal :=
  max a b + Ideal.log1p (Ideal.exp (-(FloatOps.absf (F := Ideal) (φ := .f32) (a - b))))

theorem exp_nonneg (x : EReal) : 0 ≤ Ideal.exp x := by
  induction x with
  | bot => exact le_rfl
  | top => exact _root_.le_top
  | coe r => exact EReal.coe_nonneg.mpr (Real.exp_pos r).le

theorem log_ne_bot {x : EReal} (h : 0 < x) : Ideal.log x ≠ ⊥ := by
  induction x with
  | bot => exact absurd h not_lt_bot
  | top => exact bot_lt_top.ne'
  | coe r =>
    have hr : 0 < r := EReal.coe_pos.mp h
    show (if r ≤ 0 then (⊥ : EReal) else (Real.log r : EReal)) ≠ ⊥
    rw [if_neg (not_le.mpr hr)]
    exact EReal.coe_ne_bot _

theorem log1p_exp_ne_bot (x : EReal) : Ideal.log1p (Ideal.exp x) ≠ ⊥ := by
  refine log_ne_bot ?_
  exact lt_of_lt_of_le (by norm_num : (0 : EReal) < 1) (le_add_of_nonneg_right (exp_nonneg x))

theorem add_ne_bot {a b : EReal} (ha : a ≠ ⊥) (hb : b ≠ ⊥) : a + b ≠ ⊥ := fun h => (EReal.add_eq_bot_iff.mp h).elim ha hb

theorem lae_ne_bot {a b : EReal} (h : a ≠ ⊥ ∨ b ≠ ⊥) : lae a b ≠ ⊥ := by
  refine add_ne_bot (fun e => ?_) (log1p_exp_ne_bot _)
  have := max_eq_bot.mp e
  exact h.elim (fun h => h this.1) fun h => h this.2

theorem lae_bot : lae ⊥ ⊥ = ⊥ := by unfold lae; rw [max_self, EReal.bot_add]

/-- What a step carries for one batch row: the blank and non-blank scores and the last characters of the beams. -/
structure St where
  pb : Fin 100 → EReal
  pnb : Fin 100 → EReal
  last : Fin 100 → BitVec 32

variable (lp : Fin 96 → EReal) (s : St)

/-- The log posterior of the character a word names. -/
def lpAt (w : BitVec 32) : EReal := if h : w.toNat < 96 then lp ⟨w.toNat, h⟩ else 0

def tot (l : Fin 100) : EReal := lae (s.pb l) (s.pnb l)

/-- The blank score of a kept prefix. -/
def spb (l : Fin 100) : EReal := tot s l + lp 95

/-- The non-blank score of a kept prefix. -/
def spnb (l : Fin 100) : EReal := if 0 ≤ (s.last l).toInt then s.pnb l + lpAt lp (s.last l) else ⊥

def stot (l : Fin 100) : EReal := lae (spb lp s l) (spnb lp s l)

/-- The score of a prefix extended by a character. -/
def ext (l : Fin 100) (c : Fin 96) : EReal :=
  if c.val = 95 then ⊥ else (if BitVec.ofNat 32 c.val = s.last l then s.pb l else tot s l) + lp c

/-- The candidates of a step, by beam and lane. -/
def cnd (l : Fin 100) (k : Fin 128) : EReal :=
  if k.val = 0 then stot lp s l else if h : k.val - 1 < 96 then ext lp s l ⟨k.val - 1, h⟩ else ⊥

/-- The state after a step that picks the candidates `n`. -/
def next (n : Fin 100 → Fin 9700) : St where
  pb j := if (ln (n j)).val = 0 then spb lp s (bm (n j)) else ⊥
  pnb j := if (ln (n j)).val = 0 then spnb lp s (bm (n j)) else val (cnd lp s) (n j)
  last j := if (ln (n j)).val = 0 then s.last (bm (n j)) else BitVec.ofNat 32 ((ln (n j)).val - 1)

/-- The state before the first step. -/
def start : St where
  pb l := if l.val = 0 then 0 else ⊥
  pnb _ := ⊥
  last _ := 4294967295#32

theorem cnd_high (l : Fin 100) (k : Fin 128) (h : 96 < k.val) : cnd lp s l k = ⊥ := by
  unfold cnd; rw [if_neg (by omega), dif_neg (by omega)]

/-- The words a last character can be: none, or a character. -/
def Okw (w : BitVec 32) : Prop := w = 4294967295#32 ∨ w.toNat < 95

variable {lp s}

theorem next_live (n : Fin 100 → Fin 9700) (j : Fin 100) (h : val (cnd lp s) (n j) ≠ ⊥) : tot (next lp s n) j ≠ ⊥ := by
  unfold tot next
  by_cases hk : (ln (n j)).val = 0
  · simp only [hk, if_true]
    have : val (cnd lp s) (n j) = stot lp s (bm (n j)) := by unfold val cnd; rw [if_pos hk]
    rw [this] at h
    exact h
  · simp only [hk, if_false]
    exact lae_ne_bot (.inr h)

theorem next_okw (n : Fin 100 → Fin 9700) (hs : ∀ l, Okw (s.last l)) (hV : ∀ l k, k.val = 96 → (n l ≠ no (bm (n l)) k)) (j : Fin 100) : Okw ((next lp s n).last j) := by
  unfold next
  by_cases hk : (ln (n j)).val = 0
  · simp only [hk, if_true]; exact hs _
  · simp only [hk, if_false]
    have h1 := ln_le (n j)
    have h2 : (ln (n j)).val ≠ 96 := fun e => hV j _ e (no_bm_ln _).symm
    right
    rw [BitVec.toNat_ofNat, Nat.mod_eq_of_lt (by omega)]
    omega

theorem ext_ne_bot (hlp : ∀ c, lp c ≠ ⊥) {l : Fin 100} (ht : tot s l ≠ ⊥) {c : Fin 96} (hc : c.val ≠ 95) (hne : c.val ≠ (s.last l).toNat) :
    ext lp s l c ≠ ⊥ := by
  unfold ext
  rw [if_neg hc, if_neg]
  · exact add_ne_bot ht (hlp c)
  · intro e
    apply hne
    rw [← e, BitVec.toNat_ofNat, Nat.mod_eq_of_lt (by have := c.isLt; omega)]

theorem val_no (l : Fin 100) (k : Fin 128) (h : k.val ≤ 96) (C : Fin 100 → Fin 128 → EReal) : val C (no l k) = C l k := by
  unfold val; rw [bm_no l k h, ln_no l k h]

/-- Two live beams have a hundred live candidates. -/
theorem two_live (hlp : ∀ c, lp c ≠ ⊥) (h0 : tot s 0 ≠ ⊥) (h1 : tot s 1 ≠ ⊥) {I : Fin 100 → Fin 9700} (hG : Greedy (val (cnd lp s)) I) (j : Fin 100) :
    val (cnd lp s) (I j) ≠ ⊥ := by
  -- fifty characters of each of the two beams, the beam's own last character left out
  let sk : ℕ → ℕ → ℕ := fun a i => if i < a then i else i + 1
  let ll : Fin 100 → Fin 100 := fun i => if i.val < 50 then 0 else 1
  let kk : Fin 100 → Fin 128 := fun i => ⟨sk (s.last (ll i)).toNat (i.val % 50) + 1, by
    simp only [sk]; split <;> omega⟩
  have hk : ∀ i, (kk i).val ≤ 51 ∧ 1 ≤ (kk i).val := fun i => by simp only [kk, sk]; split <;> omega
  refine picks_live hG (fun i => no (ll i) (kk i)) (fun a b e => ?_) (fun i => ?_) j
  · have ha := hk a
    have hb := hk b
    have e1 := congrArg bm e
    have e2 := congrArg ln e
    simp only [] at e1 e2
    rw [bm_no _ _ (by omega), bm_no _ _ (by omega)] at e1
    rw [ln_no _ _ (by omega), ln_no _ _ (by omega)] at e2
    have e3 := congrArg Fin.val e2
    simp only [kk, sk, e1] at e3
    have e4 : (a.val < 50 ↔ b.val < 50) := by
      simp only [ll] at e1
      constructor
      · intro h; by_contra h'; rw [if_pos h, if_neg h'] at e1; exact absurd e1 (by decide)
      · intro h; by_contra h'; rw [if_pos h, if_neg h'] at e1; exact absurd e1 (by decide)
    apply Fin.ext
    have := a.isLt
    have := b.isLt
    split_ifs at e3 <;> omega
  · have hi := hk i
    have hll : tot s (ll i) ≠ ⊥ := by simp only [ll]; split <;> assumption
    rw [val_no _ _ (by omega)]
    unfold cnd
    rw [if_neg (by omega), dif_pos (by omega)]
    refine ext_ne_bot hlp hll (by simp only []; omega) ?_
    show sk _ _ + 1 - 1 ≠ _
    simp only [sk]
    split <;> omega

/-- At the start the first beam's candidates are its prefix kept and extended by every character but the blank. -/
theorem start_live (hlp : ∀ c, lp c ≠ ⊥) (k : Fin 128) : cnd lp start 0 k ≠ ⊥ ↔ k.val < 96 := by
  have ht : tot start 0 ≠ ⊥ := lae_ne_bot (.inl (by simp [start]))
  unfold cnd
  by_cases h0 : k.val = 0
  · rw [if_pos h0]
    refine ⟨fun _ => by omega, fun _ => lae_ne_bot (.inl (add_ne_bot ht (hlp _)))⟩
  · rw [if_neg h0]
    by_cases h1 : k.val - 1 < 96
    · rw [dif_pos h1]
      by_cases h2 : k.val - 1 = 95
      · have : ext lp start 0 ⟨k.val - 1, h1⟩ = ⊥ := if_pos h2
        rw [this]
        exact ⟨fun h => absurd rfl h, fun h => by omega⟩
      · refine ⟨fun _ => by omega, fun _ => ext_ne_bot hlp ht h2 ?_⟩
        show k.val - 1 ≠ 4294967295
        omega
    · rw [dif_neg h1]
      exact ⟨fun h => absurd rfl h, fun h => by omega⟩

/-- The other beams have none. -/
theorem start_dead (l : Fin 100) (k : Fin 128) (hl : l ≠ 0) : cnd lp start l k = ⊥ := by
  have hv : l.val ≠ 0 := fun h => hl (Fin.ext h)
  have hp : start.pb l = ⊥ := if_neg hv
  have ht : tot start l = ⊥ := by unfold tot; rw [hp]; exact lae_bot
  have hs : spnb lp start l = ⊥ := if_neg (by show ¬ (0 : ℤ) ≤ (4294967295#32).toInt; decide)
  unfold cnd
  split
  · unfold stot spb; rw [ht, hs, EReal.bot_add, lae_bot]
  · split
    · unfold ext; rw [hp, ht]; split
      · rfl
      · rw [ite_self, EReal.bot_add]
    · rfl

/-- A live pick is never the blank's extension. -/
theorem live_ne_blank {n : Fin 9700} (h : val (cnd lp s) n ≠ ⊥) (k : Fin 128) (hk : k.val = 96) : n ≠ no (bm n) k := by
  intro e
  apply h
  rw [e, val_no _ _ (by omega)]
  unfold cnd
  rw [if_neg (by omega), dif_pos (by omega)]
  exact if_pos (by simp only []; omega)

/-! ## The whole search, given the picks of every step -/

/-- The state after `t` steps. -/
def ms (lp : ℕ → Fin 96 → EReal) (n : ℕ → Fin 100 → Fin 9700) : ℕ → St
  | 0 => start
  | t + 1 => next (lp t) (ms lp n t) (n t)

/-- The candidates of step `t`. -/
def cn (lp : ℕ → Fin 96 → EReal) (n : ℕ → Fin 100 → Fin 9700) (t : ℕ) : Fin 100 → Fin 128 → EReal := cnd (lp t) (ms lp n t)

section Whole

variable {lp : ℕ → Fin 96 → EReal} {n : ℕ → Fin 100 → Fin 9700} (hlp : ∀ t c, lp t c ≠ ⊥)

include hlp

theorem two_beams (t : ℕ) (hG : ∀ u, u < t → Greedy (val (cn lp n u)) (n u)) (ht : 1 ≤ t) : tot (ms lp n t) 0 ≠ ⊥ ∧ tot (ms lp n t) 1 ≠ ⊥ := by
  induction t with
  | zero => omega
  | succ t ih =>
    have hg := hG t (by omega)
    have hl : ∀ j : Fin 100, j.val < 2 → val (cn lp n t) (n t j) ≠ ⊥ := by
      intro j hj
      by_cases h0 : t = 0
      · subst h0
        have e := first_row (start_live (hlp 0)) start_dead hg j.val (by omega)
        rw [show (⟨j.val, by omega⟩ : Fin 100) = j from rfl] at e
        have hlive := row_live (C := cnd (lp 0) start) (start_live (hlp 0)) j.val (by omega)
        have h96 := (start_live (hlp 0) (tl (cnd (lp 0) start 0) j.val)).mp (by rw [at_tl _ hlive]; exact hlive)
        rw [e, val_no _ _ (by omega)]
        show cnd (lp 0) start 0 _ ≠ ⊥
        rw [at_tl _ hlive]; exact hlive
      · have := ih (fun u hu => hG u (by omega)) (by omega)
        exact two_live (hlp t) this.1 this.2 hg j
    exact ⟨next_live _ _ (hl 0 (by decide)), next_live _ _ (hl 1 (by decide))⟩

/-- From the second step on, every pick is live. -/
theorem all_live (t : ℕ) (hG : ∀ u, u ≤ t → Greedy (val (cn lp n u)) (n u)) (ht : 1 ≤ t) (j : Fin 100) : val (cn lp n t) (n t j) ≠ ⊥ := by
  have := two_beams hlp t (fun u hu => hG u hu.le) ht
  exact two_live (hlp t) this.1 this.2 (hG t le_rfl) j

/-- No pick extends a prefix by the blank. -/
theorem ne_blank (t : ℕ) (hG : ∀ u, u ≤ t → Greedy (val (cn lp n u)) (n u)) (j : Fin 100) : (ln (n t j)).val ≠ 96 := by
  intro e
  by_cases h0 : t = 0
  · subst h0
    by_cases hj : j.val < 96
    · have e2 := first_row (start_live (hlp 0)) start_dead (hG 0 le_rfl) j.val hj
      have hlive := row_live (C := cnd (lp 0) start) (start_live (hlp 0)) j.val hj
      have h96 := (start_live (hlp 0) (tl (cnd (lp 0) start 0) j.val)).mp (by rw [at_tl _ hlive]; exact hlive)
      rw [show (⟨j.val, by omega⟩ : Fin 100) = j from rfl] at e2
      rw [e2] at e
      have e3 := congrArg Fin.val (ln_no 0 (tl (cnd (lp 0) start 0) j.val) (by omega))
      have e4 : (ln (no 0 (tl (cnd (lp 0) start 0) j.val))).val = 96 := e
      omega
    · have e2 := first_rest (start_live (hlp 0)) start_dead (hG 0 le_rfl) (j.val - 96) (by have := j.isLt; omega)
      rw [show (⟨96 + (j.val - 96), by omega⟩ : Fin 100) = j from Fin.ext (by simp only []; omega)] at e2
      rw [ln_val, e2] at e
      have := j.isLt
      split_ifs at e <;> omega
  · exact live_ne_blank (all_live hlp t hG (by omega) j) (ln (n t j)) e (no_bm_ln _).symm

theorem last_okw (t : ℕ) (hG : ∀ u, u < t → Greedy (val (cn lp n u)) (n u)) (l : Fin 100) : Okw ((ms lp n t).last l) := by
  induction t generalizing l with
  | zero => exact .inl rfl
  | succ t ih =>
    refine next_okw (n t) (ih fun u hu => hG u (by omega)) (fun l k hk e => ?_) l
    refine ne_blank hlp t (fun u hu => hG u (by omega)) l ?_
    have e2 := congrArg ln e
    rw [ln_no _ _ (by omega)] at e2
    rw [e2, hk]

end Whole

end Cert.Proof.Beam

end
-- ==== Proof.Words.lean ====
module

public import proofs.«01_k».proof.Proof.Model

@[expose] public section

noncomputable section

namespace Cert.Proof.Beam

open Idealize.ShloMosaic

/-! # Small non-negative words -/

theorem bot_bits : Ideal.ofBits FTy.f32 4286578688#32 = ⊥ := by
  simp [Ideal.ofBits, Ideal.ieee]

theorem zero_bits : Ideal.ofBits FTy.f32 0#32 = 0 := by
  simp [Ideal.ofBits, Ideal.ieee]

theorem one_bits : Ideal.ofBits FTy.f32 1065353216#32 = 1 := by
  simp [Ideal.ofBits, Ideal.ieee]
  rw [← EReal.coe_mul, ← EReal.coe_one]
  norm_num

theorem eps_pos : 0 < Ideal.ofBits FTy.f32 869711765#32 := by
  have h1 : 869711765 >>> 23 % 256 = 103 := by decide
  have h2 : ¬BitVec.extractLsb' 31 1 869711765#32 = 1#1 := by decide
  simp only [Ideal.ofBits, Ideal.ieee]
  norm_num [h1, h2]

theorem toInt_small {n : ℕ} (h : n < 2 ^ 31) : (BitVec.ofNat 32 n).toInt = n := by
  rw [BitVec.toInt_eq_toNat_of_lt]
  · rw [BitVec.toNat_ofNat, Nat.mod_eq_of_lt (by omega)]
  · rw [BitVec.toNat_ofNat, Nat.mod_eq_of_lt (by omega)]; omega

theorem ofNat_inj {a b : ℕ} (ha : a < 2 ^ 31) (hb : b < 2 ^ 31) : BitVec.ofNat 32 a = BitVec.ofNat 32 b ↔ a = b := by
  refine ⟨fun h => ?_, fun h => h ▸ rfl⟩
  have := congrArg BitVec.toNat h
  rwa [BitVec.toNat_ofNat, BitVec.toNat_ofNat, Nat.mod_eq_of_lt (by omega), Nat.mod_eq_of_lt (by omega)] at this

theorem slt_small {a b : ℕ} (ha : a < 2 ^ 31) (hb : b < 2 ^ 31) : (BitVec.ofNat 32 a).slt (BitVec.ofNat 32 b) = decide (a < b) := by
  rw [BitVec.slt, toInt_small ha, toInt_small hb]
  simp

theorem sle_small {a b : ℕ} (ha : a < 2 ^ 31) (hb : b < 2 ^ 31) : (BitVec.ofNat 32 a).sle (BitVec.ofNat 32 b) = decide (a ≤ b) := by
  rw [BitVec.sle, toInt_small ha, toInt_small hb]
  simp

theorem minsi_small {a b : ℕ} (ha : a < 2 ^ 31) (hb : b < 2 ^ 31) : IntOp.minsi (BitVec.ofNat 32 a) (BitVec.ofNat 32 b) = BitVec.ofNat 32 (min a b) := by
  rw [IntOp.minsi, slt_small ha hb]
  by_cases h : a < b
  · rw [if_pos (by simpa using h), min_eq_left h.le]
  · rw [if_neg (by simpa using h), min_eq_right (by omega)]

theorem maxsi_small {a b : ℕ} (ha : a < 2 ^ 31) (hb : b < 2 ^ 31) : IntOp.maxsi (BitVec.ofNat 32 a) (BitVec.ofNat 32 b) = BitVec.ofNat 32 (max a b) := by
  rw [IntOp.maxsi, slt_small hb ha]
  by_cases h : b < a
  · rw [if_pos (by simpa using h), max_eq_left h.le]
  · rw [if_neg (by simpa using h), max_eq_right (by omega)]

theorem minsi_fold {n : ℕ} (f : Fin n → ℕ) (hf : ∀ k, f k < 2 ^ 31) (k0 : Fin n) (h : ∀ k, f k0 ≤ f k) :
    Finset.univ.fold IntOp.minsi (2147483647#32) (fun k => BitVec.ofNat 32 (f k)) = BitVec.ofNat 32 (f k0) := by
  have key : ∀ s : Finset (Fin n), ∃ m, s.fold IntOp.minsi (2147483647#32) (fun k => BitVec.ofNat 32 (f k)) = BitVec.ofNat 32 m
      ∧ m < 2 ^ 31 ∧ (∀ k ∈ s, m ≤ f k) ∧ (m = 2147483647 ∨ ∃ k, m = f k) := by
    intro s
    induction s using Finset.induction_on with
    | empty => exact ⟨2147483647, rfl, by omega, fun k hk => absurd hk (Finset.notMem_empty k), .inl rfl⟩
    | insert a s ha ih =>
      obtain ⟨m, hm, h31, hle, hor⟩ := ih
      refine ⟨min (f a) m, ?_, by have := hf a; omega, fun k hk => ?_, ?_⟩
      · rw [Finset.fold_insert ha, hm, minsi_small (hf a) h31]
      · rcases Finset.mem_insert.mp hk with rfl | hk
        · exact min_le_left _ _
        · exact (min_le_right _ _).trans (hle k hk)
      · rcases le_total (f a) m with h' | h'
        · exact .inr ⟨a, min_eq_left h'⟩
        · rw [min_eq_right h']; exact hor
  obtain ⟨m, hm, h31, hle, hor⟩ := key Finset.univ
  rw [hm]
  congr 1
  have h1 := hle k0 (Finset.mem_univ _)
  have h2 := hf k0
  rcases hor with h3 | ⟨k, h3⟩
  · omega
  · have := h k; omega

theorem maxsi_fold {n : ℕ} (f : Fin n → ℕ) (hf : ∀ k, f k < 2 ^ 31) (k0 : Fin n) (h : ∀ k, f k ≤ f k0) :
    Finset.univ.fold IntOp.maxsi (2147483648#32) (fun k => BitVec.ofNat 32 (f k)) = BitVec.ofNat 32 (f k0) := by
  have key : ∀ s : Finset (Fin n), (s = ∅) ∨ ∃ m, s.fold IntOp.maxsi (2147483648#32) (fun k => BitVec.ofNat 32 (f k)) = BitVec.ofNat 32 m
      ∧ m < 2 ^ 31 ∧ (∀ k ∈ s, f k ≤ m) ∧ ∃ k, m = f k := by
    intro s
    induction s using Finset.induction_on with
    | empty => exact .inl rfl
    | insert a s ha ih =>
      right
      rcases ih with rfl | ⟨m, hm, h31, hle, hor⟩
      · refine ⟨f a, ?_, hf a, fun k hk => ?_, a, rfl⟩
        · rw [Finset.fold_insert ha, Finset.fold_empty, IntOp.maxsi, if_pos]
          rw [BitVec.slt, toInt_small (hf a)]
          have : (2147483648#32).toInt = -2147483648 := by decide
          rw [this]
          simp
          omega
        · rcases Finset.mem_insert.mp hk with rfl | hk
          · exact le_rfl
          · exact absurd hk (Finset.notMem_empty k)
      · refine ⟨max (f a) m, ?_, by have := hf a; omega, fun k hk => ?_, ?_⟩
        · rw [Finset.fold_insert ha, hm, maxsi_small (hf a) h31]
        · rcases Finset.mem_insert.mp hk with rfl | hk
          · exact le_max_left _ _
          · exact (hle k hk).trans (le_max_right _ _)
        · rcases le_total m (f a) with h' | h'
          · exact ⟨a, max_eq_left h'⟩
          · rw [max_eq_right h']; exact hor
  rcases key Finset.univ with h0 | ⟨m, hm, h31, hle, k, h3⟩
  · exact absurd (h0 ▸ Finset.mem_univ k0) (Finset.notMem_empty k0)
  · rw [hm]
    congr 1
    have h1 := hle k0 (Finset.mem_univ _)
    have := h k
    omega

theorem maxf_fold {n : ℕ} (f : Fin n → EReal) (k0 : Fin n) (h : ∀ k, f k ≤ f k0) : Finset.univ.fold max ⊥ f = f k0 := by
  have : Finset.univ.fold max ⊥ f = Finset.univ.sup f := rfl
  rw [this]
  exact le_antisymm (Finset.sup_le fun k _ => h k) (Finset.le_sup (Finset.mem_univ k0))

theorem le_fold {ι : Type} [Fintype ι] (f : ι → EReal) (i : ι) : f i ≤ Finset.univ.fold max ⊥ f := by
  have : Finset.univ.fold max ⊥ f = Finset.univ.sup f := rfl
  rw [this]
  exact Finset.le_sup (Finset.mem_univ i)

/-- The least of a table of small words, row by row. -/
theorem minsi_fold2 {n n' : ℕ} [NeZero n] [NeZero n'] (f : Fin n → Fin n' → ℕ) (hf : ∀ x k, f x k < 2 ^ 31) :
    ∃ x0 k0, (Finset.univ.fold IntOp.minsi (2147483647#32) fun x => Finset.univ.fold IntOp.minsi (2147483647#32) fun k => BitVec.ofNat 32 (f x k)) = BitVec.ofNat 32 (f x0 k0)
      ∧ ∀ x k, f x0 k0 ≤ f x k := by
  have hr : ∀ x, ∃ k0, ∀ k, f x k0 ≤ f x k := fun x => Finite.exists_min (f x)
  choose k0 hk0 using hr
  obtain ⟨x0, hx0⟩ := Finite.exists_min fun x => f x (k0 x)
  refine ⟨x0, k0 x0, ?_, fun x k => (hx0 x).trans (hk0 x k)⟩
  have : (fun x => Finset.univ.fold IntOp.minsi (2147483647#32) fun k => BitVec.ofNat 32 (f x k)) = fun x => BitVec.ofNat 32 (f x (k0 x)) :=
    funext fun x => minsi_fold (f x) (hf x) (k0 x) (hk0 x)
  rw [this]
  exact minsi_fold (fun x => f x (k0 x)) (fun x => hf x _) x0 hx0

theorem select_eq {α : Type} (x y : BitVec 32) (a b : α) : Scalar.select (IntOp.cmpi CmpIPredicate.eq x y) a b = if x = y then a else b := by
  by_cases h : x = y
  · subst h; simp [Scalar.select, IntOp.cmpi]
  · have : (x == y) = false := by simpa using h
    simp [Scalar.select, IntOp.cmpi, this, h]

theorem select_ne {α : Type} (x y : BitVec 32) (a b : α) : Scalar.select (IntOp.cmpi CmpIPredicate.ne x y) a b = if x = y then b else a := by
  by_cases h : x = y
  · subst h; simp [Scalar.select, IntOp.cmpi]
  · have : (x != y) = true := by simpa using h
    simp [Scalar.select, IntOp.cmpi, this, h]

theorem select_sge {α : Type} {x y : ℕ} (hx : x < 2 ^ 31) (hy : y < 2 ^ 31) (a b : α) :
    Scalar.select (IntOp.cmpi CmpIPredicate.sge (BitVec.ofNat 32 x) (BitVec.ofNat 32 y)) a b = if y ≤ x then a else b := by
  have := sle_small hy hx
  by_cases h : y ≤ x <;> simp [Scalar.select, IntOp.cmpi, this, h]

theorem select_sge0 {α : Type} (x : BitVec 32) (a b : α) : Scalar.select (IntOp.cmpi CmpIPredicate.sge x 0#32) a b = if 0 ≤ x.toInt then a else b := by
  by_cases h : 0 ≤ x.toInt <;> simp [Scalar.select, IntOp.cmpi, BitVec.sle, h]

theorem zero_sub_ereal (x : EReal) : 0 - x = -x := by rw [sub_eq_add_neg, zero_add]

/-- The one-hot sum of a table of words. -/
theorem addi_one {m : ℕ} (hm : m ≤ 2 ^ 31) (f : Fin m → BitVec 32) (B : Fin m) :
    (Finset.univ.fold IntOp.addi (0#32) fun l : Fin m => Scalar.select (IntOp.cmpi CmpIPredicate.eq (BitVec.ofNat 32 l.val) (BitVec.ofNat 32 B.val)) (f l) 0#32) = f B := by
  have key : ∀ s : Finset (Fin m), (s.fold IntOp.addi (0#32) fun l : Fin m => Scalar.select (IntOp.cmpi CmpIPredicate.eq (BitVec.ofNat 32 l.val) (BitVec.ofNat 32 B.val)) (f l) 0#32)
      = if B ∈ s then f B else 0#32 := by
    intro s
    induction s using Finset.induction_on with
    | empty => rfl
    | insert a s ha ih =>
      have h1 := a.isLt
      have h2 := B.isLt
      rw [Finset.fold_insert ha, ih, select_eq]
      simp only [ofNat_inj (show a.val < 2 ^ 31 by omega) (show B.val < 2 ^ 31 by omega), ← Fin.ext_iff]
      by_cases e : a = B
      · subst e
        rw [if_pos rfl, if_neg ha, if_pos (Finset.mem_insert_self _ _), IntOp.addi, BitVec.add_zero]
      · rw [if_neg e, IntOp.addi, BitVec.zero_add]
        have : (B ∈ insert a s) = (B ∈ s) := by
          rw [Finset.mem_insert]
          exact propext ⟨fun h => h.resolve_left fun h' => e h'.symm, Or.inr⟩
        simp only [this]
  rw [key, if_pos (Finset.mem_univ _)]

/-- The sum of a table against the one entry a word names. -/
theorem sum_at (lp : Fin 96 → EReal) (w : BitVec 32) : (∑ x : Fin 96, if BitVec.ofNat 32 x.val = w then lp x else 0) = lpAt lp w := by
  unfold lpAt
  by_cases h : w.toNat < 96
  · rw [dif_pos h, Finset.sum_eq_single ⟨w.toNat, h⟩]
    · rw [if_pos]
      apply BitVec.eq_of_toNat_eq
      rw [BitVec.toNat_ofNat, Nat.mod_eq_of_lt w.isLt]
    · intro x _ hx
      rw [if_neg]
      intro e
      apply hx
      apply Fin.ext
      have := congrArg BitVec.toNat e
      rw [BitVec.toNat_ofNat, Nat.mod_eq_of_lt (by have := x.isLt; omega)] at this
      exact this
    · intro h'; exact absurd (Finset.mem_univ _) h'
  · rw [dif_neg h]
    refine Finset.sum_eq_zero fun x _ => if_neg fun e => h ?_
    rw [← e, BitVec.toNat_ofNat, Nat.mod_eq_of_lt (by have := x.isLt; omega)]
    exact x.isLt

/-- The first lane of a row that holds its greatest value, as a word. -/
theorem arg_fold (w : Fin 128 → EReal) (d : ℕ) (hd : 128 ≤ d) (hd' : d < 2 ^ 31) :
    Finset.univ.fold IntOp.minsi (2147483647#32) (fun k => if w k = top w then BitVec.ofNat 32 k.val else BitVec.ofNat 32 d) = BitVec.ofNat 32 (arg w).val := by
  have hfun : (fun k : Fin 128 => if w k = top w then BitVec.ofNat 32 k.val else BitVec.ofNat 32 d)
      = fun k => BitVec.ofNat 32 (if w k = top w then k.val else d) := by
    funext k
    split <;> rfl
  rw [hfun, minsi_fold (fun k : Fin 128 => if w k = top w then k.val else d) _ (arg w), if_pos (at_arg w)]
  · intro k
    rw [if_pos (at_arg w)]
    have := (arg w).isLt
    split
    · rename_i h; exact arg_le h
    · omega
  · intro k
    have := k.isLt
    show (if w k = top w then k.val else d) < 2 ^ 31
    split <;> omega

end Cert.Proof.Beam

end
-- ==== Proof.KernelIdealRound.lean ====
module

public import proofs.«01_k».proof.Proof.KernelIdealLoops
public import proofs.«01_k».proof.Proof.Words
public import Idealize.ShloMosaic.Lib.Pointwise

@[expose] public section

set_option maxRecDepth 16384

noncomputable section

namespace Cert.Proof.KernelIdeal

open Cert.KernelIdeal Cert.KernelIdeal.Gen Cert.Proof.Beam
open Idealize.ShloMosaic

/-! # One selection round, read at one batch row -/

variable {b : Fin 64} {v : FVec Ideal S64x100 .f32} {w p : IVec S64x100 32} {hv : Fin 100 → EReal} {hl pp : Fin 100 → ℕ} {B : Fin 100}

theorem round_max (hV : ∀ l, v (ix2 b l) = hv l) (hB : ∀ l, hv l ≤ hv B) : k0_pay11 v (ix2 b 0) = hv B := by
  pointwise [k0_pay11]
  simp only [bot_bits, hV]
  exact maxf_fold hv B hB

theorem round_beam (hV : ∀ l, v (ix2 b l) = hv l) (hW : ∀ l, w (ix2 b l) = BitVec.ofNat 32 (hl l)) (hs : ∀ l, hl l ≤ 129) (hB : ∀ l, hv l ≤ hv B)
    (hr : ∀ l, hv l = hv B → rank hl B ≤ rank hl l) : k0_pay12 i0 v w (ix2 b 0) = BitVec.ofNat 32 B.val := by
  have hm : Finset.univ.fold IntOp.minsi (2147483647#32) (fun x : Fin 100 => if v (ix2 b x) = k0_pay11 v (ix2 b 0)
      then IntOp.addi (BitVec.ofNat 32 x.val) (Scalar.select (IntOp.cmpi CmpIPredicate.ne (w (ix2 b x)) 0#32) 100#32 0#32) else 300#32) = BitVec.ofNat 32 (rank hl B) := by
    have hfun : (fun x : Fin 100 => if v (ix2 b x) = k0_pay11 v (ix2 b 0)
        then IntOp.addi (BitVec.ofNat 32 x.val) (Scalar.select (IntOp.cmpi CmpIPredicate.ne (w (ix2 b x)) 0#32) 100#32 0#32) else 300#32)
        = fun x => BitVec.ofNat 32 (if hv x = hv B then rank hl x else 300) := by
      funext x
      rw [round_max hV hB, hV x, hW x, select_ne, show (0#32) = BitVec.ofNat 32 0 from rfl]
      have hsx := hs x
      have hx := x.isLt
      simp only [ofNat_inj (show hl x < 2 ^ 31 by omega) (show 0 < 2 ^ 31 by omega), IntOp.addi, rank]
      split
      · split
        · simp
        · rw [BitVec.ofNat_add]
      · rfl
    rw [hfun, minsi_fold (fun x => if hv x = hv B then rank hl x else 300) _ B, if_pos rfl]
    · intro l
      rw [if_pos rfl]
      have := B.isLt
      by_cases h : hv l = hv B
      · rw [if_pos h]; exact hr l h
      · rw [if_neg h]; unfold rank; split <;> omega
    · intro l
      have := l.isLt
      show (if hv l = hv B then rank hl l else 300) < 2 ^ 31
      unfold rank
      split_ifs <;> omega
  have key : k0_pay12 i0 v w (ix2 b 0) = Scalar.select (IntOp.cmpi CmpIPredicate.sge (BitVec.ofNat 32 (rank hl B)) 100#32)
      (IntOp.subi (BitVec.ofNat 32 (rank hl B)) 100#32) (BitVec.ofNat 32 (rank hl B)) := by
    rw [← hm]
    pointwise [k0_pay12]
  have hB' := B.isLt
  rw [key, show (100#32) = BitVec.ofNat 32 100 from rfl, select_sge (by unfold rank; split <;> omega) (by omega)]
  unfold rank
  by_cases h : hl B = 0
  · simp only [h, if_true]; rw [if_neg (by omega), Nat.add_zero]
  · simp only [h, if_false]
    rw [if_pos (by omega), IntOp.subi, BitVec.ofNat_add, BitVec.add_sub_cancel]

variable (hb : k0_pay12 i0 v w (ix2 b 0) = BitVec.ofNat 32 B.val)
include hb

theorem round_hot (l : Fin 100) : k0_pay13 i0 v w (ix2 b l) = if l = B then 1#1 else 0#1 := by
  have : k0_pay13 i0 v w (ix2 b l) = IntOp.cmpi CmpIPredicate.eq (BitVec.ofNat 32 l.val) (k0_pay12 i0 v w (ix2 b 0)) := by
    pointwise [k0_pay13]
  rw [this, hb]
  have h1 := l.isLt
  have h2 := B.isLt
  by_cases h : l = B
  · subst h; simp [IntOp.cmpi]
  · rw [if_neg h]
    have : (BitVec.ofNat 32 l.val == BitVec.ofNat 32 B.val) = false := by
      rw [beq_eq_false_iff_ne]
      intro e
      exact h (Fin.ext ((ofNat_inj (by omega) (by omega)).mp e))
    simp [IntOp.cmpi, this]

theorem round_lane (hW : ∀ l, w (ix2 b l) = BitVec.ofNat 32 (hl l)) (hs : ∀ l, hl l ≤ 129) : k0_pay14 i0 v w (ix2 b 0) = BitVec.ofNat 32 (hl B) := by
  have : k0_pay14 i0 v w (ix2 b 0) = Finset.univ.fold IntOp.minsi (2147483647#32) (fun x : Fin 100 => Scalar.select (k0_pay13 i0 v w (ix2 b x)) (w (ix2 b x)) 129#32) := by
    pointwise [k0_pay14]
  rw [this]
  have hfun : (fun x : Fin 100 => Scalar.select (k0_pay13 i0 v w (ix2 b x)) (w (ix2 b x)) 129#32) = fun x => BitVec.ofNat 32 (if x = B then hl x else 129) := by
    funext x
    rw [round_hot hb, hW]
    by_cases h : x = B <;> simp [Scalar.select, h]
  rw [hfun, minsi_fold (fun x => if x = B then hl x else 129) _ B, if_pos rfl]
  · intro l
    rw [if_pos rfl]
    have := hs B
    split
    · rename_i h; rw [h]
    · exact this
  · intro l
    have := hs l
    show (if l = B then hl l else 129) < 2 ^ 31
    split <;> omega

theorem round_spent (hP : ∀ l, p (ix2 b l) = BitVec.ofNat 32 (pp l)) (l : Fin 100) :
    k0_pay18 i0 v w p (ix2 b l) = BitVec.ofNat 32 (if l = B then pp l + 1 else pp l) := by
  have : k0_pay18 i0 v w p (ix2 b l) = IntOp.addi (p (ix2 b l)) (BitVec.setWidth 32 (k0_pay13 i0 v w (ix2 b l))) := by
    pointwise [k0_pay18]
  rw [this, round_hot hb, hP, IntOp.addi]
  by_cases h : l = B
  · rw [if_pos h, if_pos h, BitVec.ofNat_add]; rfl
  · rw [if_neg h, if_neg h]; simp

theorem round_count (hP : ∀ l, p (ix2 b l) = BitVec.ofNat 32 (pp l)) (hp : ∀ l, pp l ≤ 100) : k0_pay19 i0 v w p (ix2 b 0) = BitVec.ofNat 32 (pp B + 1) := by
  have : k0_pay19 i0 v w p (ix2 b 0) = Finset.univ.fold IntOp.maxsi (2147483648#32) (fun x : Fin 100 => Scalar.select (k0_pay13 i0 v w (ix2 b x)) (k0_pay18 i0 v w p (ix2 b x)) 0#32) := by
    pointwise [k0_pay19]
  rw [this]
  have hfun : (fun x : Fin 100 => Scalar.select (k0_pay13 i0 v w (ix2 b x)) (k0_pay18 i0 v w p (ix2 b x)) 0#32) = fun x => BitVec.ofNat 32 (if x = B then pp x + 1 else 0) := by
    funext x
    rw [round_hot hb, round_spent hb hP]
    by_cases h : x = B <;> simp [Scalar.select, h]
  rw [hfun, maxsi_fold (fun x => if x = B then pp x + 1 else 0) _ B, if_pos rfl]
  · intro l
    rw [if_pos rfl]
    split
    · rename_i h; rw [h]
    · omega
  · intro l
    have := hp l
    show (if l = B then pp l + 1 else 0) < 2 ^ 31
    split <;> omega

omit hb

theorem round_out {cnt : IVec S64x1 32} {c : ℕ} (hc : cnt (ix2 b 0) = BitVec.ofNat 32 c) (hlt : c < 2 ^ 31) :
    k0_pay20 cnt 24#32 (ix2 b 0) = if 24 ≤ c then 1#1 else 0#1 := by
  have : k0_pay20 cnt 24#32 (ix2 b 0) = IntOp.cmpi CmpIPredicate.sge (cnt (ix2 b 0)) (BitVec.ofNat 32 24) := by
    pointwise [k0_pay20]
  rw [this, hc]
  have := sle_small (show 24 < 2 ^ 31 by omega) hlt
  by_cases h : 24 ≤ c <;> simp [IntOp.cmpi, this, h]

/-- The word the round test reads: some row's beam is out of stored heads. -/
theorem round_flag {cnt : IVec S64x1 32} {c : ℕ} (hc : cnt (ix2 b 0) = BitVec.ofNat 32 c) (hlt : c < 2 ^ 31) (h : 24 ≤ c) :
    Scalar.cmpi .ne (Scalar.extui (Scalar.cmpf .ogt (k0_pay21 (F := Ideal) cnt 24#32) (Scalar.ofBits .f32 0#32))) 0#32 = 1#1 := by
  have h1 : (1 : EReal) ≤ k0_pay21 (F := Ideal) cnt 24#32 := by
    have hone : (1 : EReal) = Scalar.select (k0_pay20 cnt 24#32 (ix2 b 0)) 1 0 := by rw [round_out hc hlt, if_pos h]; rfl
    rw [hone]
    pointwise [k0_pay21, k0_pay20]
    simp only [bot_bits]
    exact le_fold (fun x : Fin 64 × Fin 1 => Scalar.select (IntOp.cmpi CmpIPredicate.sge (cnt (ix2 x.1 0)) 24#32) (1 : EReal) 0) (b, 0)
  have h2 : Scalar.cmpf .ogt (k0_pay21 (F := Ideal) cnt 24#32) (Scalar.ofBits .f32 0#32) = 1#1 := by
    show BitVec.ofBool (decide (Ideal.ofBits FTy.f32 0#32 < k0_pay21 (F := Ideal) cnt 24#32)) = 1#1
    rw [zero_bits, decide_eq_true (lt_of_lt_of_le (by norm_num : (0 : EReal) < 1) h1)]
    rfl
  rw [h2]
  rfl

/-! ## The heads past the stored ones -/

theorem padding_bot : Named.named (F := Ideal) κ "padding" (φ := .f32) 4284592614#32 = (⊥ : EReal) := by
  simp [Named.named, κ]

variable {y : FVec Ideal S64x100x128 .f32} {C : Fin 100 → Fin 128 → EReal} {g : FVec Ideal S64x1 .f32} {bq lq : IVec S64x1 32}

/-- What is left of the picked beam's row below its head. -/
theorem rest_at (hY : ∀ l k, y (ix3 b l k) = C l k) (hb : bq (ix2 b 0) = BitVec.ofNat 32 B.val) {L : Fin 128} (hL : lq (ix2 b 0) = BitVec.ofNat 32 L.val)
    {m : ℕ} (hg : g (ix2 b 0) = tv (C B) m) (hne : tv (C B) m ≠ ⊥) (hl : tl (C B) m = L) (l : Fin 100) (k : Fin 128) :
    k0_pay22 i1 i2 g bq lq y (ix3 b l k) = if l = B ∧ (C B k < tv (C B) m ∨ (C B k = tv (C B) m ∧ tl (C B) m < k)) then 1#1 else 0#1 := by
  have : k0_pay22 i1 i2 g bq lq y (ix3 b l k) = IntOp.andi (IntOp.cmpi CmpIPredicate.eq (BitVec.ofNat 32 l.val) (bq (ix2 b 0)))
      (IntOp.ori (BitVec.ofBool (decide (y (ix3 b l k) < g (ix2 b 0))))
        (IntOp.andi (BitVec.ofBool (decide (y (ix3 b l k) = g (ix2 b 0)))) (IntOp.cmpi CmpIPredicate.sgt (BitVec.ofNat 32 k.val) (lq (ix2 b 0))))) := by
    pointwise [k0_pay22, i1, i2]
  rw [this, hY, hb, hL, hg, hl]
  have hL' := L.isLt
  have hk := k.isLt
  have hB := B.isLt
  have hl' := l.isLt
  have hs := slt_small (show L.val < 2 ^ 31 by omega) (show k.val < 2 ^ 31 by omega)
  have hlt : (L < k) = (L.val < k.val) := rfl
  by_cases h : l = B
  · subst h
    by_cases h1 : C l k < tv (C l) m <;> by_cases h2 : C l k = tv (C l) m <;> by_cases h3 : L.val < k.val <;>
      simp [IntOp.andi, IntOp.ori, IntOp.cmpi, hs, h1, h2, h3, hlt]
  · have he : (BitVec.ofNat 32 l.val == BitVec.ofNat 32 B.val) = false := by
      rw [beq_eq_false_iff_ne]
      intro e
      exact h (Fin.ext ((ofNat_inj (by omega) (by omega)).mp e))
    simp [IntOp.andi, IntOp.cmpi, he, h]

theorem rest_row (hY : ∀ l k, y (ix3 b l k) = C l k) (hb : bq (ix2 b 0) = BitVec.ofNat 32 B.val) {L : Fin 128} (hL : lq (ix2 b 0) = BitVec.ofNat 32 L.val)
    {m : ℕ} (hg : g (ix2 b 0) = tv (C B) m) (hne : tv (C B) m ≠ ⊥) (hl : tl (C B) m = L) (l : Fin 100) (k : Fin 128) :
    k0_pay23 i1 i2 g bq lq y (ix3 b l k) = if l = B then wr (C B) (m + 1) k else ⊥ := by
  have : k0_pay23 i1 i2 g bq lq y (ix3 b l k) = Scalar.select (k0_pay22 i1 i2 g bq lq y (ix3 b l k)) (y (ix3 b l k)) (Named.named (F := Ideal) κ "padding" (φ := .f32) 4284592614#32) := by
    pointwise [k0_pay23]
  rw [this, padding_bot, rest_at hY hb hL hg hne hl, hY]
  by_cases h : l = B
  · subst h
    rw [if_pos rfl, wr_succ_eq _ hne]
    simp only [true_and]
    split <;> simp [Scalar.select]
  · simp [h, Scalar.select]

theorem rest_max (hY : ∀ l k, y (ix3 b l k) = C l k) (hb : bq (ix2 b 0) = BitVec.ofNat 32 B.val) {L : Fin 128} (hL : lq (ix2 b 0) = BitVec.ofNat 32 L.val)
    {m : ℕ} (hg : g (ix2 b 0) = tv (C B) m) (hne : tv (C B) m ≠ ⊥) (hl : tl (C B) m = L) :
    k0_pay24 i1 i2 g bq lq y (ix2 b 0) = tv (C B) (m + 1) := by
  have : k0_pay24 i1 i2 g bq lq y (ix2 b 0) = Finset.univ.fold max ⊥ fun x : Fin 100 => Finset.univ.fold max ⊥ fun k : Fin 128 => k0_pay23 i1 i2 g bq lq y (ix3 b x k) := by
    rw [← bot_bits]
    pointwise [k0_pay24]
  rw [this]
  have hrow : ∀ x : Fin 100, (Finset.univ.fold max ⊥ fun k : Fin 128 => k0_pay23 i1 i2 g bq lq y (ix3 b x k)) = if x = B then tv (C B) (m + 1) else ⊥ := by
    intro x
    have hfun : (fun k : Fin 128 => k0_pay23 i1 i2 g bq lq y (ix3 b x k)) = fun k => if x = B then wr (C B) (m + 1) k else ⊥ := funext fun k => rest_row hY hb hL hg hne hl x k
    rw [hfun]
    by_cases h : x = B
    · simp only [h, if_true]; rfl
    · simp only [h, if_false]
      exact maxf_fold (fun _ : Fin 128 => (⊥ : EReal)) 0 fun _ => le_rfl
  simp only [hrow]
  rw [maxf_fold (fun x : Fin 100 => if x = B then tv (C B) (m + 1) else ⊥) B, if_pos rfl]
  intro l
  rw [if_pos rfl]
  split
  · exact le_rfl
  · exact bot_le

theorem rest_lane (hY : ∀ l k, y (ix3 b l k) = C l k) (hb : bq (ix2 b 0) = BitVec.ofNat 32 B.val) {L : Fin 128} (hL : lq (ix2 b 0) = BitVec.ofNat 32 L.val)
    {m : ℕ} (hg : g (ix2 b 0) = tv (C B) m) (hne : tv (C B) m ≠ ⊥) (hl : tl (C B) m = L) :
    ∃ h : ℕ, k0_pay25 i1 i2 g bq lq y (ix2 b 0) = BitVec.ofNat 32 h ∧ h ≤ 129 ∧ (tv (C B) (m + 1) ≠ ⊥ → h = (tl (C B) (m + 1)).val) := by
  have h25 : k0_pay25 i1 i2 g bq lq y (ix2 b 0) = Finset.univ.fold IntOp.minsi (2147483647#32) fun x : Fin 100 =>
      Finset.univ.fold IntOp.minsi (2147483647#32) fun k : Fin 128 =>
        Scalar.select (IntOp.andi (k0_pay22 i1 i2 g bq lq y (ix3 b x k)) (BitVec.ofBool (decide (k0_pay23 i1 i2 g bq lq y (ix3 b x k) = k0_pay24 i1 i2 g bq lq y (ix2 b 0)))))
          (BitVec.ofNat 32 k.val) 129#32 := by
    pointwise [k0_pay25, i1]
  have hcell : ∀ (x : Fin 100) (k : Fin 128), Scalar.select (IntOp.andi (k0_pay22 i1 i2 g bq lq y (ix3 b x k))
      (BitVec.ofBool (decide (k0_pay23 i1 i2 g bq lq y (ix3 b x k) = k0_pay24 i1 i2 g bq lq y (ix2 b 0))))) (BitVec.ofNat 32 k.val) 129#32
      = BitVec.ofNat 32 (if x = B ∧ (C B k < tv (C B) m ∨ (C B k = tv (C B) m ∧ tl (C B) m < k)) ∧ wr (C B) (m + 1) k = tv (C B) (m + 1) then k.val else 129) := by
    intro x k
    rw [rest_at hY hb hL hg hne hl, rest_row hY hb hL hg hne hl, rest_max hY hb hL hg hne hl]
    by_cases h : x = B
    · subst h
      by_cases h1 : C x k < tv (C x) m ∨ (C x k = tv (C x) m ∧ tl (C x) m < k) <;> by_cases h2 : wr (C x) (m + 1) k = tv (C x) (m + 1) <;>
        simp [Scalar.select, IntOp.andi, h1, h2]
    · simp [Scalar.select, IntOp.andi, h]
  simp only [hcell] at h25
  obtain ⟨x0, k0, he, hmin⟩ := minsi_fold2 (fun (x : Fin 100) (k : Fin 128) => if x = B ∧ (C B k < tv (C B) m ∨ (C B k = tv (C B) m ∧ tl (C B) m < k)) ∧ wr (C B) (m + 1) k = tv (C B) (m + 1) then k.val else 129)
    fun x k => by
      have := k.isLt
      split <;> omega
  refine ⟨_, h25.trans he, ?_, fun hne1 => ?_⟩
  · have := k0.isLt
    split <;> omega
  · have hat : wr (C B) (m + 1) (tl (C B) (m + 1)) = tv (C B) (m + 1) := at_arg _
    have hrow := wr_succ_eq (C B) hne (tl (C B) (m + 1))
    have hin : C B (tl (C B) (m + 1)) < tv (C B) m ∨ (C B (tl (C B) (m + 1)) = tv (C B) m ∧ tl (C B) m < tl (C B) (m + 1)) := by
      by_contra hno
      rw [if_neg hno, hat] at hrow
      exact hne1 hrow
    have hval : (if B = B ∧ (C B (tl (C B) (m + 1)) < tv (C B) m ∨ (C B (tl (C B) (m + 1)) = tv (C B) m ∧ tl (C B) m < tl (C B) (m + 1)))
        ∧ wr (C B) (m + 1) (tl (C B) (m + 1)) = tv (C B) (m + 1) then (tl (C B) (m + 1)).val else 129) = (tl (C B) (m + 1)).val := if_pos ⟨rfl, hin, hat⟩
    have hbest := (hmin B (tl (C B) (m + 1))).trans hval.le
    have hlt := (tl (C B) (m + 1)).isLt
    split at hbest
    · rename_i hc
      rw [if_pos hc]
      have := arg_le (w := wr (C B) (m + 1)) hc.2.2
      exact le_antisymm hbest this
    · omega

/-! ## The heads in the tables -/

/-- A chain of selects by a small word reads the entry the word names. -/
theorem table_val (Y6 : Fin 24 → Vec Ideal S1x64x100 .f32) {q : IVec S64x100 32} (l : Fin 100) (n : ℕ) (h1 : 1 ≤ n) (h2 : n < 24) (hq : q (ix2 b l) = BitVec.ofNat 32 n) (v : FVec Ideal S64x100 .f32)
    (m : IVec S64x100 1) (e : IVec S64x1 1) (g : FVec Ideal S64x1 .f32) (he : e (ix2 b 0) = 0#1) (hm : m (ix2 b l) = 1#1) :
    k0_pay202 v m e g
      (k0_pay65 q (k0_pay58 q (k0_pay51 q (k0_pay44 q (k0_pay37 q (k0_pay30 q (Y6 1) (Y6 2)) (k0_pay32 q) (k0_pay33 (Y6 3)) (Y6 4) (Y6 5) (Y6 6)) (k0_pay39 q) (k0_pay40 (Y6 7)) (Y6 8) (Y6 9) (Y6 10))
        (k0_pay46 q) (k0_pay47 (Y6 11)) (Y6 12) (Y6 13) (Y6 14)) (k0_pay53 q) (k0_pay54 (Y6 15)) (Y6 16) (Y6 17) (Y6 18)) (k0_pay60 q) (k0_pay61 (Y6 19)) (Y6 20) (Y6 21) (Y6 22)) (k0_pay67 q) (k0_pay68 (Y6 23)) (ix2 b l)
      = Y6 ⟨n, h2⟩ (ix3 0 b l) := by
  pointwise [k0_pay202, k0_pay65, k0_pay58, k0_pay51, k0_pay44, k0_pay37, k0_pay30, k0_pay32, k0_pay33, k0_pay39, k0_pay40, k0_pay46, k0_pay47, k0_pay53, k0_pay54, k0_pay60, k0_pay61, k0_pay67, k0_pay68,
    k0_pay64, k0_pay63, k0_pay62, k0_pay57, k0_pay56, k0_pay55, k0_pay50, k0_pay49, k0_pay48, k0_pay43, k0_pay42, k0_pay41, k0_pay36, k0_pay35, k0_pay34, k0_pay29, k0_pay28]
  rw [hq, hm, he]
  interval_cases n <;> rfl

theorem table_lane (Y7 : Fin 24 → Vec Ideal S1x64x100 .i32) {q : IVec S64x100 32} (l : Fin 100) (n : ℕ) (h1 : 1 ≤ n) (h2 : n < 24) (hq : q (ix2 b l) = BitVec.ofNat 32 n)
    (v : IVec S64x100 32) (m : IVec S64x100 1) (e : IVec S64x1 1) (g : IVec S64x1 32) (he : e (ix2 b 0) = 0#1) (hm : m (ix2 b l) = 1#1) :
    k0_pay203 (F := Ideal) v m e g
      (k0_pay66 (F := Ideal) q (k0_pay59 (F := Ideal) q (k0_pay52 (F := Ideal) q (k0_pay45 (F := Ideal) q (k0_pay38 (F := Ideal) q (k0_pay31 (F := Ideal) q (Y7 1) (Y7 2)) (k0_pay32 q) (Y7 3) (Y7 4) (Y7 5) (Y7 6)) (k0_pay39 q) (Y7 7) (Y7 8) (Y7 9) (Y7 10))
        (k0_pay46 q) (Y7 11) (Y7 12) (Y7 13) (Y7 14)) (k0_pay53 q) (Y7 15) (Y7 16) (Y7 17) (Y7 18)) (k0_pay60 q) (Y7 19) (Y7 20) (Y7 21) (Y7 22)) (k0_pay67 q) (Y7 23) (ix2 b l)
      = Y7 ⟨n, h2⟩ (ix3 0 b l) := by
  pointwise [k0_pay203, k0_pay66, k0_pay59, k0_pay52, k0_pay45, k0_pay38, k0_pay31, k0_pay32, k0_pay39, k0_pay46, k0_pay53, k0_pay60, k0_pay67,
    k0_pay64, k0_pay63, k0_pay62, k0_pay57, k0_pay56, k0_pay55, k0_pay50, k0_pay49, k0_pay48, k0_pay43, k0_pay42, k0_pay41, k0_pay36, k0_pay35, k0_pay34, k0_pay29, k0_pay28]
  rw [hq, hm, he]
  interval_cases n <;> rfl

theorem out_val (v v832 v839 : FVec Ideal S64x100 .f32) (m m' : IVec S64x100 1) (e : IVec S64x1 1) (g : FVec Ideal S64x1 .f32) (l : Fin 100) :
    (m (ix2 b l) = 0#1 → k0_pay202 v m e g v832 m' v839 (ix2 b l) = v (ix2 b l))
      ∧ (m (ix2 b l) = 1#1 → e (ix2 b 0) = 1#1 → k0_pay202 v m e g v832 m' v839 (ix2 b l) = g (ix2 b 0)) := by
  constructor
  · intro hm
    pointwise [k0_pay202]
    rw [hm]; rfl
  · intro hm he
    pointwise [k0_pay202]
    rw [hm, he]; rfl

theorem out_lane (v v835 : IVec S64x100 32) (m m' : IVec S64x100 1) (e : IVec S64x1 1) (g : IVec S64x1 32) (r : Vec Ideal S1x64x100 .i32) (l : Fin 100) :
    (m (ix2 b l) = 0#1 → k0_pay203 (F := Ideal) v m e g v835 m' r (ix2 b l) = v (ix2 b l))
      ∧ (m (ix2 b l) = 1#1 → e (ix2 b 0) = 1#1 → k0_pay203 (F := Ideal) v m e g v835 m' r (ix2 b l) = g (ix2 b 0)) := by
  constructor
  · intro hm
    pointwise [k0_pay203]
    rw [hm]; rfl
  · intro hm he
    pointwise [k0_pay203]
    rw [hm, he]; rfl

theorem pick_out (k : Fin k0_t3_loop.trips) (v o : FVec Ideal S64x100 .f32) (w p ob oc : IVec S64x100 32) (l : Fin 100) :
    k0_pay15 i0 0#32 1#32 k v o (ix2 b l) = (if l.val = k.val then k0_pay11 v (ix2 b 0) else o (ix2 b l))
      ∧ k0_pay16 i0 0#32 1#32 k v w ob (ix2 b l) = (if l.val = k.val then k0_pay12 i0 v w (ix2 b 0) else ob (ix2 b l))
      ∧ k0_pay17 i0 0#32 1#32 k v w oc (ix2 b l) = (if l.val = k.val then k0_pay14 i0 v w (ix2 b 0) else oc (ix2 b l)) := by
  have hiv : Scf.iv 0#32 1#32 k = BitVec.ofNat 32 k.val := by
    simp [Scf.iv]
  have hl := l.isLt
  have hk : k.val < 100 := k.isLt
  refine ⟨?_, ?_, ?_⟩
  · pointwise [k0_pay15]
    rw [hiv, select_eq]
    simp only [ofNat_inj (show l.val < 2 ^ 31 by omega) (show k.val < 2 ^ 31 by omega)]
  · pointwise [k0_pay16]
    rw [hiv, select_eq]
    simp only [ofNat_inj (show l.val < 2 ^ 31 by omega) (show k.val < 2 ^ 31 by omega)]
  · pointwise [k0_pay17]
    rw [hiv, select_eq]
    simp only [ofNat_inj (show l.val < 2 ^ 31 by omega) (show k.val < 2 ^ 31 by omega)]

/-- What the selection's accumulator holds of one row after `j` rounds. -/
structure Round (C : Fin 100 → Fin 128 → EReal) (I : Fin 100 → Fin 9700) (b : Fin 64) (j : ℕ) (a : Acc3 Ideal) (hv : Fin 100 → EReal) (hl pp : Fin 100 → ℕ) : Prop where
  heads : Heads C I j hv hl pp
  val : ∀ l, a.1 (ix2 b l) = hv l
  lane : ∀ l, a.2.1 (ix2 b l) = BitVec.ofNat 32 (hl l)
  spent : ∀ l, a.2.2.1 (ix2 b l) = BitVec.ofNat 32 (pp l)
  score : ∀ i : Fin 100, i.val < j → a.2.2.2.1 (ix2 b i) = Beam.val C (I i)
  beam : ∀ i : Fin 100, i.val < j → a.2.2.2.2.1 (ix2 b i) = BitVec.ofNat 32 (bm (I i)).val
  code : ∀ i : Fin 100, i.val < j → a.2.2.2.2.2 (ix2 b i) = BitVec.ofNat 32 (ln (I i)).val

theorem round_step {I : Fin 100 → Fin 9700} (hC : ∀ l k, 96 < k.val → C l k = ⊥) (hG : Greedy (Beam.val C) I) (hY : ∀ l k, y (ix3 b l k) = C l k)
    (Y6 : Fin 24 → Vec Ideal S1x64x100 .f32) (Y7 : Fin 24 → Vec Ideal S1x64x100 .i32) (h6 : ∀ n l, Y6 n (ix3 0 b l) = tv (C l) n.val)
    (h7 : ∀ n l, Y7 n (ix3 0 b l) = BitVec.ofNat 32 (tl (C l) n.val).val) (k : Fin k0_t3_loop.trips) (hk : k.val < 100) {a : Acc3 Ideal}
    (H : Round C I b k.val a hv hl pp) (hlive : Beam.val C (I ⟨k.val, hk⟩) ≠ ⊥) :
    ∃ hv' hl' pp', Round C I b (k.val + 1) (step3 y Y6 Y7 i0 i1 i2 k a) hv' hl' pp' := by
  obtain ⟨hg, hmax, hln, htl, hrk⟩ := H.heads.pick hC hG ⟨k.val, hk⟩ hlive
  generalize hBd : bm (I ⟨k.val, hk⟩) = B at *
  have hmax' : ∀ l, hv l ≤ hv B := fun l => hg ▸ hmax l
  have hrk' : ∀ l, hv l = hv B → rank hl B ≤ rank hl l := fun l h => hrk l (h.trans hg)
  have hbeam := round_beam (b := b) H.val H.lane H.heads.small hmax' hrk'
  have hmx := round_max (b := b) H.val hmax'
  have hhot := round_hot hbeam
  have hlane := round_lane hbeam H.lane H.heads.small
  have hspent := round_spent hbeam H.spent
  have hcount := round_count hbeam H.spent fun l => (H.heads.spent l).trans hk.le
  have hpB : pp B + 1 < 2 ^ 31 := by have := H.heads.spent B; omega
  have hout := round_out (b := b) hcount hpB
  have hvB : hv B = tv (C B) (pp B) := H.heads.value B
  have hne : tv (C B) (pp B) ≠ ⊥ := by rw [← hvB, hg]; exact hlive
  have hq := hspent B
  rw [if_pos rfl] at hq
  have hh : ∃ h : ℕ, h ≤ 129 ∧ (tv (C B) (pp B + 1) ≠ ⊥ → h = (tl (C B) (pp B + 1)).val) ∧ (step3 y Y6 Y7 i0 i1 i2 k a).1 (ix2 b B) = tv (C B) (pp B + 1)
      ∧ (step3 y Y6 Y7 i0 i1 i2 k a).2.1 (ix2 b B) = BitVec.ofNat 32 h := by
    have hotB := hhot B
    rw [if_pos rfl] at hotB
    by_cases h24 : 24 ≤ pp B + 1
    · rw [if_pos h24] at hout
      have hL : k0_pay14 i0 a.1 a.2.1 (ix2 b 0) = BitVec.ofNat 32 (ln (I ⟨k.val, hk⟩)).val := by rw [hlane, hln]
      have hgm : k0_pay11 a.1 (ix2 b 0) = tv (C B) (pp B) := by rw [hmx, hvB]
      obtain ⟨h, e1, e2, e3⟩ := rest_lane hY hbeam hL hgm hne htl
      have e4 := rest_max hY hbeam hL hgm hne htl
      have hflag := round_flag (b := b) hcount hpB h24
      refine ⟨h, e2, e3, ?_, ?_⟩
      · unfold step3
        simp only []
        rw [(out_val _ _ _ _ _ _ _ B).2 hotB hout, if_pos hflag]
        exact e4
      · unfold step3
        simp only []
        rw [(out_lane _ _ _ _ _ _ _ B).2 hotB hout, if_pos hflag]
        exact e1
    · rw [if_neg h24] at hout
      refine ⟨(tl (C B) (pp B + 1)).val, by have := (tl (C B) (pp B + 1)).isLt; omega, fun _ => rfl, ?_, ?_⟩
      · rw [← h6 ⟨pp B + 1, by omega⟩ B]
        unfold step3
        simp only []
        exact table_val Y6 B (pp B + 1) (by omega) (by omega) hq _ _ _ _ hout hotB
      · rw [← h7 ⟨pp B + 1, by omega⟩ B]
        unfold step3
        simp only []
        exact table_lane Y7 B (pp B + 1) (by omega) (by omega) hq _ _ _ _ hout hotB
  obtain ⟨h, e1, e2, e3, e4⟩ := hh
  refine ⟨fun l => if l = B then tv (C B) (pp B + 1) else hv l, fun l => if l = B then h else hl l, fun l => if l = B then pp l + 1 else pp l, ?_⟩
  constructor
  · subst hBd
    refine H.heads.step ⟨k.val, hk⟩ htl (fun l => rfl) (if_pos rfl) (fun hn => ?_) (fun l hl => if_neg hl) (fun l hl => if_neg hl) fun l => ?_
    · rw [if_pos rfl] at hn
      rw [if_pos rfl]
      exact e2 hn
    · show (if _ then _ else _) ≤ 129
      split
      · exact e1
      · exact H.heads.small l
  · intro l
    by_cases hlB : l = B
    · subst hlB; rw [e3, if_pos rfl]
    · have := hhot l
      rw [if_neg hlB] at this
      rw [if_neg hlB, ← H.val l]
      exact (out_val _ _ _ _ _ _ _ l).1 this
  · intro l
    by_cases hlB : l = B
    · subst hlB; rw [e4, if_pos rfl]
    · have := hhot l
      rw [if_neg hlB] at this
      rw [if_neg hlB, ← H.lane l]
      exact (out_lane _ _ _ _ _ _ _ l).1 this
  · exact hspent
  · intro i hi
    refine (pick_out k a.1 a.2.2.2.1 a.2.1 a.2.2.1 a.2.2.2.2.1 a.2.2.2.2.2 i).1.trans ?_
    by_cases e : i.val = k.val
    · have : i = ⟨k.val, hk⟩ := Fin.ext e
      rw [if_pos e, hmx, hg, this]
    · rw [if_neg e]; exact H.score i (by omega)
  · intro i hi
    refine (pick_out k a.1 a.2.2.2.1 a.2.1 a.2.2.1 a.2.2.2.2.1 a.2.2.2.2.2 i).2.1.trans ?_
    by_cases e : i.val = k.val
    · have : i = ⟨k.val, hk⟩ := Fin.ext e
      rw [if_pos e, hbeam, this, hBd]
    · rw [if_neg e]; exact H.beam i (by omega)
  · intro i hi
    refine (pick_out k a.1 a.2.2.2.1 a.2.1 a.2.2.1 a.2.2.2.2.1 a.2.2.2.2.2 i).2.2.trans ?_
    by_cases e : i.val = k.val
    · have : i = ⟨k.val, hk⟩ := Fin.ext e
      rw [if_pos e, hlane, hln, this]
    · rw [if_neg e]; exact H.code i (by omega)

end Cert.Proof.KernelIdeal

end
-- ==== Proof.KernelIdealBeams.lean ====
module

public import proofs.«01_k».proof.Proof.KernelIdealRound

@[expose] public section

set_option maxRecDepth 16384

noncomputable section

namespace Cert.Proof.KernelIdeal

open Cert.KernelIdeal Cert.KernelIdeal.Gen Cert.Proof.Beam
open Idealize.ShloMosaic

/-! # One time step, read at one batch row -/

/-- The log posteriors of a batch row at a step. -/
def lpOf (b : Fin 64) (x : Vec Ideal S1x64x96 .f32) (c : Fin 96) : EReal := Ideal.log (x (ix3 0 b c) + Ideal.ofBits FTy.f32 869711765#32)

/-- The carried state of a batch row. -/
def rowOf (b : Fin 64) (a : Acc1 Ideal) : St := ⟨fun l => a.1 (ix2 b l), fun l => a.2.1 (ix2 b l), fun l => a.2.2 (ix2 b l)⟩

variable (b : Fin 64) (x : Vec Ideal S1x64x96 .f32) (a : Acc1 Ideal)

theorem dead_bot : Named.named (F := Ideal) κ "dead" (φ := .f32) 4048155338#32 = (⊥ : EReal) := by
  simp [Named.named, κ]

theorem lae_form (p q : EReal) : (if p - q ≠ p - q then p + q else max p q + Ideal.log1p (Ideal.exp (0 - FloatOps.absf (F := Ideal) (φ := .f32) (p - q)))) = lae p q := by
  rw [if_neg fun h => h rfl, zero_sub_ereal]; rfl

theorem tot_at (l : Fin 100) : k0_pay70 a.1 a.2.1 (ix2 b l) = tot (rowOf b a) l := by
  pointwise [k0_pay70]
  exact lae_form _ _

theorem spb_at (l : Fin 100) : k0_pay71 a.1 a.2.1 x (ix2 b l) = spb (lpOf b x) (rowOf b a) l := by
  have : k0_pay71 a.1 a.2.1 x (ix2 b l) = k0_pay70 a.1 a.2.1 (ix2 b l) + k0_pay69 x (ix2 b 95) := by
    pointwise [k0_pay71]
  rw [this, tot_at]
  pointwise [k0_pay69]
  rfl

theorem spnb_at (l : Fin 100) : k0_pay72 i3 a.2.1 a.2.2 x (ix2 b l) = spnb (lpOf b x) (rowOf b a) l := by
  unfold spnb
  rw [← sum_at]
  simp only [← select_eq]
  rw [← select_sge0, ← dead_bot]
  pointwise [k0_pay72, i3, k0_pay69]
  rfl

theorem stot_at (l : Fin 100) : keep1 x i3 a (ix2 b l) = stot (lpOf b x) (rowOf b a) l := by
  unfold keep1 stot
  rw [← spb_at, ← spnb_at, ← lae_form]
  pointwise [k0_pay73]

theorem cand_at (l : Fin 100) (k : Fin 128) : cand1 x i3 a (ix3 b l k) = cnd (lpOf b x) (rowOf b a) l k := by
  have : cand1 x i3 a (ix3 b l k) = if h : k.val < 1 then keep1 x i3 a (ix2 b l)
      else if h : k.val - 1 < 96 then Scalar.select (IntOp.cmpi CmpIPredicate.eq (BitVec.ofNat 32 (k.val - 1)) 95#32) (Named.named (F := Ideal) κ "padding" (φ := .f32) 4284592614#32)
          (Scalar.select (IntOp.cmpi CmpIPredicate.eq (BitVec.ofNat 32 (k.val - 1)) (a.2.2 (ix2 b l))) (a.1 (ix2 b l)) (k0_pay70 a.1 a.2.1 (ix2 b l)) + k0_pay69 x (ix2 b ⟨k.val - 1, h⟩))
        else Named.named (F := Ideal) κ "padding" (φ := .f32) 4284592614#32 := by
    unfold cand1
    pointwise [k0_pay75, k0_pay74, i3]
  rw [this]
  unfold cnd
  by_cases h0 : k.val = 0
  · rw [dif_pos (by omega), if_pos h0, stot_at]
  · rw [dif_neg (by omega), if_neg h0]
    by_cases h1 : k.val - 1 < 96
    · rw [dif_pos h1, dif_pos h1]
      unfold ext
      rw [select_eq, select_eq, padding_bot, tot_at]
      have h95 : (BitVec.ofNat 32 (k.val - 1) = 95#32) = (k.val - 1 = 95) := propext (ofNat_inj (by omega) (by omega))
      have h69 : k0_pay69 x (ix2 b ⟨k.val - 1, h1⟩) = lpOf b x ⟨k.val - 1, h1⟩ := by
        pointwise [k0_pay69]
        rfl
      simp only [h95]
      rw [h69]
      rfl
    · rw [dif_neg h1, dif_neg h1, padding_bot]

theorem kill_at (y : FVec Ideal S64x100x128 .f32) (C : Fin 100 → Fin 128 → EReal) (hy : ∀ l k, y (ix3 b l k) = C l k) (l : Fin 100) :
    topV y (ix2 b l) = top (C l) ∧ topL i1 y (ix2 b l) = BitVec.ofNat 32 (arg (C l)).val ∧ ∀ k, kill i1 y (ix3 b l k) = if k = arg (C l) then ⊥ else C l k := by
  have hV : topV y (ix2 b l) = top (C l) := by
    pointwise [topV]
    simp only [bot_bits, hy]
    rfl
  have hL : topL i1 y (ix2 b l) = BitVec.ofNat 32 (arg (C l)).val := by
    rw [← arg_fold (C l) 128 le_rfl (by omega), ← hV]
    simp only [← hy]
    pointwise [topL, i1]
  refine ⟨hV, hL, fun k => ?_⟩
  have : kill i1 y (ix3 b l k) = Scalar.select (IntOp.cmpi CmpIPredicate.eq (BitVec.ofNat 32 k.val) (topL i1 y (ix2 b l)))
      (Named.named (F := Ideal) κ "padding" (φ := .f32) 4284592614#32) (y (ix3 b l k)) := by
    pointwise [kill, i1]
  rw [this, hL, select_eq, padding_bot, hy]
  have h1 := k.isLt
  have h2 := (arg (C l)).isLt
  simp only [ofNat_inj (show k.val < 2 ^ 31 by omega) (show (arg (C l)).val < 2 ^ 31 by omega), ← Fin.ext_iff]

theorem wk_at (m : ℕ) : ∀ l k, wk x i1 i3 a m (ix3 b l k) = wr (cnd (lpOf b x) (rowOf b a) l) m k := by
  induction m with
  | zero => exact cand_at b x a
  | succ m ih => exact fun l k => (kill_at b _ (fun l => wr (cnd (lpOf b x) (rowOf b a) l) m) ih l).2.2 k

theorem vals_at (m : Fin 24) (l : Fin 100) : vals1 x i1 i3 a m (ix3 0 b l) = tv (cnd (lpOf b x) (rowOf b a) l) m.val := by
  have : vals1 x i1 i3 a m (ix3 0 b l) = topV (wk x i1 i3 a m.val) (ix2 b l) := by
    unfold vals1
    generalize topV (wk x i1 i3 a m.val) = y
    pointwise []
  rw [this]
  exact (kill_at b _ (fun l => wr (cnd (lpOf b x) (rowOf b a) l) m.val) (wk_at b x a m.val) l).1

theorem lanes_at (m : Fin 24) (l : Fin 100) : lanes1 x i1 i3 a m (ix3 0 b l) = BitVec.ofNat 32 (tl (cnd (lpOf b x) (rowOf b a) l) m.val).val := by
  have : lanes1 x i1 i3 a m (ix3 0 b l) = topL i1 (wk x i1 i3 a m.val) (ix2 b l) := by
    unfold lanes1
    generalize topL i1 (wk x i1 i3 a m.val) = y
    pointwise []
  rw [this]
  exact (kill_at b _ (fun l => wr (cnd (lpOf b x) (rowOf b a) l) m.val) (wk_at b x a m.val) l).2.1

/-- A later step picks the step's best hundred candidates. -/
theorem later_sel {n : Fin 100 → Fin 9700} (hG : Greedy (Beam.val (cnd (lpOf b x) (rowOf b a))) n) (hlive : ∀ j, Beam.val (cnd (lpOf b x) (rowOf b a)) (n j) ≠ ⊥)
    (k : Fin k0_t1_loop.trips) (hk : k.val ≠ 0) (j : Fin 100) :
    (sel1 k x i0 i1 i2 i3 a).1 (ix2 b j) = Beam.val (cnd (lpOf b x) (rowOf b a)) (n j)
      ∧ (sel1 k x i0 i1 i2 i3 a).2.1 (ix2 b j) = BitVec.ofNat 32 (bm (n j)).val ∧ (sel1 k x i0 i1 i2 i3 a).2.2 (ix2 b j) = BitVec.ofNat 32 (ln (n j)).val := by
  have hcond : ¬ k0_cond1 k = 1#1 := by
    revert hk
    revert k
    decide
  have hY : ∀ l k, k0_pay76 i3 a.1 (k0_pay69 x) (k0_pay70 a.1 a.2.1) (keep1 x i3 a) (k0_pay74 a.2.2) (ix3 b l k) = cnd (lpOf b x) (rowOf b a) l k := by
    intro l k
    rw [← cand_at]
    unfold cand1
    pointwise [k0_pay76]
  have h0 : Round (cnd (lpOf b x) (rowOf b a)) n b 0 (init3 x i1 i3 a) (fun l => tv (cnd (lpOf b x) (rowOf b a) l) 0) (fun l => (tl (cnd (lpOf b x) (rowOf b a) l) 0).val) fun _ => 0 := by
    have hk0 := kill_at b (cand1 x i3 a) (fun l => cnd (lpOf b x) (rowOf b a) l) (cand_at b x a)
    have e1 : (init3 x i1 i3 a).1 = topV (cand1 x i3 a) := by
      unfold init3; simp only []; unfold k0_pay77 topV cand1; rfl
    have e2 : (init3 x i1 i3 a).2.1 = topL i1 (cand1 x i3 a) := by
      unfold init3; simp only []; unfold k0_pay78 k0_pay77 topL topV cand1; rfl
    refine ⟨⟨fun _ => rfl, fun _ _ => rfl, fun l => ?_, fun _ => le_rfl, fun l k _ => ?_⟩, fun l => (congrFun e1 _).trans (hk0 l).1, fun l => (congrFun e2 _).trans (hk0 l).2.1, fun l => ?_, fun i hi => absurd hi (Nat.not_lt_zero _),
      fun i hi => absurd hi (Nat.not_lt_zero _), fun i hi => absurd hi (Nat.not_lt_zero _)⟩
    · have := (tl (cnd (lpOf b x) (rowOf b a) l) 0).isLt
      omega
    · exact ⟨fun ⟨i, hi, _⟩ => absurd hi (Nat.not_lt_zero _), fun ⟨i, hi, _⟩ => absurd hi (Nat.not_lt_zero _)⟩
    · rfl
  have hrounds : ∀ m, m ≤ 100 → ∃ hv hl pp, Round (cnd (lpOf b x) (rowOf b a)) n b m
      (st3 (k0_pay76 i3 a.1 (k0_pay69 x) (k0_pay70 a.1 a.2.1) (keep1 x i3 a) (k0_pay74 a.2.2)) (vals1 x i1 i3 a) (lanes1 x i1 i3 a) i0 i1 i2 (init3 x i1 i3 a) m) hv hl pp := by
    intro m
    induction m with
    | zero => exact fun _ => ⟨_, _, _, h0⟩
    | succ m ih =>
      intro hm
      obtain ⟨hv, hl, pp, H⟩ := ih (by omega)
      have hm' : m < k0_t3_loop.trips := hm
      rw [st3_succ _ _ _ _ _ _ _ ⟨m, hm'⟩]
      exact round_step (fun l k hk => cnd_high _ _ l k hk) hG hY _ _ (vals_at b x a) (lanes_at b x a) ⟨m, hm'⟩ hm H (hlive _)
  obtain ⟨hv, hl, pp, H⟩ := hrounds 100 le_rfl
  have htr : k0_t3_loop.trips = 100 := by decide
  unfold sel1
  rw [if_neg hcond]
  simp only [htr]
  exact ⟨H.score j j.isLt, H.beam j j.isLt, H.code j j.isLt⟩

/-- The one-hot sum the next state reads a beam's entry with. -/
theorem sum_one {m : ℕ} (hm : m ≤ 2 ^ 31) (f : Fin m → EReal) (B : Fin m) :
    (∑ l : Fin m, Scalar.select (IntOp.cmpi CmpIPredicate.eq (BitVec.ofNat 32 l.val) (BitVec.ofNat 32 B.val)) (f l) 0) = f B := by
  rw [Finset.sum_eq_single B]
  · rw [select_eq, if_pos rfl]
  · intro l _ hl
    have h1 := l.isLt
    have h2 := B.isLt
    rw [select_eq, if_neg]
    intro e
    exact hl (Fin.ext ((ofNat_inj (by omega) (by omega)).mp e))
  · intro h; exact absurd (Finset.mem_univ _) h

theorem next_at {n : Fin 100 → Fin 9700} {s : Sel Ideal} (h1 : ∀ j, s.1 (ix2 b j) = Beam.val (cnd (lpOf b x) (rowOf b a)) (n j))
    (h2 : ∀ j, s.2.1 (ix2 b j) = BitVec.ofNat 32 (bm (n j)).val) (h3 : ∀ j, s.2.2 (ix2 b j) = BitVec.ofNat 32 (ln (n j)).val) :
    rowOf b (next1 x i3 i4 a s) = next (lpOf b x) (rowOf b a) n := by
  have hc : ∀ j {α : Type} (p q : α), Scalar.select (IntOp.cmpi CmpIPredicate.eq (s.2.2 (ix2 b j)) 0#32) p q = if (ln (n j)).val = 0 then p else q := by
    intro j α p q
    rw [h3, select_eq]
    have := (ln (n j)).isLt
    have h0 : (BitVec.ofNat 32 (ln (n j)).val = 0#32) = ((ln (n j)).val = 0) := propext (ofNat_inj (by omega) (by omega))
    simp only [h0]
  unfold rowOf next next1
  congr 1
  · funext j
    have : k0_pay212 (F := Ideal) s.2.2 (k0_pay205 i4 (k0_pay71 a.1 a.2.1 x) s.2.1) (ix2 b j)
        = Scalar.select (IntOp.cmpi CmpIPredicate.eq (s.2.2 (ix2 b j)) 0#32)
          (∑ l : Fin 100, Scalar.select (IntOp.cmpi CmpIPredicate.eq (BitVec.ofNat 32 l.val) (s.2.1 (ix2 b j))) (k0_pay71 a.1 a.2.1 x (ix2 b l)) 0)
          (Named.named (F := Ideal) κ "dead" (φ := .f32) 4048155338#32) := by
      pointwise [k0_pay212, k0_pay211, k0_pay205, k0_pay204, i4]
    refine this.trans ?_
    rw [hc, h2, sum_one (by omega), dead_bot, spb_at]
    rfl
  · funext j
    have : k0_pay213 (F := Ideal) s.1 s.2.2 (k0_pay206 i4 (k0_pay72 i3 a.2.1 a.2.2 x) s.2.1) (ix2 b j)
        = Scalar.select (IntOp.cmpi CmpIPredicate.eq (s.2.2 (ix2 b j)) 0#32)
          (∑ l : Fin 100, Scalar.select (IntOp.cmpi CmpIPredicate.eq (BitVec.ofNat 32 l.val) (s.2.1 (ix2 b j))) (k0_pay72 i3 a.2.1 a.2.2 x (ix2 b l)) 0)
          (s.1 (ix2 b j)) := by
      pointwise [k0_pay213, k0_pay211, k0_pay206, k0_pay204, i4]
    refine this.trans ?_
    rw [hc, h2, sum_one (by omega), spnb_at, h1]
    rfl
  · funext j
    have : k0_pay214 s.2.2 (k0_pay207 i4 a.2.2 s.2.1) (ix2 b j)
        = Scalar.select (IntOp.cmpi CmpIPredicate.eq (s.2.2 (ix2 b j)) 0#32)
          (Finset.univ.fold IntOp.addi (0#32) fun l : Fin 100 => Scalar.select (IntOp.cmpi CmpIPredicate.eq (BitVec.ofNat 32 l.val) (s.2.1 (ix2 b j))) (a.2.2 (ix2 b l)) 0#32)
          (IntOp.subi (s.2.2 (ix2 b j)) 1#32) := by
      pointwise [k0_pay214, k0_pay211, k0_pay207, k0_pay204, i4]
    refine this.trans ?_
    rw [hc, h2, addi_one (by omega), h3]
    by_cases e : (ln (n j)).val = 0
    · rw [if_pos e, if_pos e]
    · rw [if_neg e, if_neg e]
      have h : BitVec.ofNat 32 (ln (n j)).val = BitVec.ofNat 32 ((ln (n j)).val - 1) + 1#32 := by
        rw [show (1#32) = BitVec.ofNat 32 1 from rfl, ← BitVec.ofNat_add]
        congr 1
        omega
      rw [h, IntOp.subi, BitVec.add_sub_cancel]

/-- The first step's rounds take the first beam's candidates out in order. -/
theorem first_rounds : ∀ m, m ≤ 96 → ∀ r : FVec Ideal S64x128 .f32 × FVec Ideal S64x100 .f32 × IVec S64x100 32,
    r = ((List.finRange k0_t2_loop.trips).take m).foldl (fun (u : FVec Ideal S64x128 .f32 × FVec Ideal S64x100 .f32 × IVec S64x100 32) k => (k0_pay7 u.1, k0_pay5 i0 k u.1 u.2.1, k0_pay6 i0 k u.1 u.2.2))
      (k0_pay2 (cand1 x i3 a), k0_pay195, k0_pay197) →
    (∀ k, r.1 (ix2 b k) = wr (cnd (lpOf b x) (rowOf b a) 0) m k) ∧ (∀ j : Fin 100, j.val < m → r.2.1 (ix2 b j) = tv (cnd (lpOf b x) (rowOf b a) 0) j.val)
      ∧ ∀ j : Fin 100, j.val < m → r.2.2 (ix2 b j) = BitVec.ofNat 32 (tl (cnd (lpOf b x) (rowOf b a) 0) j.val).val := by
  intro m
  induction m with
  | zero =>
    intro _ r hr
    subst hr
    refine ⟨fun k => ?_, fun j hj => absurd hj (Nat.not_lt_zero _), fun j hj => absurd hj (Nat.not_lt_zero _)⟩
    show k0_pay2 (cand1 x i3 a) (ix2 b k) = cnd (lpOf b x) (rowOf b a) 0 k
    rw [← cand_at]
    pointwise [k0_pay2]
  | succ m ih =>
    intro hm r hr
    have hmt : m < k0_t2_loop.trips := hm
    have htake : (List.finRange k0_t2_loop.trips).take (m + 1) = (List.finRange k0_t2_loop.trips).take m ++ [⟨m, hmt⟩] := by
      rw [List.take_add_one]
      simp [List.getElem?_eq_getElem, hmt]
    rw [htake, List.foldl_append] at hr
    generalize hu : ((List.finRange k0_t2_loop.trips).take m).foldl (fun (u : FVec Ideal S64x128 .f32 × FVec Ideal S64x100 .f32 × IVec S64x100 32) k => (k0_pay7 u.1, k0_pay5 i0 k u.1 u.2.1, k0_pay6 i0 k u.1 u.2.2))
      (k0_pay2 (cand1 x i3 a), k0_pay195, k0_pay197) = u at hr
    obtain ⟨h1, h2, h3⟩ := ih (by omega) u hu.symm
    simp only [List.foldl_cons, List.foldl_nil] at hr
    subst hr
    have htop : Finset.univ.fold max (Ideal.ofBits FTy.f32 4286578688#32) (fun k => u.1 (ix2 b k)) = tv (cnd (lpOf b x) (rowOf b a) 0) m := by
      simp only [bot_bits, h1]; rfl
    have harg : Finset.univ.fold IntOp.minsi (2147483647#32) (fun k : Fin 128 => if u.1 (ix2 b k) = Finset.univ.fold max (Ideal.ofBits FTy.f32 4286578688#32) (fun k => u.1 (ix2 b k)) then BitVec.ofNat 32 k.val else 129#32)
        = BitVec.ofNat 32 (tl (cnd (lpOf b x) (rowOf b a) 0) m).val := by
      rw [htop]
      simp only [h1]
      exact arg_fold _ 129 (by omega) (by omega)
    have hiv : Scf.iv 0#32 1#32 (⟨m, hmt⟩ : Fin k0_t2_loop.trips) = BitVec.ofNat 32 m := by simp [Scf.iv]
    refine ⟨fun k => ?_, fun j hj => ?_, fun j hj => ?_⟩
    · have : k0_pay7 u.1 (ix2 b k) = Scalar.select (IntOp.cmpi CmpIPredicate.eq (BitVec.ofNat 32 k.val) (Finset.univ.fold IntOp.minsi (2147483647#32)
          (fun k : Fin 128 => if u.1 (ix2 b k) = Finset.univ.fold max (Ideal.ofBits FTy.f32 4286578688#32) (fun k => u.1 (ix2 b k)) then BitVec.ofNat 32 k.val else 129#32)))
          (Named.named (F := Ideal) κ "padding" (φ := .f32) 4284592614#32) (u.1 (ix2 b k)) := by
        pointwise [k0_pay7, k0_pay4, k0_pay3]
      refine this.trans ?_
      rw [harg, select_eq, padding_bot, h1]
      have g1 := k.isLt
      have g2 := (tl (cnd (lpOf b x) (rowOf b a) 0) m).isLt
      simp only [ofNat_inj (show k.val < 2 ^ 31 by omega) (show (tl (cnd (lpOf b x) (rowOf b a) 0) m).val < 2 ^ 31 by omega), ← Fin.ext_iff]
      rfl
    · have : k0_pay5 i0 ⟨m, hmt⟩ u.1 u.2.1 (ix2 b j) = Scalar.select (IntOp.cmpi CmpIPredicate.eq (BitVec.ofNat 32 j.val) (Scf.iv 0#32 1#32 (⟨m, hmt⟩ : Fin k0_t2_loop.trips)))
          (Finset.univ.fold max (Ideal.ofBits FTy.f32 4286578688#32) (fun k => u.1 (ix2 b k))) (u.2.1 (ix2 b j)) := by
        pointwise [k0_pay5, k0_pay3]
      refine this.trans ?_
      have g1 := j.isLt
      rw [htop, hiv, select_eq]
      simp only [ofNat_inj (show j.val < 2 ^ 31 by omega) (show m < 2 ^ 31 by omega)]
      by_cases e : j.val = m
      · rw [if_pos e, e]
      · rw [if_neg e]; exact h2 j (by omega)
    · have : k0_pay6 i0 ⟨m, hmt⟩ u.1 u.2.2 (ix2 b j) = Scalar.select (IntOp.cmpi CmpIPredicate.eq (BitVec.ofNat 32 j.val) (Scf.iv 0#32 1#32 (⟨m, hmt⟩ : Fin k0_t2_loop.trips)))
          (Finset.univ.fold IntOp.minsi (2147483647#32)
            (fun k : Fin 128 => if u.1 (ix2 b k) = Finset.univ.fold max (Ideal.ofBits FTy.f32 4286578688#32) (fun k => u.1 (ix2 b k)) then BitVec.ofNat 32 k.val else 129#32)) (u.2.2 (ix2 b j)) := by
        pointwise [k0_pay6, k0_pay4, k0_pay3]
      refine this.trans ?_
      have g1 := j.isLt
      rw [harg, hiv, select_eq]
      simp only [ofNat_inj (show j.val < 2 ^ 31 by omega) (show m < 2 ^ 31 by omega)]
      by_cases e : j.val = m
      · rw [if_pos e, e]
      · rw [if_neg e]; exact h3 j (by omega)

/-- A select by the coordinate, read. -/
theorem at_lane {α : Type} (j : Fin 100) (c : ℕ) (hc : c < 2 ^ 31) (p q : α) : Scalar.select (IntOp.cmpi CmpIPredicate.eq (BitVec.ofNat 32 j.val) (BitVec.ofNat 32 c)) p q = if j.val = c then p else q := by
  have := j.isLt
  rw [select_eq]
  simp only [ofNat_inj (show j.val < 2 ^ 31 by omega) hc]

/-- The first step picks the step's best hundred candidates. -/
theorem first_sel {n : Fin 100 → Fin 9700} (hC : ∀ k, cnd (lpOf b x) (rowOf b a) 0 k ≠ ⊥ ↔ k.val < 96) (hC0 : ∀ l k, l ≠ 0 → cnd (lpOf b x) (rowOf b a) l k = ⊥)
    (hG : Greedy (Beam.val (cnd (lpOf b x) (rowOf b a))) n) (k : Fin k0_t1_loop.trips) (hk : k.val = 0) (j : Fin 100) :
    (sel1 k x i0 i1 i2 i3 a).1 (ix2 b j) = Beam.val (cnd (lpOf b x) (rowOf b a)) (n j)
      ∧ (sel1 k x i0 i1 i2 i3 a).2.1 (ix2 b j) = BitVec.ofNat 32 (bm (n j)).val ∧ (sel1 k x i0 i1 i2 i3 a).2.2 (ix2 b j) = BitVec.ofNat 32 (ln (n j)).val := by
  have hcond : k0_cond1 k = 1#1 := by
    revert hk
    revert k
    decide
  have hf : first1 x i0 i3 a = ((List.finRange k0_t2_loop.trips).take 96).foldl (fun (u : FVec Ideal S64x128 .f32 × FVec Ideal S64x100 .f32 × IVec S64x100 32) k => (k0_pay7 u.1, k0_pay5 i0 k u.1 u.2.1, k0_pay6 i0 k u.1 u.2.2))
      (k0_pay2 (cand1 x i3 a), k0_pay195, k0_pay197) := by
    have htr : k0_t2_loop.trips = 96 := by decide
    rw [List.take_of_length_le (by rw [List.length_finRange, htr])]
    exact Scf.fold_eq _ _
  obtain ⟨-, hv, hl⟩ := first_rounds b x a 96 le_rfl _ hf
  have hs : (sel1 k x i0 i1 i2 i3 a) = (k0_pay198 i0 (keep1 x i3 a) (k0_pay9 i0 (keep1 x i3 a) (first1 x i0 i3 a).2.1), k0_pay199 i0 (k0_pay10 i0 k0_pay196),
      k0_pay200 i0 (k0_pay8 i0 (first1 x i0 i3 a).2.2)) := by
    unfold sel1; rw [if_pos hcond]
  have hs1 : k0_pay198 i0 (keep1 x i3 a) (k0_pay9 i0 (keep1 x i3 a) (first1 x i0 i3 a).2.1) (ix2 b j) = Scalar.select (IntOp.cmpi CmpIPredicate.eq (BitVec.ofNat 32 j.val) (BitVec.ofNat 32 99)) (keep1 x i3 a (ix2 b 4))
      (Scalar.select (IntOp.cmpi CmpIPredicate.eq (BitVec.ofNat 32 j.val) (BitVec.ofNat 32 98)) (keep1 x i3 a (ix2 b 3))
        (Scalar.select (IntOp.cmpi CmpIPredicate.eq (BitVec.ofNat 32 j.val) (BitVec.ofNat 32 97)) (keep1 x i3 a (ix2 b 2))
          (Scalar.select (IntOp.cmpi CmpIPredicate.eq (BitVec.ofNat 32 j.val) (BitVec.ofNat 32 96)) (keep1 x i3 a (ix2 b 1)) ((first1 x i0 i3 a).2.1 (ix2 b j))))) := by
    pointwise [k0_pay198, k0_pay9]
  have hs2 : k0_pay199 i0 (k0_pay10 i0 k0_pay196) (ix2 b j) = Scalar.select (IntOp.cmpi CmpIPredicate.eq (BitVec.ofNat 32 j.val) (BitVec.ofNat 32 99)) (4#32)
      (Scalar.select (IntOp.cmpi CmpIPredicate.eq (BitVec.ofNat 32 j.val) (BitVec.ofNat 32 98)) (3#32)
        (Scalar.select (IntOp.cmpi CmpIPredicate.eq (BitVec.ofNat 32 j.val) (BitVec.ofNat 32 97)) (2#32)
          (Scalar.select (IntOp.cmpi CmpIPredicate.eq (BitVec.ofNat 32 j.val) (BitVec.ofNat 32 96)) 1#32 0#32))) := by
    pointwise [k0_pay199, k0_pay10, k0_pay196]
  have hs3 : k0_pay200 i0 (k0_pay8 i0 (first1 x i0 i3 a).2.2) (ix2 b j) = Scalar.select (IntOp.cmpi CmpIPredicate.eq (BitVec.ofNat 32 j.val) (BitVec.ofNat 32 99)) (0#32)
      (Scalar.select (IntOp.cmpi CmpIPredicate.eq (BitVec.ofNat 32 j.val) (BitVec.ofNat 32 98)) (0#32)
        (Scalar.select (IntOp.cmpi CmpIPredicate.eq (BitVec.ofNat 32 j.val) (BitVec.ofNat 32 97)) (0#32)
          (Scalar.select (IntOp.cmpi CmpIPredicate.eq (BitVec.ofNat 32 j.val) (BitVec.ofNat 32 96)) (0#32) ((first1 x i0 i3 a).2.2 (ix2 b j))))) := by
    pointwise [k0_pay200, k0_pay8]
  simp only [at_lane _ _ (show 99 < 2 ^ 31 by omega), at_lane _ _ (show 98 < 2 ^ 31 by omega), at_lane _ _ (show 97 < 2 ^ 31 by omega), at_lane _ _ (show 96 < 2 ^ 31 by omega), stot_at] at hs1 hs2 hs3
  rw [hs]
  have hj := j.isLt
  by_cases h96 : j.val < 96
  · have e := first_row hC hC0 hG j.val h96
    rw [show (⟨j.val, by omega⟩ : Fin 100) = j from rfl] at e
    have hlive := row_live hC j.val h96
    have hk96 : (tl (cnd (lpOf b x) (rowOf b a) 0) j.val).val < 96 := (hC _).mp (by rw [at_tl _ hlive]; exact hlive)
    refine ⟨hs1.trans ?_, hs2.trans ?_, hs3.trans ?_⟩
    · rw [if_neg (by omega), if_neg (by omega), if_neg (by omega), if_neg (by omega), hv j h96, e]
      unfold Beam.val
      rw [bm_no _ _ (by omega), ln_no _ _ (by omega), at_tl _ hlive]
    · rw [if_neg (by omega), if_neg (by omega), if_neg (by omega), if_neg (by omega), e, bm_no _ _ (by omega)]
      rfl
    · rw [if_neg (by omega), if_neg (by omega), if_neg (by omega), if_neg (by omega), hl j h96, e, ln_no _ _ (by omega)]
  · have e := first_rest hC hC0 hG (j.val - 96) (by omega)
    rw [show (⟨96 + (j.val - 96), by omega⟩ : Fin 100) = j from Fin.ext (by simp only []; omega)] at e
    have hb : (bm (n j)).val = j.val - 95 := by rw [bm_val, e, if_pos (by omega)]; omega
    have hl0 : (ln (n j)).val = 0 := by rw [ln_val, e, if_pos (by omega)]
    have hval : Beam.val (cnd (lpOf b x) (rowOf b a)) (n j) = stot (lpOf b x) (rowOf b a) (bm (n j)) := by
      unfold Beam.val cnd; rw [if_pos hl0]
    have hcase : j.val = 96 ∨ j.val = 97 ∨ j.val = 98 ∨ j.val = 99 := by omega
    have hbm : ∀ c : Fin 100, c.val = j.val - 95 → bm (n j) = c := fun c hc => Fin.ext (hb.trans hc.symm)
    refine ⟨hs1.trans ?_, hs2.trans ?_, hs3.trans ?_⟩
    · rw [hval]
      rcases hcase with h | h | h | h
      · rw [hbm 1 (by rw [h]; rfl)]; simp [h]
      · rw [hbm 2 (by rw [h]; rfl)]; simp [h]
      · rw [hbm 3 (by rw [h]; rfl)]; simp [h]
      · rw [hbm 4 (by rw [h]; rfl)]; simp [h]
    · rw [hb]
      rcases hcase with h | h | h | h <;> simp [h]
    · rw [hl0]
      rcases hcase with h | h | h | h <;> simp [h]

end Cert.Proof.KernelIdeal

end
-- ==== Proof.Prefixes.lean ====
module

public import proofs.«01_k».proof.Proof.Model

@[expose] public section

noncomputable section

namespace Cert.Proof.Beam

open Idealize.ShloMosaic

/-! # The prefixes of the beams, and the walk back that reads the first beam's -/

/-- The length of a beam's prefix after `t` steps. -/
def len (n : ℕ → Fin 100 → Fin 9700) : ℕ → Fin 100 → ℕ
  | 0, _ => 0
  | t + 1, j => len n t (bm (n t j)) + if (ln (n t j)).val = 0 then 0 else 1

/-- The characters of a beam's prefix after `t` steps, and minus one past its end. -/
def pre (n : ℕ → Fin 100 → Fin 9700) : ℕ → Fin 100 → ℕ → BitVec 32
  | 0, _, _ => 4294967295#32
  | t + 1, j, i => if (ln (n t j)).val ≠ 0 ∧ i = len n t (bm (n t j)) then BitVec.ofNat 32 ((ln (n t j)).val - 1) else pre n t (bm (n t j)) i

variable (n : ℕ → Fin 100 → Fin 9700)

theorem len_le (t : ℕ) (j : Fin 100) : len n t j ≤ t := by
  induction t generalizing j with
  | zero => exact le_rfl
  | succ t ih => have := ih (bm (n t j)); unfold len; split <;> omega

theorem pre_past (t : ℕ) (j : Fin 100) (i : ℕ) (h : len n t j ≤ i) : pre n t j i = 4294967295#32 := by
  induction t generalizing j i with
  | zero => rfl
  | succ t ih =>
    unfold len at h
    unfold pre
    by_cases h0 : (ln (n t j)).val = 0
    · rw [if_neg fun e => e.1 h0]
      rw [if_pos h0] at h
      exact ih _ _ h
    · rw [if_neg h0] at h
      rw [if_neg fun e => by omega]
      exact ih _ _ (by omega)

/-- The carried last character is the prefix's last. -/
theorem last_eq (lp : ℕ → Fin 96 → EReal) (t : ℕ) (j : Fin 100) :
    (ms lp n t).last j = if 0 < len n t j then pre n t j (len n t j - 1) else 4294967295#32 := by
  induction t generalizing j with
  | zero => rfl
  | succ t ih =>
    show (if (ln (n t j)).val = 0 then (ms lp n t).last (bm (n t j)) else BitVec.ofNat 32 ((ln (n t j)).val - 1)) = _
    by_cases h0 : (ln (n t j)).val = 0
    · rw [if_pos h0, ih]
      have e : len n (t + 1) j = len n t (bm (n t j)) := by rw [len, if_pos h0]; rfl
      rw [e]
      split
      · rw [pre, if_neg fun e => e.1 h0]
      · rfl
    · have e : len n (t + 1) j = len n t (bm (n t j)) + 1 := by rw [len, if_neg h0]
      rw [if_neg h0, e, if_pos (by omega), pre, if_pos ⟨h0, by omega⟩]

/-- The beam the first beam's prefix came from, `k` steps before the last of 64. -/
def anc : ℕ → Fin 100
  | 0 => 0
  | k + 1 => bm (n (63 - k) (anc k))

/-- The characters the walk has met. -/
def met : ℕ → ℕ
  | 0 => 0
  | k + 1 => met k + if (ln (n (63 - k) (anc n k))).val = 0 then 0 else 1

theorem met_len (k : ℕ) (h : k ≤ 64) : met n k + len n (64 - k) (anc n k) = len n 64 0 := by
  induction k with
  | zero => exact Nat.zero_add _
  | succ k ih =>
    have e := ih (by omega)
    rw [show 64 - k = (63 - k) + 1 by omega, len] at e
    rw [met, anc, show 64 - (k + 1) = 63 - k by omega]
    omega

theorem met_le (k : ℕ) (h : k ≤ 64) : met n k ≤ k := by
  induction k with
  | zero => exact le_rfl
  | succ k ih => have := ih (by omega); rw [met]; split <;> omega

theorem met_all : met n 64 = len n 64 0 := met_len n 64 le_rfl

/-- What is left of the first beam's prefix is the ancestor's. -/
theorem pre_anc (k : ℕ) (h : k ≤ 64) (i : ℕ) (hi : i < len n (64 - k) (anc n k)) : pre n 64 0 i = pre n (64 - k) (anc n k) i := by
  induction k with
  | zero => rfl
  | succ k ih =>
    rw [show 64 - (k + 1) = 63 - k by omega] at hi ⊢
    rw [anc] at hi ⊢
    have e : 64 - k = (63 - k) + 1 := by omega
    rw [ih (by omega) (by rw [e, len]; omega), e, pre, if_neg fun e => by omega]

/-- The character the walk meets at a step that adds one. -/
theorem pre_met (k : ℕ) (h : k < 64) (hk : (ln (n (63 - k) (anc n k))).val ≠ 0) :
    met n k < len n 64 0 ∧ pre n 64 0 (len n 64 0 - 1 - met n k) = BitVec.ofNat 32 ((ln (n (63 - k) (anc n k))).val - 1) := by
  have e : 64 - k = (63 - k) + 1 := by omega
  have h1 := met_len n k h.le
  have h2 : len n (64 - k) (anc n k) = len n (63 - k) (bm (n (63 - k) (anc n k))) + 1 := by rw [e, len, if_neg hk]
  refine ⟨by omega, ?_⟩
  rw [pre_anc n k h.le _ (by omega), e, pre, if_pos ⟨hk, by omega⟩]

end Cert.Proof.Beam

end
-- ==== Proof.KernelIdealWalk.lean ====
module

public import proofs.«01_k».proof.Proof.KernelIdealBeams
public import proofs.«01_k».proof.Proof.Prefixes

@[expose] public section

set_option maxRecDepth 16384

noncomputable section

namespace Cert.Proof.KernelIdeal

open Cert.KernelIdeal Cert.KernelIdeal.Gen Cert.Proof.Beam
open Idealize.ShloMosaic

/-! # The whole search of one batch row, and the walk back -/

/-- The log posteriors of row `b` of a block at step `t`. -/
def lpB (b : Fin 64) (x : FVec Ideal S64x64x96 .f32) (t : ℕ) (c : Fin 96) : EReal :=
  Ideal.log (x (ix3 ⟨min t 63, by omega⟩ b c) + Ideal.ofBits FTy.f32 869711765#32)

variable (b : Fin 64) (x : FVec Ideal S64x64x96 .f32) {n : ℕ → Fin 100 → Fin 9700}

theorem slab_at (k : Fin k0_t1_loop.trips) (c : Fin 96) : slab x k (ix3 0 b c) = x (ix3 ⟨min k.val 63, by omega⟩ b c) := by
  have hk : k.val < 64 := k.isLt
  unfold slab
  congr 1
  funext a
  refine Fin.ext ?_
  have h := k0_off1_eq k
  match a with
  | ⟨0, _⟩ => show k0_off1 k 0 + 1 * 0 = min k.val 63; rw [h]; show k.val + 1 * 0 = _; omega
  | ⟨1, _⟩ => show k0_off1 k 1 + 1 * b.val = b.val; rw [h]; show 0 + 1 * b.val = _; omega
  | ⟨2, _⟩ => show k0_off1 k 2 + 1 * c.val = c.val; rw [h]; show 0 + 1 * c.val = _; omega

theorem lpOf_slab (k : Fin k0_t1_loop.trips) : lpOf b (slab x k) = lpB b x k.val := by
  funext c
  unfold lpOf lpB
  rw [slab_at]

theorem start_row : rowOf b (k0_pay208 (F := Ideal), k0_pay209 (F := Ideal), k0_pay210) = start := by
  unfold rowOf start
  congr 1
  · funext l
    have : k0_pay208 (F := Ideal) (ix2 b l) = Scalar.select (IntOp.cmpi CmpIPredicate.eq (BitVec.ofNat 32 l.val) 0#32) (Ideal.ofBits FTy.f32 0#32)
        (Named.named (F := Ideal) κ "dead" (φ := .f32) 4048155338#32) := by
      pointwise [k0_pay208]
    refine this.trans ?_
    have h0 := at_lane l 0 (by omega) (Ideal.ofBits FTy.f32 0#32) (Named.named (F := Ideal) κ "dead" (φ := .f32) 4048155338#32)
    rw [h0, dead_bot, zero_bits]

/-- Step `k` of the search picks the candidates `n k`. -/
theorem sel_row (hlp : ∀ t c, lpB b x t c ≠ ⊥) (hG : ∀ u, u < 64 → Greedy (Beam.val (cn (lpB b x) n u)) (n u)) (k : Fin k0_t1_loop.trips)
    (h : rowOf b (beams x k.val) = ms (lpB b x) n k.val) (j : Fin 100) :
    (selOf x k).1 (ix2 b j) = Beam.val (cn (lpB b x) n k.val) (n k.val j) ∧ (selOf x k).2.1 (ix2 b j) = BitVec.ofNat 32 (bm (n k.val j)).val
      ∧ (selOf x k).2.2 (ix2 b j) = BitVec.ofNat 32 (ln (n k.val j)).val := by
  have hk : k.val < 64 := k.isLt
  have hc : cnd (lpOf b (slab x k)) (rowOf b (beams x k.val)) = cn (lpB b x) n k.val := by rw [lpOf_slab, h]; rfl
  have hg := hG k.val hk
  rw [← hc] at hg ⊢
  by_cases h0 : k.val = 0
  · refine first_sel b (slab x k) (beams x k.val) ?_ ?_ hg k h0 j
    · rw [hc, h0]; exact start_live (hlp 0)
    · rw [hc, h0]; exact start_dead
  · refine later_sel b (slab x k) (beams x k.val) hg ?_ k h0 j
    rw [hc]
    exact all_live hlp k.val (fun u hu => hG u (by omega)) (by omega)

/-- The search leaves the states the model has. -/
theorem search (hlp : ∀ t c, lpB b x t c ≠ ⊥) (hG : ∀ u, u < 64 → Greedy (Beam.val (cn (lpB b x) n u)) (n u)) :
    ∀ t, t ≤ 64 → rowOf b (beams x t) = ms (lpB b x) n t := by
  intro t
  induction t with
  | zero => exact fun _ => start_row b
  | succ t ih =>
    intro ht
    have hk : t < k0_t1_loop.trips := ht
    have h := ih (by omega)
    have hs := sel_row b x hlp hG ⟨t, hk⟩ h
    have hc : cnd (lpOf b (slab x ⟨t, hk⟩)) (rowOf b (beams x t)) = cn (lpB b x) n t := by rw [lpOf_slab, h]; rfl
    unfold beams at h hs hc ⊢
    rw [st1_succ (slab x) i0 i1 i2 i3 i4 _ ⟨t, hk⟩]
    rw [next_at b (slab x ⟨t, hk⟩) (n := n t), lpOf_slab, h]
    · rfl
    · exact fun j => by rw [hc]; exact (hs j).1
    · exact fun j => (hs j).2.1
    · exact fun j => (hs j).2.2

/-- The search's score of a row. -/
theorem score_row (hlp : ∀ t c, lpB b x t c ≠ ⊥) (hG : ∀ u, u < 64 → Greedy (Beam.val (cn (lpB b x) n u)) (n u)) :
    outScore x (ix2 b 0) = tot (ms (lpB b x) n 64) 0 := by
  rw [← search b x hlp hG 64 le_rfl]
  have htr : k0_t1_loop.trips = 64 := by decide
  unfold outScore
  rw [htr]
  generalize beams x 64 = a
  pointwise [k0_pay217]
  exact lae_form _ _

/-! ## The walk back -/

theorem pay215_at (s : IVec S64x100 32) (j : Fin 100) : k0_pay215 s (ix3 0 b j) = s (ix2 b j) := by
  pointwise [k0_pay215]

theorem pay216_at (s : IVec S64x100 32) (j : Fin 100) : k0_pay216 s (ix3 0 b j) = s (ix2 b j) := by
  pointwise [k0_pay216]

theorem pay221_at {cur : IVec S64x1 32} {s : Vec Ideal S1x64x100 .i32} {B : Fin 100} (hcur : cur (ix2 b 0) = BitVec.ofNat 32 B.val) :
    k0_pay221 (F := Ideal) cur s (ix2 b 0) = s (ix3 0 b B) := by
  have : k0_pay221 (F := Ideal) cur s (ix2 b 0) = (Finset.univ.fold IntOp.addi (0#32) fun l : Fin 100 => Scalar.select (IntOp.cmpi CmpIPredicate.eq (BitVec.ofNat 32 l.val) (cur (ix2 b 0))) (s (ix3 0 b l)) 0#32) := by
    pointwise [k0_pay221]
  rw [this, hcur, addi_one (by omega) (fun l => s (ix3 0 b l))]

theorem pay222_at {cur : IVec S64x1 32} {s : Vec Ideal S1x64x100 .i32} {B : Fin 100} (hcur : cur (ix2 b 0) = BitVec.ofNat 32 B.val) :
    k0_pay222 (F := Ideal) cur s (ix2 b 0) = s (ix3 0 b B) := by
  have : k0_pay222 (F := Ideal) cur s (ix2 b 0) = (Finset.univ.fold IntOp.addi (0#32) fun l : Fin 100 => Scalar.select (IntOp.cmpi CmpIPredicate.eq (BitVec.ofNat 32 l.val) (cur (ix2 b 0))) (s (ix3 0 b l)) 0#32) := by
    pointwise [k0_pay222]
  rw [this, hcur, addi_one (by omega) (fun l => s (ix3 0 b l))]

theorem subi_small {p q : ℕ} (h : q ≤ p) : IntOp.subi (BitVec.ofNat 32 p) (BitVec.ofNat 32 q) = BitVec.ofNat 32 (p - q) := by
  have h' : BitVec.ofNat 32 p = BitVec.ofNat 32 (p - q) + BitVec.ofNat 32 q := by
    rw [← BitVec.ofNat_add]
    congr 1
    omega
  rw [h', IntOp.subi, BitVec.add_sub_cancel]

/-- One step of the walk, read at a row: the beam, the character count and the characters so far. -/
theorem step4_row {bs s : Vec Ideal S1x64x100 .i32} {acc : Acc4} {B B' : Fin 100} {L : Fin 128} {m : ℕ} (hm : m ≤ 63)
    (h1 : acc.1 (ix2 b 0) = BitVec.ofNat 32 B.val) (h2 : acc.2.1 (ix2 b 0) = BitVec.ofNat 32 m)
    (hb : bs (ix3 0 b B) = BitVec.ofNat 32 B'.val) (hs : s (ix3 0 b B) = BitVec.ofNat 32 L.val) :
    (step4 (F := Ideal) bs s acc).1 (ix2 b 0) = BitVec.ofNat 32 B'.val
      ∧ (step4 (F := Ideal) bs s acc).2.1 (ix2 b 0) = BitVec.ofNat 32 (m + if L.val = 0 then 0 else 1)
      ∧ ∀ i : Fin 64, (step4 (F := Ideal) bs s acc).2.2 (ix2 b i) = if L.val ≠ 0 ∧ i.val = 63 - m then BitVec.ofNat 32 (L.val - 1) else acc.2.2 (ix2 b i) := by
  have hL := L.isLt
  have hc : k0_pay223 (F := Ideal) acc.1 s (ix2 b 0) = if L.val = 0 then 0#1 else 1#1 := by
    have : k0_pay223 (F := Ideal) acc.1 s (ix2 b 0) = IntOp.cmpi CmpIPredicate.ne (k0_pay221 (F := Ideal) acc.1 s (ix2 b 0)) 0#32 := by
      pointwise [k0_pay223]
    rw [this, pay221_at b h1, hs]
    have h0 := ofNat_inj (a := L.val) (b := 0) (by omega) (by omega)
    by_cases e : L.val = 0
    · rw [if_pos e, e]; rfl
    · rw [if_neg e]
      have : (BitVec.ofNat 32 L.val != 0#32) = true := by
        rw [bne_iff_ne]; exact fun h => e (h0.mp h)
      simp [IntOp.cmpi, this]
  refine ⟨(pay222_at b h1).trans hb, ?_, fun i => ?_⟩
  · have : k0_pay225 (F := Ideal) acc.1 acc.2.1 s (ix2 b 0) = IntOp.addi (acc.2.1 (ix2 b 0)) ((k0_pay223 (F := Ideal) acc.1 s (ix2 b 0)).setWidth 32) := by
      pointwise [k0_pay225]
    refine this.trans ?_
    rw [hc, h2, IntOp.addi, BitVec.ofNat_add]
    split <;> rfl
  · have : k0_pay224 (F := Ideal) acc.1 acc.2.1 acc.2.2 s (ix2 b i)
        = Scalar.select (IntOp.andi (IntOp.cmpi CmpIPredicate.eq (BitVec.ofNat 32 i.val) (IntOp.subi 63#32 (acc.2.1 (ix2 b 0)))) (k0_pay223 (F := Ideal) acc.1 s (ix2 b 0)))
          (IntOp.subi (k0_pay221 (F := Ideal) acc.1 s (ix2 b 0)) 1#32) (acc.2.2 (ix2 b i)) := by
      pointwise [k0_pay224]
    refine this.trans ?_
    have hi := i.isLt
    rw [hc, h2, pay221_at b h1, hs, subi_small (p := 63) hm]
    by_cases e : L.val = 0
    · rw [if_pos e, if_neg fun h => h.1 e]
      simp [Scalar.select, IntOp.andi]
    · rw [if_neg e, subi_small (p := L.val) (q := 1) (by omega)]
      have : ∀ c : BitVec 1, IntOp.andi c 1#1 = c := by decide
      rw [this, select_eq]
      simp only [ofNat_inj (show i.val < 2 ^ 31 by omega) (show 63 - m < 2 ^ 31 by omega), ne_eq, e, not_false_eq_true, true_and]

/-- The walk's state at a row after `k` steps. -/
theorem walk_row (hlp : ∀ t c, lpB b x t c ≠ ⊥) (hG : ∀ u, u < 64 → Greedy (Beam.val (cn (lpB b x) n u)) (n u)) : ∀ k, k ≤ 64 → ∀ a : Acc4,
    a = st4 (F := Ideal) (fun k => k0_pay215 (selOf x (back k)).2.1) (fun k => k0_pay216 (selOf x (back k)).2.2) (k0_pay218, k0_pay219, k0_pay220) k →
    a.1 (ix2 b 0) = BitVec.ofNat 32 (anc n k).val ∧ a.2.1 (ix2 b 0) = BitVec.ofNat 32 (met n k)
      ∧ ∀ i : Fin 64, 64 ≤ i.val + met n k → a.2.2 (ix2 b i) = pre n 64 0 (i.val + len n 64 0 - 64) := by
  intro k
  induction k with
  | zero =>
    intro _ a ha
    subst ha
    refine ⟨?_, ?_, fun i hi => ?_⟩
    · show k0_pay218 (ix2 b 0) = 0#32
      pointwise [k0_pay218]
    · show k0_pay219 (ix2 b 0) = 0#32
      pointwise [k0_pay219]
    · have := i.isLt
      have : met n 0 = 0 := rfl
      omega
  | succ k ih =>
    intro hk a ha
    have hkt : k < k0_t4_loop.trips := hk
    rw [st4_succ _ _ _ ⟨k, hkt⟩] at ha
    obtain ⟨h1, h2, h3⟩ := ih (by omega) _ rfl
    have hbk : (back ⟨k, hkt⟩).val = 63 - k := rfl
    have hs := sel_row b x hlp hG (back ⟨k, hkt⟩) (search b x hlp hG _ (by omega)) (anc n k)
    rw [hbk] at hs
    have hm := met_le n k (by omega)
    obtain ⟨g1, g2, g3⟩ := step4_row b (bs := k0_pay215 (selOf x (back ⟨k, hkt⟩)).2.1) (s := k0_pay216 (selOf x (back ⟨k, hkt⟩)).2.2) (B' := bm (n (63 - k) (anc n k)))
      (L := ln (n (63 - k) (anc n k))) (by omega) h1 h2 ((pay215_at b _ _).trans hs.2.1) ((pay216_at b _ _).trans hs.2.2)
    subst ha
    refine ⟨g1, g2, fun i hi => ?_⟩
    rw [g3]
    rw [met] at hi
    have hi' := i.isLt
    by_cases e : (ln (n (63 - k) (anc n k))).val = 0
    · rw [if_neg fun h => h.1 e]
      rw [if_pos e] at hi
      exact h3 i hi
    · rw [if_neg e] at hi
      by_cases e2 : i.val = 63 - met n k
      · rw [if_pos ⟨e, e2⟩]
        obtain ⟨p1, p2⟩ := pre_met n k (by omega) e
        rw [← p2]
        congr 1
        omega
      · rw [if_neg fun h => e2 h.2]
        exact h3 i (by omega)

/-- The search's prefix of a row. -/
theorem prefix_row (hlp : ∀ t c, lpB b x t c ≠ ⊥) (hG : ∀ u, u < 64 → Greedy (Beam.val (cn (lpB b x) n u)) (n u)) (i : Fin 64) :
    outPrefix x (ix2 b i) = pre n 64 0 i.val := by
  have htr : k0_t4_loop.trips = 64 := by decide
  obtain ⟨-, h2, h3⟩ := walk_row b x hlp hG 64 le_rfl (walk x) (by unfold walk; exact congrArg _ htr)
  rw [met_all] at h2 h3
  have hl := len_le n 64 0
  unfold outPrefix
  generalize walk x = a at h2 h3
  have : k0_pay1 (iota .tc S64x64 32 [1] iota_S64x64_d1_w32) a.2.1 a.2.2 (iota .tc S64x64x64 32 [2] iota_S64x64x64_d2_w32)
      (iota .tc S64x64x64 32 [1] iota_S64x64x64_d1_w32) (k0_pay226 a.2.1) (ix2 b i)
      = Scalar.select (IntOp.cmpi CmpIPredicate.slt (BitVec.ofNat 32 i.val) (a.2.1 (ix2 b 0)))
        (Finset.univ.fold IntOp.addi (0#32) fun l : Fin 64 => Scalar.select (IntOp.cmpi CmpIPredicate.eq (BitVec.ofNat 32 l.val) (IntOp.addi (BitVec.ofNat 32 i.val) (IntOp.subi 64#32 (a.2.1 (ix2 b 0))))) (a.2.2 (ix2 b l)) 0#32)
        4294967295#32 := by
    pointwise [k0_pay1, k0_pay226]
  refine this.trans ?_
  have hi := i.isLt
  rw [h2, subi_small (p := 64) hl, IntOp.addi, ← BitVec.ofNat_add]
  have hslt : ∀ p q : BitVec 32, Scalar.select (IntOp.cmpi CmpIPredicate.slt (BitVec.ofNat 32 i.val) (BitVec.ofNat 32 (len n 64 0))) p q = if i.val < len n 64 0 then p else q := by
    intro p q
    have := slt_small (a := i.val) (b := len n 64 0) (by omega) (by omega)
    by_cases h : i.val < len n 64 0 <;> simp [Scalar.select, IntOp.cmpi, this, h]
  rw [hslt]
  by_cases h : i.val < len n 64 0
  · rw [if_pos h]
    have e := addi_one (by omega) (fun l : Fin 64 => a.2.2 (ix2 b l)) ⟨i.val + (64 - len n 64 0), by omega⟩
    refine e.trans ?_
    rw [h3 _ (by simp only []; omega)]
    congr 1
    simp only []
    omega
  · rw [if_neg h, pre_past n 64 0 _ (by omega)]

end Cert.Proof.KernelIdeal

end
-- ==== Proof.Gathers.lean ====
module

public import Idealize.ShloMosaic.Lib.Pointwise

@[expose] public section

noncomputable section

namespace Cert.Proof.Gathers

open Idealize.ShloMosaic

/-! # The gathers along a row, read at an index -/

variable {α : Type}

/-- One entry of a row of a batch: the batch's row `b`, at the entry its index word names. -/
def rowDims (N : ℕ) (wf : GatherDims.WF ⟨2, ![64, N]⟩ ⟨3, ![64, 100, 1]⟩ ⟨2, ![64, 100]⟩ [] [1] [0] [1] [0] 2 ![1, 1]) :
    GatherDims ⟨2, ![64, N]⟩ ⟨3, ![64, 100, 1]⟩ ⟨2, ![64, 100]⟩ where
  offsetDims := []
  collapsedSliceDims := [1]
  operandBatchingDims := [0]
  startIndicesBatchingDims := [0]
  startIndexMap := [1]
  indexVectorDim := 2
  sliceSizes := ![1, 1]
  wf := wf

theorem row_at {N : ℕ} (hN : 0 < N) (wf) (x : (⟨2, ![64, N]⟩ : Shape).Idx → α) (idx : IVec ⟨3, ![64, 100, 1]⟩ 32) (b : Fin 64) (j : Fin 100) :
    Host.gather (rowDims N wf) x idx (ix2 b j) = x (ix2 b ⟨min (idx (ix3 b j 0)).toInt.toNat (N - 1), by omega⟩) := by
  unfold Host.gather
  congr 1
  funext a
  refine Fin.ext ?_
  show (rowDims N wf).start (ix2 b j) idx a + (rowDims N wf).batchCoord (ix2 b j) a + (rowDims N wf).offCoord (ix2 b j) a = _
  have h01 : a = 0 ∨ a = 1 := by
    match a with
    | ⟨0, _⟩ => exact .inl rfl
    | ⟨1, _⟩ => exact .inr rfl
  rcases h01 with rfl | rfl
  · have hm : (0 : Fin 2) ∈ (rowDims N wf).operandBatchingDims := List.mem_singleton.mpr rfl
    rw [GatherDims.start_batching _ _ _ _ hm, GatherDims.offCoord_eq_zero _ _ _ (fun h => ((GatherDims.mem_sKept _ _).mp h).2 hm)]
    unfold GatherDims.batchCoord
    rw [dif_pos hm, Nat.zero_add, Nat.add_zero]
    rfl
  · rw [GatherDims.batchCoord_eq_zero _ _ _ (fun h => by simp [rowDims] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowDims N wf).startIndexMap from List.mem_singleton.mpr rfl)]
    have hsi : (rowDims N wf).siIdx (ix2 b j) ⟨List.idxOf (1 : Fin 2) (rowDims N wf).startIndexMap, List.idxOf_lt_length_iff.2 (List.mem_singleton.mpr rfl)⟩ = ix3 b j 0 := by
      funext c
      refine Fin.ext ?_
      match c with
      | ⟨0, _⟩ => rfl
      | ⟨1, _⟩ => rfl
      | ⟨2, _⟩ => rfl
    rw [hsi]
    rfl

/-- One character of a prefix: row `b`, beam `j`, at the place its index word names. -/
def charDims (wf : GatherDims.WF ⟨3, ![64, 100, 64]⟩ ⟨4, ![64, 100, 1, 1]⟩ ⟨3, ![64, 100, 1]⟩ [] [2] [0, 1] [2] [0, 1] 3 ![1, 1, 1]) :
    GatherDims ⟨3, ![64, 100, 64]⟩ ⟨4, ![64, 100, 1, 1]⟩ ⟨3, ![64, 100, 1]⟩ where
  offsetDims := []
  collapsedSliceDims := [2]
  operandBatchingDims := [0, 1]
  startIndicesBatchingDims := [0, 1]
  startIndexMap := [2]
  indexVectorDim := 3
  sliceSizes := ![1, 1, 1]
  wf := wf

theorem char_at (wf) (x : (⟨3, ![64, 100, 64]⟩ : Shape).Idx → α) (idx : IVec ⟨4, ![64, 100, 1, 1]⟩ 32) (b : Fin 64) (j : Fin 100) :
    Host.gather (charDims wf) x idx (ix3 b j 0) = x (ix3 b j ⟨min (idx (ix4 b j 0 0)).toInt.toNat 63, by omega⟩) := by
  unfold Host.gather
  congr 1
  funext a
  refine Fin.ext ?_
  show (charDims wf).start (ix3 b j 0) idx a + (charDims wf).batchCoord (ix3 b j 0) a + (charDims wf).offCoord (ix3 b j 0) a = _
  have h01 : a = 0 ∨ a = 1 ∨ a = 2 := by
    match a with
    | ⟨0, _⟩ => exact .inl rfl
    | ⟨1, _⟩ => exact .inr (.inl rfl)
    | ⟨2, _⟩ => exact .inr (.inr rfl)
  rcases h01 with rfl | rfl | rfl
  · have hm : (0 : Fin 3) ∈ (charDims wf).operandBatchingDims := List.mem_cons_self
    rw [GatherDims.start_batching _ _ _ _ hm, GatherDims.offCoord_eq_zero _ _ _ (fun h => ((GatherDims.mem_sKept _ _).mp h).2 hm)]
    unfold GatherDims.batchCoord
    rw [dif_pos hm, Nat.zero_add, Nat.add_zero]
    rfl
  · have hm : (1 : Fin 3) ∈ (charDims wf).operandBatchingDims := List.mem_cons_of_mem _ (List.mem_singleton.mpr rfl)
    rw [GatherDims.start_batching _ _ _ _ hm, GatherDims.offCoord_eq_zero _ _ _ (fun h => ((GatherDims.mem_sKept _ _).mp h).2 hm)]
    unfold GatherDims.batchCoord
    rw [dif_pos hm, Nat.zero_add, Nat.add_zero]
    rfl
  · rw [GatherDims.batchCoord_eq_zero _ _ _ (fun h => by simp [charDims] at h),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (charDims wf).startIndexMap from List.mem_singleton.mpr rfl)]
    have hsi : (charDims wf).siIdx (ix3 b j 0) ⟨List.idxOf (2 : Fin 3) (charDims wf).startIndexMap, List.idxOf_lt_length_iff.2 (List.mem_singleton.mpr rfl)⟩ = ix4 b j 0 0 := by
      funext c
      refine Fin.ext ?_
      match c with
      | ⟨0, _⟩ => rfl
      | ⟨1, _⟩ => rfl
      | ⟨2, _⟩ => rfl
      | ⟨3, _⟩ => rfl
    rw [hsi]
    rfl

/-- A whole prefix: row `b`, at the beam its index word names. -/
def preDims (wf : GatherDims.WF ⟨3, ![64, 100, 64]⟩ ⟨3, ![64, 100, 1]⟩ ⟨3, ![64, 100, 64]⟩ [2] [1] [0] [1] [0] 2 ![1, 1, 64]) :
    GatherDims ⟨3, ![64, 100, 64]⟩ ⟨3, ![64, 100, 1]⟩ ⟨3, ![64, 100, 64]⟩ where
  offsetDims := [2]
  collapsedSliceDims := [1]
  operandBatchingDims := [0]
  startIndicesBatchingDims := [0]
  startIndexMap := [1]
  indexVectorDim := 2
  sliceSizes := ![1, 1, 64]
  wf := wf

theorem pre_at (wf) (x : (⟨3, ![64, 100, 64]⟩ : Shape).Idx → α) (idx : IVec ⟨3, ![64, 100, 1]⟩ 32) (b : Fin 64) (j : Fin 100) (i : Fin 64) :
    Host.gather (preDims wf) x idx (ix3 b j i) = x (ix3 b ⟨min (idx (ix3 b j 0)).toInt.toNat 99, by omega⟩ i) := by
  unfold Host.gather
  congr 1
  funext a
  refine Fin.ext ?_
  show (preDims wf).start (ix3 b j i) idx a + (preDims wf).batchCoord (ix3 b j i) a + (preDims wf).offCoord (ix3 b j i) a = _
  have h01 : a = 0 ∨ a = 1 ∨ a = 2 := by
    match a with
    | ⟨0, _⟩ => exact .inl rfl
    | ⟨1, _⟩ => exact .inr (.inl rfl)
    | ⟨2, _⟩ => exact .inr (.inr rfl)
  rcases h01 with rfl | rfl | rfl
  · have hm : (0 : Fin 3) ∈ (preDims wf).operandBatchingDims := List.mem_singleton.mpr rfl
    rw [GatherDims.start_batching _ _ _ _ hm, GatherDims.offCoord_eq_zero _ _ _ (fun h => ((GatherDims.mem_sKept _ _).mp h).2 hm)]
    unfold GatherDims.batchCoord
    rw [dif_pos hm, Nat.zero_add, Nat.add_zero]
    rfl
  · rw [GatherDims.batchCoord_eq_zero _ _ _ (fun h => by simp [preDims] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (preDims wf).startIndexMap from List.mem_singleton.mpr rfl)]
    have hsi : (preDims wf).siIdx (ix3 b j i) ⟨List.idxOf (1 : Fin 3) (preDims wf).startIndexMap, List.idxOf_lt_length_iff.2 (List.mem_singleton.mpr rfl)⟩ = ix3 b j 0 := by
      funext c
      refine Fin.ext ?_
      match c with
      | ⟨0, _⟩ => rfl
      | ⟨1, _⟩ => rfl
      | ⟨2, _⟩ => rfl
    rw [hsi]
    rfl
  · rw [GatherDims.batchCoord_eq_zero _ _ _ (fun h => by simp [preDims] at h), Nat.add_zero]
    unfold GatherDims.start
    rw [dif_neg (show ¬ (2 : Fin 3) ∈ (preDims wf).startIndexMap from fun h => by simp [preDims] at h), Nat.zero_add]
    unfold GatherDims.offCoord
    rw [dif_pos ((GatherDims.mem_sKept _ _).mpr ⟨fun h => by simp [preDims] at h, fun h => by simp [preDims] at h⟩)]
    rfl

end Cert.Proof.Gathers

end
-- ==== Proof.Sorted.lean ====
module

public import proofs.«01_k».proof.Proof.Greedy
public import Idealize.ShloMosaic.Lib.SortFacts

@[expose] public section

noncomputable section

namespace Cert.Proof.Beam

open Idealize.ShloMosaic

/-! # The stable sort takes the best candidates in order -/

/-- Position `a` comes before position `b`: a greater value, or the same value further left. -/
def Lx {n : ℕ} (v : Fin n → EReal) (a b : Fin n) : Prop := v b < v a ∨ (v b = v a ∧ a ≤ b)

theorem mem_insertBefore {ι : Type} (before : ι → ι → Bool) (a x : ι) (l : List ι) : x ∈ insertBefore before a l ↔ x = a ∨ x ∈ l := by
  rw [(perm_insertBefore before a l).mem_iff, List.mem_cons]

theorem insert_ordered {n : ℕ} (v : Fin n → EReal) {before : Fin n → Fin n → Bool} (hb : ∀ a b, before a b = true ↔ v b < v a) (a : Fin n) :
    ∀ l : List (Fin n), (∀ x ∈ l, a < x) → l.Pairwise (Lx v) → (insertBefore before a l).Pairwise (Lx v) := by
  intro l
  induction l with
  | nil => intro _ _; exact List.pairwise_singleton _ _
  | cons b l ih =>
    intro ha hl
    obtain ⟨h1, h2⟩ := List.pairwise_cons.mp hl
    unfold insertBefore
    by_cases h : before b a = true
    · rw [if_pos h]
      refine List.pairwise_cons.mpr ⟨fun x hx => ?_, ih (fun x hx => ha x (List.mem_cons_of_mem _ hx)) h2⟩
      rcases (mem_insertBefore before a x l).mp hx with rfl | hx
      · exact .inl ((hb _ _).mp h)
      · exact h1 x hx
    · rw [if_neg h]
      have hle : v b ≤ v a := not_lt.mp fun h' => h ((hb _ _).mpr h')
      refine List.pairwise_cons.mpr ⟨fun x hx => ?_, hl⟩
      have hxa : v x ≤ v a := by
        rcases List.mem_cons.mp hx with rfl | hx
        · exact hle
        · rcases h1 x hx with h | h
          · exact h.le.trans hle
          · exact h.1.le.trans hle
      rcases hxa.lt_or_eq with h | h
      · exact .inl h
      · exact .inr ⟨h, (ha x hx).le⟩

theorem sort_ordered {n : ℕ} (v : Fin n → EReal) {before : Fin n → Fin n → Bool} (hb : ∀ a b, before a b = true ↔ v b < v a) :
    ∀ l : List (Fin n), l.Pairwise (· < ·) → (stableSort before l).Pairwise (Lx v) := by
  intro l
  induction l with
  | nil => intro _; exact List.Pairwise.nil
  | cons a l ih =>
    intro hl
    obtain ⟨h1, h2⟩ := List.pairwise_cons.mp hl
    unfold stableSort
    exact insert_ordered v hb a _ (fun x hx => h1 x ((perm_stableSort before l).mem_iff.mp hx)) (ih h2)

theorem sortedFrom_ordered {n : ℕ} (v : Fin n → EReal) {before : Fin n → Fin n → Bool} (hb : ∀ a b, before a b = true ↔ v b < v a) {i j : Fin n} (hij : i < j) :
    Lx v (sortedFrom before i) (sortedFrom before j) := by
  have hp : ∀ a b : Fin (sortPositions n before).length, a < b → Lx v ((sortPositions n before).get a) ((sortPositions n before).get b) :=
    List.pairwise_iff_get.mp (sort_ordered v hb (List.finRange n) (List.pairwise_lt_finRange n))
  unfold sortedFrom
  exact hp _ _ (by simp only [Fin.lt_def, Fin.val_cast]; exact hij)

/-- The first hundred of the sorted candidates are the best hundred, taken one after another. -/
theorem sorted_greedy (V : Fin 9700 → EReal) {before : Fin 9700 → Fin 9700 → Bool} (hb : ∀ a b, before a b = true ↔ V b < V a) :
    Greedy V fun j => sortedFrom before ⟨j.val, by have := j.isLt; omega⟩ := by
  intro j
  refine ⟨fun i hij e => ?_, fun n hn => ?_⟩
  · have h1 := sortedFrom_injective before e
    have h2 := Fin.mk.inj h1
    exact absurd (Fin.ext h2) hij.ne
  · obtain ⟨m, rfl⟩ := sortedFrom_surjective before n
    rcases lt_trichotomy m.val j.val with h | h | h
    · exact absurd rfl (hn ⟨m.val, by have := j.isLt; omega⟩ h)
    · have : m = ⟨j.val, by have := j.isLt; omega⟩ := Fin.ext h
      rw [this]
      exact .inr ⟨rfl, le_rfl⟩
    · exact sortedFrom_ordered V hb (i := ⟨j.val, by have := j.isLt; omega⟩) h

/-- The index words of a row's best hundred. -/
theorem topK_at (x : (⟨2, ![64, 9700]⟩ : Shape).Idx → EReal) (h : (⟨2, ![64, 9700]⟩ : Shape).Slices (fun _ => 0) ⟨2, ![64, 100]⟩) (b : Fin 64) :
    ∃ n : Fin 100 → Fin 9700, Greedy (fun c => x (ix2 b c)) n
      ∧ ∀ j, (Host.topK ⟨2, ![64, 100]⟩ 1 (FloatOps.cmpfTotal (F := Ideal) (φ := .f32) .gt) x h).2 (ix2 b j) = BitVec.ofNat 32 (n j).val := by
  refine ⟨_, sorted_greedy (fun c => x (ix2 b c)) (before := fun k k' => FloatOps.cmpfTotal (F := Ideal) (φ := .f32) .gt (x (ix2 b k)) (x (ix2 b k')) == 1#1) ?_, ?_⟩
  · intro k k'
    rw [beq_iff_eq]
    show BitVec.ofBool (decide (x (ix2 b k') < x (ix2 b k))) = 1#1 ↔ _
    by_cases hk : x (ix2 b k') < x (ix2 b k) <;> simp [hk]
  · intro j
    have hal : ∀ (h1 : 1 < (⟨2, ![64, 9700]⟩ : Shape).rank) (k u : Fin 9700), Shape.Idx.along (s := ⟨2, ![64, 9700]⟩) (ix2 b u) ⟨1, h1⟩ k = ix2 b k := by
      intro h1 k u
      funext a
      match a with
      | ⟨0, _⟩ => rfl
      | ⟨1, _⟩ => rfl
    have hidx : (fun a => ⟨0 + (ix2 b j (Fin.cast h.1.symm a)).val, Nat.lt_of_lt_of_le (Nat.add_lt_add_left (ix2 b j _).isLt _) (h.2 a)⟩ : (⟨2, ![64, 9700]⟩ : Shape).Idx)
        = ix2 b ⟨j.val, by have := j.isLt; omega⟩ := by
      funext a
      refine Fin.ext ?_
      match a with
      | ⟨0, _⟩ => exact Nat.zero_add _
      | ⟨1, _⟩ => exact Nat.zero_add _
    unfold Host.topK extractStridedSlice Host.sort2
    simp only []
    rw [hidx, dif_pos (show 1 < 2 by decide)]
    unfold iotaInDim
    simp only []
    rw [dif_pos (show 1 < 2 by decide)]
    have hf : ∀ (h1 : 1 < (⟨2, ![64, 9700]⟩ : Shape).rank) (u : Fin 9700),
        (fun k k' : Fin 9700 => FloatOps.cmpfTotal (F := Ideal) (φ := .f32) .gt (x (Shape.Idx.along (s := ⟨2, ![64, 9700]⟩) (ix2 b u) ⟨1, h1⟩ k))
          (x (Shape.Idx.along (s := ⟨2, ![64, 9700]⟩) (ix2 b u) ⟨1, h1⟩ k')) == 1#1)
        = fun k k' => FloatOps.cmpfTotal (F := Ideal) (φ := .f32) .gt (x (ix2 b k)) (x (ix2 b k')) == 1#1 := by
      intro h1 u
      funext k k'
      rw [hal h1, hal h1]
    have hj : j.val < 9700 := by have := j.isLt; omega
    have h1 : 1 < (⟨2, ![64, 9700]⟩ : Shape).rank := by decide
    refine (congrArg (fun i : (⟨2, ![64, 9700]⟩ : Shape).Idx => BitVec.ofNat 32 (i ⟨1, h1⟩).val) (hal h1 (sortedFrom _ (⟨j.val, hj⟩ : Fin 9700)) ⟨j.val, hj⟩)).trans ?_
    exact congrArg (fun f : Fin 9700 → Fin 9700 → Bool => BitVec.ofNat 32 (sortedFrom f ⟨j.val, hj⟩).val) (hf h1 ⟨j.val, hj⟩)

end Cert.Proof.Beam

end
-- ==== Proof.ReferenceIdealStep.lean ====
module

public import proofs.«01_k».proof.Proof.Gen.ReferenceIdeal.Run
public import proofs.«01_k».proof.Proof.Gathers
public import proofs.«01_k».proof.Proof.Sorted
public import proofs.«01_k».proof.Proof.Prefixes
public import proofs.«01_k».proof.Proof.Words
public import Idealize.ShloMosaic.Lib.DynamicIndex

@[expose] public section

noncomputable section

namespace Cert.Proof.ReferenceIdeal

open Cert.ReferenceIdeal Cert.ReferenceIdeal.Gen Cert.ReferenceIdeal.Value Cert.Proof.Beam Cert.Proof.Gathers
open Idealize.ShloMosaic Idealize.ShloMosaic.TcCoe

/-! # One step of the reference, one batch row of it at a time -/

/-- What the loop carries: the log posteriors, the classes' numbers, the step, and the beams' prefixes, lengths and two scores. -/
abbrev post (V : Valuation τ sig (Elt Ideal)) : FVec Ideal S64x64x96 .f32 := V (Proc.devRef .tc main_v13_0)
abbrev cls (V : Valuation τ sig (Elt Ideal)) : IVec S96 32 := V (Proc.devRef .tc main_v13_1)
abbrev step (V : Valuation τ sig (Elt Ideal)) : IVec S_ 32 := V (Proc.devRef .tc main_v13_3)
abbrev prefs (V : Valuation τ sig (Elt Ideal)) : IVec S64x100x64 32 := V (Proc.devRef .tc main_v13_4)
abbrev lens (V : Valuation τ sig (Elt Ideal)) : IVec S64x100 32 := V (Proc.devRef .tc main_v13_5)
abbrev blanks (V : Valuation τ sig (Elt Ideal)) : FVec Ideal S64x100 .f32 := V (Proc.devRef .tc main_v13_6)
abbrev others (V : Valuation τ sig (Elt Ideal)) : FVec Ideal S64x100 .f32 := V (Proc.devRef .tc main_v13_7)

/-- Row `b` of the carried buffers is the search's state after `t` steps. -/
structure At (V : Valuation τ sig (Elt Ideal)) (b : Fin 64) (lp : ℕ → Fin 96 → EReal) (n : ℕ → Fin 100 → Fin 9700) (t : ℕ) : Prop where
  hx : ∀ (u : Fin 64) c, post V (ix3 b u c) = lp u.val c
  hi : ∀ c : Fin 96, cls V (ix1 c) = BitVec.ofNat 32 c.val
  hs : step V = fun _ => BitVec.ofNat 32 t
  hp : ∀ j i, prefs V (ix3 b j i) = pre n t j i.val
  hl : ∀ j, lens V (ix2 b j) = BitVec.ofNat 32 (len n t j)
  hb : ∀ j, blanks V (ix2 b j) = (ms lp n t).pb j
  hn : ∀ j, others V (ix2 b j) = (ms lp n t).pnb j

/-- A small word is not wrapped. -/
theorem wrap_small {m : ℕ} (h : m < 2 ^ 31) (N : BitVec 32) :
    Scalar.select (IntOp.cmpi CmpIPredicate.slt (BitVec.ofNat 32 m) 0#32) (IntOp.addi (BitVec.ofNat 32 m) N) (BitVec.ofNat 32 m) = BitVec.ofNat 32 m := by
  have h1 : (BitVec.ofNat 32 m).slt 0#32 = false := (slt_small h (by omega : 0 < 2 ^ 31)).trans (by simp)
  simp [Scalar.select, IntOp.cmpi, h1]

theorem toNat_small {m : ℕ} (h : m < 2 ^ 31) : (BitVec.ofNat 32 m).toInt.toNat = m := by
  rw [toInt_small h]; rfl

/-- Small words divide as numbers. -/
theorem div_small {m : ℕ} (h : m < 2 ^ 31) : IntOp.divsi .host (BitVec.ofNat 32 m) 96#32 = BitVec.ofNat 32 (m / 96) := by
  have h1 : (BitVec.ofNat 32 m).msb = false := by
    rw [BitVec.msb_eq_decide, BitVec.toNat_ofNat, Nat.mod_eq_of_lt (by omega)]
    exact decide_eq_false (by omega)
  have h2 : (96#32).msb = false := by decide
  unfold IntOp.divsi
  rw [if_neg (by rintro (e | ⟨-, e⟩) <;> exact absurd e (by decide)), BitVec.sdiv_eq, h1, h2]
  apply BitVec.eq_of_toNat_eq
  show (BitVec.ofNat 32 m / 96#32).toNat = _
  rw [BitVec.toNat_udiv, BitVec.toNat_ofNat, BitVec.toNat_ofNat, BitVec.toNat_ofNat, Nat.mod_eq_of_lt (show m < 2 ^ 32 by omega), show 96 % 2 ^ 32 = 96 by norm_num]
  omega

theorem rem_small {m : ℕ} (h : m < 2 ^ 31) : IntOp.remsi .host (BitVec.ofNat 32 m) 96#32 = BitVec.ofNat 32 (m % 96) := by
  have h1 : (BitVec.ofNat 32 m).msb = false := by
    rw [BitVec.msb_eq_decide, BitVec.toNat_ofNat, Nat.mod_eq_of_lt (by omega)]
    exact decide_eq_false (by omega)
  have h2 : (96#32).msb = false := by decide
  unfold IntOp.remsi
  rw [if_neg (by rintro (e | ⟨-, e⟩) <;> exact absurd e (by decide)), BitVec.srem_eq, h1, h2]
  apply BitVec.eq_of_toNat_eq
  show (BitVec.ofNat 32 m % 96#32).toNat = _
  rw [BitVec.toNat_umod, BitVec.toNat_ofNat, BitVec.toNat_ofNat, BitVec.toNat_ofNat, Nat.mod_eq_of_lt (show m < 2 ^ 32 by omega), show 96 % 2 ^ 32 = 96 by norm_num]
  omega

theorem sub_small {p q : ℕ} (h : q ≤ p) : IntOp.subi (BitVec.ofNat 32 p) (BitVec.ofNat 32 q) = BitVec.ofNat 32 (p - q) := by
  obtain ⟨d, rfl⟩ := Nat.exists_eq_add_of_le h
  rw [Nat.add_sub_cancel_left, IntOp.subi, BitVec.ofNat_add, BitVec.add_comm, BitVec.add_sub_cancel]

theorem select_sgt0 {α : Type} {m : ℕ} (h : m < 2 ^ 31) (p q : α) : Scalar.select (IntOp.cmpi CmpIPredicate.sgt (BitVec.ofNat 32 m) 0#32) p q = if 0 < m then p else q := by
  have h1 : (0#32).slt (BitVec.ofNat 32 m) = decide (0 < m) := slt_small (by omega : 0 < 2 ^ 31) h
  by_cases h0 : 0 < m <;> simp [Scalar.select, IntOp.cmpi, h1, h0]

/-! ## The gathers, at a small index -/

variable {α : Type}

/-- A gather along a row of `N` entries by words that are small numbers. -/
theorem row_small {N : ℕ} (hN : N < 2 ^ 31) (wf) (x : (⟨2, ![64, N]⟩ : Shape).Idx → α) (w : IVec S64x100 32) (K : BitVec 32) (b : Fin 64) (j : Fin 100) {m : ℕ}
    (hw : w (ix2 b j) = BitVec.ofNat 32 m) (hm : m < N) :
    Host.gather (rowDims N wf) x (shapeCast S64x100x1 (select (cmpi .slt w (broadcastInDim S64x100 ![] bcast_S_S64x100 (constantI S_ 32 0#32)))
      (addi w (broadcastInDim S64x100 ![] bcast_S_S64x100 (constantI S_ 32 K))) w) shapeCasts_S64x100_S64x100x1) (ix2 b j) = x (ix2 b ⟨m, hm⟩) := by
  rw [row_at (by omega)]
  congr 2
  refine Fin.ext ?_
  show min (BitVec.toInt _).toNat (N - 1) = m
  have e : shapeCast S64x100x1 (select (cmpi .slt w (broadcastInDim S64x100 ![] bcast_S_S64x100 (constantI S_ 32 0#32)))
      (addi w (broadcastInDim S64x100 ![] bcast_S_S64x100 (constantI S_ 32 K))) w) shapeCasts_S64x100_S64x100x1 (ix3 b j 0)
      = Scalar.select (IntOp.cmpi CmpIPredicate.slt (w (ix2 b j)) 0#32) (IntOp.addi (w (ix2 b j)) K) (w (ix2 b j)) := by
    pointwise []
  rw [e, hw, wrap_small (by omega), toNat_small (by omega)]
  omega

variable {V : Valuation τ sig (Elt Ideal)} {b : Fin 64} {lp : ℕ → Fin 96 → EReal} {n : ℕ → Fin 100 → Fin 9700} {t : ℕ}

/-- A step's rows, cut out at its number. -/
theorem cut_at (x : S64x64x96.Idx → α) (st : Fin 3 → ℤ) (hf : S64x64x96.Slices (fun _ => 0) S64x1x96) (b : Fin 64) (c : Fin 96) {t : ℕ} (ht : t < 64)
    (h0 : st 0 = 0) (h1 : st 1 = t) (h2 : st 2 = 0) : Host.dynamicSlice S64x1x96 x st hf (ix3 b 0 c) = x (ix3 b ⟨t, ht⟩ c) := by
  rw [Host.dynamicSlice_apply]
  congr 1
  funext a
  refine Fin.ext ?_
  match a with
  | ⟨0, _⟩ =>
    show (min (max (st 0) 0) ((64 - 64 : ℕ) : ℤ)).toNat + b.val = b.val
    rw [h0]; omega
  | ⟨1, _⟩ =>
    show (min (max (st 1) 0) ((64 - 1 : ℕ) : ℤ)).toNat + 0 = t
    rw [h1]; omega
  | ⟨2, _⟩ =>
    show (min (max (st 2) 0) ((96 - 96 : ℕ) : ℤ)).toNat + c.val = c.val
    rw [h2]; omega

theorem v39_at (h : At V b lp n t) (ht : t < 64) (c : Fin 96) : res_main_while0b_v39 V (ix2 b c) = lp t c := by
  have hs : res_main_while0b_v28 V = fun _ => BitVec.ofNat 32 t := h.hs
  have hsc : ∀ y : FVec Ideal S64x1x96 .f32, shapeCast S64x96 y shapeCasts_S64x1x96_S64x96 (ix2 b c) = y (ix3 b 0 c) := by
    intro y; pointwise []
  unfold res_main_while0b_v39
  rw [hs]
  refine (hsc _).trans ((cut_at (post V) _ _ b c ht rfl ?_ rfl).trans (h.hx ⟨t, ht⟩ c))
  show BitVec.toInt (Scalar.select (IntOp.cmpi CmpIPredicate.slt (BitVec.ofNat 32 t) 0#32) (IntOp.addi (BitVec.ofNat 32 t) 64#32) (BitVec.ofNat 32 t)) = t
  rw [wrap_small (by omega), toInt_small (by omega)]

theorem v46_at (h : At V b lp n t) (ht : t < 64) (j : Fin 100) : res_main_while0b_v46 V (ix3 b j 0) = BitVec.ofNat 32 (len n t j - 1) := by
  have : res_main_while0b_v46 V (ix3 b j 0) = IntOp.maxsi (IntOp.subi (lens V (ix2 b j)) 1#32) 0#32 := by
    pointwise [res_main_while0b_v46]
  refine this.trans ?_
  rw [h.hl]
  have hlen := len_le n t j
  by_cases h0 : len n t j = 0
  · rw [h0]; rfl
  · rw [show (1#32) = BitVec.ofNat 32 1 from rfl, sub_small (by omega), show (0#32) = BitVec.ofNat 32 0 from rfl, maxsi_small (by omega) (by omega), Nat.max_zero]

theorem v49_at (h : At V b lp n t) (ht : t < 64) (j : Fin 100) : res_main_while0b_v49 V (ix2 b j) = (ms lp n t).last j := by
  have hlen := len_le n t j
  have hg : Host.gather gather_S64x100x64_S64x100x1x1_S64x100x1_n_2_01_01_2_3_111 (prefs V)
        (shapeCast S64x100x1x1
          (select
            (cmpi CmpIPredicate.slt (res_main_while0b_v46 V)
              (broadcastInDim S64x100x1 ![] bcast_S_S64x100x1 (constantI S_ 32 0#32)))
            (addi (res_main_while0b_v46 V) (broadcastInDim S64x100x1 ![] bcast_S_S64x100x1 (constantI S_ 32 64#32)))
            (res_main_while0b_v46 V))
          shapeCasts_S64x100x1_S64x100x1x1)
        (ix3 b j 0) = pre n t j (len n t j - 1) := by
    refine (char_at gather_S64x100x64_S64x100x1x1_S64x100x1_n_2_01_01_2_3_111_wf (prefs V) _ b j).trans ?_
    rw [h.hp]
    congr 1
    show min (BitVec.toInt _).toNat 63 = _
    have e : shapeCast S64x100x1x1
          (select
            (cmpi CmpIPredicate.slt (res_main_while0b_v46 V)
              (broadcastInDim S64x100x1 ![] bcast_S_S64x100x1 (constantI S_ 32 0#32)))
            (addi (res_main_while0b_v46 V) (broadcastInDim S64x100x1 ![] bcast_S_S64x100x1 (constantI S_ 32 64#32)))
            (res_main_while0b_v46 V))
          shapeCasts_S64x100x1_S64x100x1x1 (ix4 b j 0 0)
        = Scalar.select (IntOp.cmpi CmpIPredicate.slt (res_main_while0b_v46 V (ix3 b j 0)) 0#32) (IntOp.addi (res_main_while0b_v46 V (ix3 b j 0)) 64#32) (res_main_while0b_v46 V (ix3 b j 0)) := by
      pointwise []
    rw [e, v46_at h ht, wrap_small (by omega), toNat_small (by omega)]
    omega
  have : res_main_while0b_v49 V (ix2 b j) = Scalar.select (IntOp.cmpi CmpIPredicate.sgt (lens V (ix2 b j)) 0#32)
      (Host.gather gather_S64x100x64_S64x100x1x1_S64x100x1_n_2_01_01_2_3_111 (prefs V)
        (shapeCast S64x100x1x1
          (select
            (cmpi CmpIPredicate.slt (res_main_while0b_v46 V)
              (broadcastInDim S64x100x1 ![] bcast_S_S64x100x1 (constantI S_ 32 0#32)))
            (addi (res_main_while0b_v46 V) (broadcastInDim S64x100x1 ![] bcast_S_S64x100x1 (constantI S_ 32 64#32)))
            (res_main_while0b_v46 V))
          shapeCasts_S64x100x1_S64x100x1x1)
        (ix3 b j 0)) 4294967295#32 := by
    pointwise [res_main_while0b_v49]
    rfl
  refine this.trans ?_
  rw [hg, h.hl, select_sgt0 (by omega), ← last_eq]

theorem v59_at (h : At V b lp n t) (j : Fin 100) : res_main_while0b_v59 V (ix2 b j) = tot (ms lp n t) j := by
  unfold tot
  rw [← h.hb, ← h.hn]
  pointwise [res_main_while0b_v59, res_main_while0b_v51]
  exact if_neg fun e => e rfl

theorem v64_at (h : At V b lp n t) (ht : t < 64) (j : Fin 100) : res_main_while0b_v64 V (ix2 b j) = spb (lp t) (ms lp n t) j := by
  unfold spb
  rw [← v59_at h, ← v39_at h ht]
  pointwise [res_main_while0b_v64]

theorem maxsi_zero {w : BitVec 32} (hw : w.toNat < 95) : IntOp.maxsi w 0#32 = BitVec.ofNat 32 w.toNat := by
  obtain ⟨m, hm, rfl⟩ : ∃ m, m < 95 ∧ w = BitVec.ofNat 32 m := ⟨w.toNat, hw, by simp⟩
  rw [show (0#32) = BitVec.ofNat 32 0 from rfl, maxsi_small (by omega) (by omega), Nat.max_zero, BitVec.toNat_ofNat, Nat.mod_eq_of_lt (by omega)]

/-- A last character that is one is small. -/
theorem last_small {w : BitVec 32} (hw : Okw w) (h0 : 0 ≤ w.toInt) : w.toNat < 95 := by
  rcases hw with rfl | hw
  · exact absurd h0 (by decide)
  · exact hw

theorem v71_at (h : At V b lp n t) (ht : t < 64) (hok : ∀ l, Okw ((ms lp n t).last l)) (j : Fin 100) : res_main_while0b_v71 V (ix2 b j) = spnb (lp t) (ms lp n t) j := by
  unfold spnb
  rw [← h.hn, ← select_sge0, ← v49_at h ht, ← bot_bits]
  have hc : 0 ≤ ((ms lp n t).last j).toInt → Host.gather gather_S64x96_S64x100x1_S64x100_n_1_0_0_1_2_11 (res_main_while0b_v39 V)
          (shapeCast S64x100x1
            (select
              (cmpi CmpIPredicate.slt
                (res_main_while0b_v66 V)
                (broadcastInDim S64x100 ![] bcast_S_S64x100 (constantI S_ 32 0#32)))
              (addi (res_main_while0b_v66 V)
                (broadcastInDim S64x100 ![] bcast_S_S64x100 (constantI S_ 32 96#32)))
              (res_main_while0b_v66 V))
            shapeCasts_S64x100_S64x100x1)
          (ix2 b j) = lpAt (lp t) ((ms lp n t).last j) := by
    intro h0
    have hsm := last_small (hok j) h0
    have hw : res_main_while0b_v66 V (ix2 b j) = BitVec.ofNat 32 ((ms lp n t).last j).toNat := by
      have : res_main_while0b_v66 V (ix2 b j) = IntOp.maxsi (res_main_while0b_v49 V (ix2 b j)) 0#32 := by
        pointwise [res_main_while0b_v66]
      refine this.trans ?_
      rw [v49_at h ht, maxsi_zero hsm]
    refine (row_small (by omega) gather_S64x96_S64x100x1_S64x100_n_1_0_0_1_2_11_wf (res_main_while0b_v39 V) _ _ b j hw (by omega)).trans ?_
    rw [v39_at h ht]
    unfold lpAt
    rw [dif_pos (show _ < 96 by omega)]
  by_cases h0 : 0 ≤ ((ms lp n t).last j).toInt
  · rw [v49_at h ht, ← hc h0, ← v49_at h ht]
    pointwise [res_main_while0b_v71]
    rfl
  · have hsel : ∀ p q : EReal, Scalar.select (IntOp.cmpi CmpIPredicate.sge (res_main_while0b_v49 V (ix2 b j)) 0#32) p q = q := by
      intro p q; rw [select_sge0, v49_at h ht, if_neg h0]
    rw [hsel]
    pointwise [res_main_while0b_v71]
    exact hsel _ _

theorem v86_at (h : At V b lp n t) (ht : t < 64) (j : Fin 100) (c : Fin 96) : res_main_while0b_v86 V (ix3 b j c) = ext (lp t) (ms lp n t) j c := by
  have h95 : c.val = 95 ↔ BitVec.ofNat 32 c.val = 95#32 := by
    have := c.isLt
    exact (ofNat_inj (b := 95) (by omega) (by omega)).symm
  unfold ext
  simp only [h95]
  rw [← select_eq, ← select_eq, ← h.hb, ← v59_at h, ← v39_at h ht, ← v49_at h ht, ← h.hi, ← bot_bits]
  pointwise [res_main_while0b_v86]
  rfl

/-- The candidates' scores, as one row. -/
theorem v98_at (h : At V b lp n t) (ht : t < 64) (hok : ∀ l, Okw ((ms lp n t).last l)) (c : Fin 9700) :
    res_main_while0b_v98 V (ix2 b c) = Beam.val (cn lp n t) c := by
  have hst : ∀ j, lae (res_main_while0b_v64 V (ix2 b j)) (res_main_while0b_v71 V (ix2 b j)) = stot (lp t) (ms lp n t) j := by
    intro j; rw [v64_at h ht, v71_at h ht hok]; rfl
  unfold Beam.val cn cnd
  by_cases hc : c.val < 100
  · have hl : (ln c).val = 0 := by rw [ln_val, if_pos hc]
    rw [if_pos hl, ← hst]
    have hb : bm c = ⟨c.val, hc⟩ := Fin.ext (by rw [bm_val, if_pos hc])
    rw [hb]
    pointwise [res_main_while0b_v98, res_main_while0b_v88]
    refine (dif_pos hc).trans ?_
    exact if_neg fun e => e rfl
  · have hl : (ln c).val = (c.val - 100) % 96 + 1 := by rw [ln_val, if_neg hc]
    rw [if_neg (by omega), dif_pos (by omega), ← v86_at h ht]
    pointwise [res_main_while0b_v98, res_main_while0b_v88]
    refine (dif_neg hc).trans ?_
    congr 2
    · exact Fin.ext (by rw [bm_val, if_neg hc])
    · exact Fin.ext (by simp only [hl]; omega)

/-! ## What a step picks, and what it keeps of it -/

section Picks

variable (hI : ∀ j, res_main_while0b_indices V (ix2 b j) = BitVec.ofNat 32 (n t j).val)

include hI

theorem v100_sel (j : Fin 100) (p q : α) : Scalar.select (res_main_while0b_v100 V (ix2 b j)) p q = if (ln (n t j)).val = 0 then p else q := by
  have hn := (n t j).isLt
  have e : res_main_while0b_v100 V (ix2 b j) = IntOp.cmpi CmpIPredicate.slt (res_main_while0b_indices V (ix2 b j)) 100#32 := by
    pointwise [res_main_while0b_v100]
  have h1 : (BitVec.ofNat 32 (n t j).val).slt 100#32 = decide ((n t j).val < 100) := slt_small (by omega) (by omega : 100 < 2 ^ 31)
  rw [e, hI, ln_val]
  by_cases hc : (n t j).val < 100 <;> simp [Scalar.select, IntOp.cmpi, h1, hc]

theorem v105_at (j : Fin 100) : res_main_while0b_v105 V (ix2 b j) = BitVec.ofNat 32 (bm (n t j)).val := by
  have hn := (n t j).isLt
  have e : res_main_while0b_v105 V (ix2 b j) = Scalar.select (res_main_while0b_v100 V (ix2 b j)) (res_main_while0b_indices V (ix2 b j))
      (IntOp.divsi .host (IntOp.subi (res_main_while0b_indices V (ix2 b j)) 100#32) 96#32) := by
    pointwise [res_main_while0b_v105]
  refine e.trans ?_
  rw [v100_sel hI, hI, bm_val, ln_val]
  by_cases hc : (n t j).val < 100
  · rw [if_pos hc, if_pos rfl, if_pos hc]
  · rw [if_neg hc, if_neg (Nat.succ_ne_zero _), if_neg hc, show (100#32) = BitVec.ofNat 32 100 from rfl, sub_small (by omega), div_small (by omega)]

theorem rem_at (j : Fin 100) (h0 : (ln (n t j)).val ≠ 0) :
    IntOp.remsi .host (IntOp.subi (res_main_while0b_indices V (ix2 b j)) 100#32) 96#32 = BitVec.ofNat 32 ((ln (n t j)).val - 1) := by
  have hn := (n t j).isLt
  rw [ln_val] at h0 ⊢
  by_cases hc : (n t j).val < 100
  · rw [if_pos hc] at h0; exact absurd rfl h0
  · rw [hI, if_neg hc, show (100#32) = BitVec.ofNat 32 100 from rfl, sub_small (by omega), rem_small (by omega), Nat.add_sub_cancel]

theorem v134_at (j : Fin 100) (h0 : (ln (n t j)).val ≠ 0) : res_main_while0b_v134 V (ix2 b j) = BitVec.ofNat 32 ((n t j).val - 100) := by
  have hn := (n t j).isLt
  have e : res_main_while0b_v134 V (ix2 b j) = Scalar.select (res_main_while0b_v100 V (ix2 b j)) 0#32
      (IntOp.subi (res_main_while0b_indices V (ix2 b j)) 100#32) := by
    pointwise [res_main_while0b_v134]
    rfl
  refine e.trans ?_
  rw [v100_sel hI, if_neg h0, hI]
  rw [ln_val] at h0
  by_cases hc : (n t j).val < 100
  · rw [if_pos hc] at h0; exact absurd rfl h0
  · rw [show (100#32) = BitVec.ofNat 32 100 from rfl, sub_small (by omega)]

theorem v113_at (h : At V b lp n t) (j : Fin 100) : res_main_while0b_v113 V (ix2 b j) = BitVec.ofNat 32 (len n t (bm (n t j))) := by
  unfold res_main_while0b_v113
  refine (row_small (by omega) gather_S64x100_S64x100x1_S64x100_n_1_0_0_1_2_11_wf (lens V) _ _ b j (v105_at hI j) (bm (n t j)).isLt).trans ?_
  exact h.hl _

theorem len_step (h : At V b lp n t) (ht : t < 64) (j : Fin 100) : step_main_v13_5 V (ix2 b j) = BitVec.ofNat 32 (len n (t + 1) j) := by
  have e : step_main_v13_5 V (ix2 b j) = Scalar.select (res_main_while0b_v100 V (ix2 b j)) (res_main_while0b_v113 V (ix2 b j)) (IntOp.addi (res_main_while0b_v113 V (ix2 b j)) 1#32) := by
    pointwise [step_main_v13_5, id]
  refine e.trans ?_
  rw [v100_sel hI, v113_at hI h, len]
  split
  · rfl
  · rw [IntOp.addi, BitVec.ofNat_add]

theorem blank_step (h : At V b lp n t) (ht : t < 64) (j : Fin 100) : step_main_v13_6 V (ix2 b j) = (next (lp t) (ms lp n t) (n t)).pb j := by
  have e : step_main_v13_6 V (ix2 b j) = Scalar.select (res_main_while0b_v100 V (ix2 b j)) (spb (lp t) (ms lp n t) (bm (n t j))) (Ideal.ofBits FTy.f32 4286578688#32) := by
    rw [← v64_at h ht, ← row_small (by omega) gather_S64x100_S64x100x1_S64x100_n_1_0_0_1_2_11_wf (res_main_while0b_v64 V) _ 100#32 b j (v105_at hI j) (bm (n t j)).isLt]
    pointwise [step_main_v13_6, id]
    rfl
  refine e.trans ?_
  rw [v100_sel hI, bot_bits]
  rfl

theorem other_step (h : At V b lp n t) (ht : t < 64) (hok : ∀ l, Okw ((ms lp n t).last l)) (j : Fin 100) :
    step_main_v13_7 V (ix2 b j) = (next (lp t) (ms lp n t) (n t)).pnb j := by
  have hn := (n t j).isLt
  let g : EReal := Host.gather gather_S64x9600_S64x100x1_S64x100_n_1_0_0_1_2_11 (shapeCast S64x9600 (res_main_while0b_v86 V) shapeCasts_S64x100x96_S64x9600)
    (shapeCast S64x100x1 (select (cmpi .slt (res_main_while0b_v134 V) (broadcastInDim S64x100 ![] bcast_S_S64x100 (constantI S_ 32 0#32)))
      (addi (res_main_while0b_v134 V) (broadcastInDim S64x100 ![] bcast_S_S64x100 (constantI S_ 32 9600#32))) (res_main_while0b_v134 V)) shapeCasts_S64x100_S64x100x1) (ix2 b j)
  have hg : (ln (n t j)).val ≠ 0 → g = Beam.val (cn lp n t) (n t j) := by
    intro h0
    have hc : ¬ (n t j).val < 100 := fun hc => h0 (by rw [ln_val, if_pos hc])
    have hl : (ln (n t j)).val = ((n t j).val - 100) % 96 + 1 := by rw [ln_val, if_neg hc]
    refine (row_small (by omega) gather_S64x9600_S64x100x1_S64x100_n_1_0_0_1_2_11_wf _ _ _ b j (v134_at hI j h0) (by omega)).trans ?_
    unfold Beam.val cn cnd
    rw [if_neg h0, dif_pos (by omega), ← v86_at h ht]
    pointwise []
    congr 2
    · exact Fin.ext (by rw [bm_val, if_neg hc])
    · exact Fin.ext (by simp only [hl]; omega)
  have e : step_main_v13_7 V (ix2 b j) = Scalar.select (res_main_while0b_v100 V (ix2 b j)) (spnb (lp t) (ms lp n t) (bm (n t j))) g := by
    rw [← v71_at h ht hok, ← row_small (by omega) gather_S64x100_S64x100x1_S64x100_n_1_0_0_1_2_11_wf (res_main_while0b_v71 V) _ 100#32 b j (v105_at hI j) (bm (n t j)).isLt]
    pointwise [step_main_v13_7, id]
    rfl
  refine e.trans ?_
  rw [v100_sel hI]
  show _ = if _ then _ else _
  by_cases h0 : (ln (n t j)).val = 0
  · rw [if_pos h0, if_pos h0]
  · rw [if_neg h0, if_neg h0, hg h0]
    rfl

theorem pre_step (h : At V b lp n t) (ht : t < 64) (j : Fin 100) (i : Fin 64) : step_main_v13_4 V (ix3 b j i) = pre n (t + 1) j i.val := by
  have hlen := len_le n t (bm (n t j))
  have hg : Host.gather gather_S64x100x64_S64x100x1_S64x100x64_2_1_0_0_1_2_1164 (prefs V) (select (cmpi .slt (res_main_while0b_v111 V) (broadcastInDim S64x100x1 ![] bcast_S_S64x100x1 (constantI S_ 32 0#32)))
      (addi (res_main_while0b_v111 V) (broadcastInDim S64x100x1 ![] bcast_S_S64x100x1 (constantI S_ 32 100#32))) (res_main_while0b_v111 V)) (ix3 b j i) = pre n t (bm (n t j)) i.val := by
    refine (pre_at gather_S64x100x64_S64x100x1_S64x100x64_2_1_0_0_1_2_1164_wf (prefs V) _ b j i).trans ?_
    rw [h.hp]
    refine congrArg (fun q : Fin 100 => pre n t q i.val) (Fin.ext ?_)
    show min (BitVec.toInt _).toNat 99 = _
    have e : select (cmpi .slt (res_main_while0b_v111 V) (broadcastInDim S64x100x1 ![] bcast_S_S64x100x1 (constantI S_ 32 0#32)))
      (addi (res_main_while0b_v111 V) (broadcastInDim S64x100x1 ![] bcast_S_S64x100x1 (constantI S_ 32 100#32))) (res_main_while0b_v111 V) (ix3 b j 0)
        = Scalar.select (IntOp.cmpi CmpIPredicate.slt (res_main_while0b_v105 V (ix2 b j)) 0#32) (IntOp.addi (res_main_while0b_v105 V (ix2 b j)) 100#32) (res_main_while0b_v105 V (ix2 b j)) := by
      pointwise [res_main_while0b_v111]
    have hb := (bm (n t j)).isLt
    rw [e, v105_at hI, wrap_small (by omega), toNat_small (by omega)]
    omega
  have e : step_main_v13_4 V (ix3 b j i) = Scalar.select (IntOp.andi (~~~ (res_main_while0b_v100 V (ix2 b j))) (IntOp.cmpi CmpIPredicate.eq (BitVec.ofNat 32 i.val) (res_main_while0b_v113 V (ix2 b j))))
      (Scalar.select (res_main_while0b_v100 V (ix2 b j)) 4294967295#32 (IntOp.remsi .host (IntOp.subi (res_main_while0b_indices V (ix2 b j)) 100#32) 96#32)) (pre n t (bm (n t j)) i.val) := by
    rw [← hg]
    pointwise [step_main_v13_4, id]
  refine e.trans ?_
  have hsel : ∀ (u : BitVec 1) (v : BitVec 1) (p q : BitVec 32), Scalar.select (IntOp.andi (~~~ u) v) p q = Scalar.select u q (Scalar.select v p q) := by
    intro u v p q
    have key : ∀ u : BitVec 1, u = 0#1 ∨ u = 1#1 := by decide
    rcases key u with rfl | rfl <;> rcases key v with rfl | rfl <;> rfl
  rw [hsel, v100_sel hI, v100_sel hI, select_eq, v113_at hI h, pre]
  by_cases h0 : (ln (n t j)).val = 0
  · rw [if_pos h0, if_neg fun e => e.1 h0]
  · have hi := i.isLt
    rw [if_neg h0, if_neg h0, rem_at hI j h0]
    by_cases h1 : i.val = len n t (bm (n t j))
    · rw [if_pos (by rw [h1]), if_pos ⟨h0, h1⟩]
    · rw [if_neg fun e => h1 ((ofNat_inj (by omega) (by omega)).mp e), if_neg fun e => h1 e.2]

/-- One step keeps the row the search's state. -/
theorem at_step (h : At V b lp n t) (ht : t < 64) (hok : ∀ l, Okw ((ms lp n t).last l)) : At (STEP V) b lp n (t + 1) where
  hx := fun u c => (congrFun (STEP_main_v13_0 V) _).trans (h.hx u c)
  hi := fun c => (congrFun (STEP_main_v13_1 V) _).trans (h.hi c)
  hs := by
    refine (STEP_main_v13_3 V).trans ?_
    show addi (step V) (constantI S_ 32 1#32) = _
    rw [h.hs]
    funext i
    show IntOp.addi (BitVec.ofNat 32 t) 1#32 = _
    rw [IntOp.addi, BitVec.ofNat_add]
  hp := fun j i => (congrFun (STEP_main_v13_4 V) _).trans (pre_step hI h ht j i)
  hl := fun j => (congrFun (STEP_main_v13_5 V) _).trans (len_step hI h ht j)
  hb := fun j => (congrFun (STEP_main_v13_6 V) _).trans (blank_step hI h ht j)
  hn := fun j => (congrFun (STEP_main_v13_7 V) _).trans (other_step hI h ht hok j)

end Picks

/-- The whole search of a row: some picks, greedy at every step, are the reference's. -/
theorem search (E : Valuation τ sig (Elt Ideal)) (b : Fin 64) (lp : ℕ → Fin 96 → EReal) (hlp : ∀ t c, lp t c ≠ ⊥) (h0 : ∀ n, At E b lp n 0) :
    ∃ n : ℕ → Fin 100 → Fin 9700, (∀ u, u < 64 → Greedy (Beam.val (cn lp n u)) (n u)) ∧ At (STEP^[64] E) b lp n 64 := by
  have hpick : ∀ t : ℕ, ∃ m : Fin 100 → Fin 9700, Greedy (fun c => res_main_while0b_v98 (STEP^[t] E) (ix2 b c)) m
      ∧ ∀ j, res_main_while0b_indices (STEP^[t] E) (ix2 b j) = BitVec.ofNat 32 (m j).val := fun t =>
    topK_at (res_main_while0b_v98 (STEP^[t] E)) sliceFits_S64x9700_S64x100 b
  choose n hn hI using hpick
  have key : ∀ t, t ≤ 64 → (∀ u, u < t → Greedy (Beam.val (cn lp n u)) (n u)) ∧ At (STEP^[t] E) b lp n t := by
    intro t
    induction t with
    | zero => exact fun _ => ⟨fun u hu => absurd hu (Nat.not_lt_zero u), h0 n⟩
    | succ t ih =>
      intro ht
      obtain ⟨hg, ha⟩ := ih (by omega)
      have hok := last_okw hlp t hg
      have hgt : Greedy (Beam.val (cn lp n t)) (n t) := by
        have := hn t
        rwa [show (fun c => res_main_while0b_v98 (STEP^[t] E) (ix2 b c)) = Beam.val (cn lp n t) from funext fun c => v98_at ha (by omega) hok c] at this
      refine ⟨fun u hu => ?_, ?_⟩
      · by_cases hu' : u = t
        · rw [hu']; exact hgt
        · exact hg u (by omega)
      · rw [Function.iterate_succ_apply']
        exact at_step (hI t) ha (by omega) hok
  exact ⟨n, (key 64 le_rfl).1, (key 64 le_rfl).2⟩

end Cert.Proof.ReferenceIdeal

end
-- ==== Proof.Value.lean ====
/- The two results, exact arithmetic on both sides: on non-negative posteriors the kernel's prefix and score of every
   batch row are the reference's. -/
module

public import proofs.«01_k».proof.Defs
public import proofs.«01_k».proof.Proof.KernelIdealRun
public import proofs.«01_k».proof.Proof.KernelIdealWalk
public import proofs.«01_k».proof.Proof.ReferenceIdealStep
public import Idealize.ShloMosaic.Lib.ReduceAll
public import Idealize.ShloMosaic.Lib.Pipeline.ValueKit.Geometry

@[expose] public section

set_option maxRecDepth 16384

noncomputable section

namespace Cert.Proof

open Cert.Proof.Beam
open Idealize.ShloMosaic Idealize.ShloMosaic.TcCoe Idealize.ShloMosaic.Tactic Idealize.ShloMosaic.StableHlo Idealize.SL.Sem

/-- The log posterior both programs search over. -/
def logPost (x : FVec Ideal ⟨3, ![64, 64, 96]⟩ .f32) (b u : Fin 64) (k : Fin 96) : EReal :=
  Ideal.log (x (ix3 b u k) + Ideal.ofBits FTy.f32 869711765#32)

/-- It is never `-∞` where the posterior is not negative. -/
theorem logPost_ne_bot (x : FVec Ideal ⟨3, ![64, 64, 96]⟩ .f32) (b u : Fin 64) (k : Fin 96) (h : (0 : EReal) ≤ x (ix3 b u k)) : logPost x b u k ≠ ⊥ :=
  log_ne_bot (lt_of_lt_of_le eps_pos (le_add_of_nonneg_left (α := EReal) h))

/-! ## The kernel's arrays -/

section KernelSide

open Cert.KernelIdeal Cert.KernelIdeal.Gen Cert.Proof.KernelIdeal

variable (m : (ℓ : Loc nD τ sig) → Buf (Elt Ideal) ℓ)

/-- The input's one block starts at the array's origin, -/
theorem index_zero : ∀ t : Fin cfg0.N, win0_0.index t (0 : Fin 3) = 0 ∧ win0_0.index t (1 : Fin 3) = 0 ∧ win0_0.index t (2 : Fin 3) = 0 :=
  (by decide +kernel : ∀ t : Fin grid0.N, _)

/-- so it is the whole array. -/
theorem emb_zero (t : Fin cfg0.N) (j : S64x64x96.Idx) : ((cfg0.win 0).blk t).view.emb j = j := by
  obtain ⟨e0, e1, e2⟩ := index_zero t
  funext a
  apply Fin.ext
  match a with
  | ⟨0, _⟩ => show win0_0.index t (0 : Fin 3) * 64 + 1 * (j 0).val = (j 0).val; omega
  | ⟨1, _⟩ => show win0_0.index t (1 : Fin 3) * 64 + 1 * (j 1).val = (j 1).val; omega
  | ⟨2, _⟩ => show win0_0.index t (2 : Fin 3) * 96 + 1 * (j 2).val = (j 2).val; omega

/-- What the kernel is given: the posteriors, step before batch. -/
theorem block_eq (c : Dev nD) : blockIn m c = transpose S64x64x96 [1, 0, 2] (m ((c : Thread nD τ).loc main_arg0)) transposes_S64x64x96_S64x64x96_1_0_2 := by
  have hV : (V m c main_call0_v0 : FVec Ideal S64x64x96 .f32) = transpose S64x64x96 [1, 0, 2] (m ((c : Thread nD τ).loc main_arg0)) transposes_S64x64x96_S64x64x96_1_0_2 := by
    show StableHlo.after hostOps0 _ _ = _
    after_reads_simp
    rfl
  rw [← hV]
  funext j
  show V m c main_call0_v0 (((cfg0.win 0).blk t0_0).view.emb j) = V m c main_call0_v0 j
  rw [emb_zero]

theorem prefix_array (c : Dev nD) : (dats m 0 c).arrAt 1 cfg0.N = outPrefix (blockIn m c) := by
  refine (dats m 0 c).arrAt_eq_of_after_last 1 t0_0 (by decide +kernel) _ fun j => ?_
  rfl

theorem score_array (c : Dev nD) : (dats m 0 c).arrAt 2 cfg0.N = outScore (blockIn m c) := by
  refine (dats m 0 c).arrAt_eq_of_after_last 2 t0_0 (by decide +kernel) _ fun j => ?_
  rfl

/-- The kernel's log posterior of a row, from the argument. -/
theorem lpB_eq (c : Dev nD) (b : Fin 64) (t : ℕ) (k : Fin 96) : lpB b (blockIn m c) t k
    = logPost (m ((c : Thread nD τ).loc main_arg0)) b ⟨min t 63, by omega⟩ k := by
  unfold lpB logPost
  rw [block_eq]
  pointwise []

/-- The run, its two results named. -/
theorem run_kernel (ρ : Dev nD → PrngReg) : θ_run (defs (F := Ideal)) (onTc (τ := τ) (main (F := Ideal))) ⟨m, fun _ => 0, ρ⟩ fun r => ∀ c : Dev nD,
    r.2.mem ((c : Thread nD τ).loc main_v0_0) = outPrefix (blockIn m c) ∧ r.2.mem ((c : Thread nD τ).loc main_v0_1) = outScore (blockIn m c)
      ∧ r.2.mem ((c : Thread nD τ).loc main_arg0) = m ((c : Thread nD τ).loc main_arg0) :=
  (θ_run _ _ _).mono (fun _ h c => ⟨((h.1 c).1 1).trans (prefix_array m c), ((h.1 c).1 2).trans (score_array m c), (h.1 c).2⟩) (run_main m ρ)

end KernelSide

/-! ## The reference's loop entry -/

section ReferenceSide

open Cert.ReferenceIdeal Cert.ReferenceIdeal.Gen Cert.ReferenceIdeal.Value Cert.Proof.ReferenceIdeal

variable (m : (ℓ : Loc nD τ sig) → Buf (Elt Ideal) ℓ)

theorem entry_post (c : Dev nD) : Cert.Proof.ReferenceIdeal.post (entryContents preI m c) = Host.log (addf (m ((c : Thread nD τ).loc main_arg0) : FVec Ideal S64x64x96 .f32) (broadcastInDim S64x64x96 ![] bcast_S_S64x64x96 (constant S_ .f32 0x33D6BF95#32))) := by
  unfold Cert.Proof.ReferenceIdeal.post
  simp only [entryContents, afterL_cons, afterL_nil]
  after_reads_simp
  rfl

theorem entry_cls (c : Dev nD) : cls (entryContents preI m c) = iotaInDim S96 32 0 := by
  unfold cls
  simp only [entryContents, afterL_cons, afterL_nil]
  after_reads_simp
  rfl

theorem entry_step (c : Dev nD) : step (entryContents preI m c) = fun _ => 0#32 := by
  unfold step
  simp only [entryContents, afterL_cons, afterL_nil]
  after_reads_simp
  rfl

theorem entry_prefs (c : Dev nD) : prefs (entryContents preI m c) = fun _ => 4294967295#32 := by
  unfold prefs
  simp only [entryContents, afterL_cons, afterL_nil]
  after_reads_simp
  rfl

theorem entry_lens (c : Dev nD) : lens (entryContents preI m c) = fun _ => 0#32 := by
  unfold lens
  simp only [entryContents, afterL_cons, afterL_nil]
  after_reads_simp
  rfl

theorem entry_blanks (c : Dev nD) : blanks (entryContents preI m c)
    = select (broadcastInDim S64x100 ![0, 1] bcast_S1x100_S64x100_0_1 (cmpi .eq (broadcastInDim S1x100 ![1] bcast_S100_S1x100_1 (iotaInDim S100 32 0)) (broadcastInDim S1x100 ![] bcast_S_S1x100 (constantI S_ 32 0#32))))
      (broadcastInDim S64x100 ![] bcast_S_S64x100 (constant S_ .f32 0x00000000#32)) (broadcastInDim S64x100 ![] bcast_S_S64x100 (constant S_ .f32 0xFF800000#32)) := by
  unfold blanks
  simp only [entryContents, afterL_cons, afterL_nil]
  after_reads_simp
  rfl

theorem entry_others (c : Dev nD) : others (entryContents preI m c) = broadcastInDim S64x100 ![] bcast_S_S64x100 (constant S_ .f32 0xFF800000#32) := by
  unfold others
  simp only [entryContents, afterL_cons, afterL_nil]
  after_reads_simp
  rfl

variable (b : Fin 64) (lp : ℕ → Fin 96 → EReal)

/-- The loop starts at the search's start. -/
theorem entry_at (c : Dev nD) (hlp : ∀ (u : Fin 64) k, lp u.val k = logPost (m ((c : Thread nD τ).loc main_arg0)) b u k)
    (n : ℕ → Fin 100 → Fin 9700) : At (entryContents preI m c) b lp n 0 where
  hx u k := by
    rw [entry_post, hlp]
    unfold logPost
    pointwise []
  hi k := by
    rw [entry_cls]
    rfl
  hs := entry_step m c
  hp j i := by
    rw [entry_prefs]
    rfl
  hl j := by
    rw [entry_lens]
    rfl
  hb j := by
    rw [entry_blanks]
    pointwise []
    rw [Cert.Proof.KernelIdeal.at_lane j 0 (by norm_num), bot_bits]
    rfl
  hn j := by
    rw [entry_others]
    pointwise []
    exact bot_bits

/-- The prefix the reference gives back is the first beam's. -/
theorem out_prefix (V : Valuation τ sig (Elt Ideal)) (i : Fin 64) : (out_main_v25 V : IVec S64x64 32) (ix2 b i) = prefs V (ix3 b 0 i) := by
  unfold out_main_v25
  pointwise []

/-- The score it gives back is the first beam's total. -/
theorem out_score (V : Valuation τ sig (Elt Ideal)) : (out_main_v26 V : FVec Ideal S64x1 .f32) (ix2 b 0) = lae (blanks V (ix2 b 0)) (others V (ix2 b 0)) := by
  unfold out_main_v26
  pointwise []
  exact if_neg fun e => e rfl

end ReferenceSide

/-! ## The two together -/

/-- The relations between shapes that the precondition's operations take. -/
theorem pre_facts : Cert.Pre_nonneg.Facts where
  bcast_S_S64x64x96 := by decide
  reducesTo_S64x64x96_S_d0_1_2 := by decide
  h_S_ := by decide

/-- The precondition says every posterior is at least zero. -/
theorem nonneg_of_pre [Cert.Pre_nonneg.Facts] (x : FVec Ideal Cert.Pre_nonneg.S64x64x96 .f32) (h : Cert.Pre_nonneg.fn x = fun _ => 1#1)
    (i : Cert.Pre_nonneg.S64x64x96.Idx) : 0 ≤ x i := by
  have h1 := congrFun h (fun a => a.elim0)
  unfold Cert.Pre_nonneg.fn at h1
  have h2 := Host.reduce_andi_all _ _ _ _ _ h1 i
  by_contra hx
  have h3 : decide (Ideal.ofBits FTy.f32 0#32 ≤ x i) = false := by
    rw [zero_bits]
    exact decide_eq_false hx
  have h4 : BitVec.ofBool (decide (Ideal.ofBits FTy.f32 0#32 ≤ x i)) = 1#1 := h2
  rw [h3] at h4
  exact absurd h4 (by decide)

variable [Cert.Pre_nonneg.Facts]

/-- On non-negative posteriors the two programs give the same prefix and the same score for every batch row. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hpre : Cert.Pre_KernelIdeal_nonneg m)
    (hm : ∀ c : Dev Cert.KernelIdeal.nD, m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (c : Dev Cert.KernelIdeal.nD) :
    Cert.ReferenceIdeal.Value.out_main_v25 (Cert.ReferenceIdeal.Value.STEP^[64] (entryContents Cert.ReferenceIdeal.Value.preI m' c)) = KernelIdeal.outPrefix (KernelIdeal.blockIn m c)
      ∧ Cert.ReferenceIdeal.Value.out_main_v26 (Cert.ReferenceIdeal.Value.STEP^[64] (entryContents Cert.ReferenceIdeal.Value.preI m' c)) = KernelIdeal.outScore (KernelIdeal.blockIn m c) := by
  have hrow : ∀ b : Fin 64, ∃ n : ℕ → Fin 100 → Fin 9700,
      (∀ i : Fin 64, KernelIdeal.outPrefix (KernelIdeal.blockIn m c) (ix2 b i) = pre n 64 0 i.val)
      ∧ KernelIdeal.outScore (KernelIdeal.blockIn m c) (ix2 b 0) = tot (ms (KernelIdeal.lpB b (KernelIdeal.blockIn m c)) n 64) 0
      ∧ ReferenceIdeal.At (Cert.ReferenceIdeal.Value.STEP^[64] (entryContents Cert.ReferenceIdeal.Value.preI m' c)) b (KernelIdeal.lpB b (KernelIdeal.blockIn m c)) n 64 := by
    intro b
    have hlp : ∀ t k, KernelIdeal.lpB b (KernelIdeal.blockIn m c) t k ≠ ⊥ := fun t k => by
      rw [lpB_eq]
      exact logPost_ne_bot _ _ _ _ (nonneg_of_pre _ (hpre c) _)
    obtain ⟨n, hG, hA⟩ := ReferenceIdeal.search (entryContents Cert.ReferenceIdeal.Value.preI m' c) b _ hlp (entry_at m' b _ c fun u k => by
      rw [lpB_eq, hm c]
      exact congrArg (fun u => logPost _ b u k) (Fin.ext (Nat.min_eq_left (by have := u.isLt; omega))))
    exact ⟨n, fun i => KernelIdeal.prefix_row b _ hlp hG i, KernelIdeal.score_row b _ hlp hG, hA⟩
  constructor
  · funext j
    obtain ⟨n, hP, -, hA⟩ := hrow (j 0)
    have hj : j = ix2 (j 0) (j 1) := by
      funext a
      match a with
      | ⟨0, _⟩ => rfl
      | ⟨1, _⟩ => rfl
    rw [hj]
    exact (out_prefix (j 0) _ (j 1)).trans ((hA.hp 0 (j 1)).trans (hP (j 1)).symm)
  · funext j
    obtain ⟨n, -, hS, hA⟩ := hrow (j 0)
    have hj : j = ix2 (j 0) 0 := by
      funext a
      match a with
      | ⟨0, _⟩ => rfl
      | ⟨1, _⟩ => exact Subsingleton.elim (α := Fin 1) _ _
    rw [hj]
    refine (out_score (j 0) _).trans (Eq.trans ?_ hS.symm)
    rw [hA.hb, hA.hn]
    rfl

/-- The claim: from the same posteriors, none negative, both programs leave the kernel's prefixes and scores. -/
theorem algebraic [Cert.KernelIdeal.Facts] [Cert.ReferenceIdeal.Facts] : Cert.algebraic_KernelIdeal_ReferenceIdeal_pre_nonneg := by
  intro m g m' g' hpre hm
  refine ⟨fun c => KernelIdeal.outPrefix (KernelIdeal.blockIn m c), fun c => KernelIdeal.outScore (KernelIdeal.blockIn m c), run_kernel m g, ?_⟩
  exact (θ_run _ _ _).mono (fun _ h c => ⟨(h c).1.trans (results_eq m m' hpre hm c).1, (h c).2.1.trans (results_eq m m' hpre hm c).2, (h c).2.2⟩)
    (Cert.ReferenceIdeal.Value.run m' g')

end Cert.Proof

end
-- ==== Proof.lean ====
module

public import proofs.«01_k».proof.Defs
public import proofs.«01_k».proof.Proof.Frames
public import proofs.«01_k».proof.Proof.Value
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, pre_facts,
    frame_kernel, frame_kernelIdeal, @frame_kernelIdeal_nonneg pre_facts, frame_reference,
    @frame_reference_nonneg pre_facts, preserves, @algebraic pre_facts Cert.KernelIdeal.Gen.facts Cert.ReferenceIdeal.Gen.facts⟩

end Cert.Proof

end
